-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mixing [hPre_finite_mixing : Cert.Pre_finite_mixing.Facts] (m : (ℓ : Loc Cert.MixIdeal.nD Cert.MixIdeal.τ Cert.MixIdeal.sig) → Buf (Elt Ideal) ℓ) : Prop :=
  ∀ c : Dev Cert.MixIdeal.nD,
    (Cert.Pre_finite_mixing.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mixing [hPre_finite_mixing : Cert.Pre_finite_mixing.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mixing.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))) = (fun _ => 1#1)

def Pre_Ffn0 (m : (ℓ : Loc Cert.Ffn0.nD Cert.Ffn0.τ Cert.Ffn0.sig) → Buf (Elt Bits) ℓ) : Prop :=
  True

def Pre_Ffn0Ideal (m : (ℓ : Loc Cert.Ffn0Ideal.nD Cert.Ffn0Ideal.τ Cert.Ffn0Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixIdeal_pre_finite_mixing [hMixIdeal : Cert.MixIdeal.Facts] [hPre_finite_mixing : Cert.Pre_finite_mixing.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mixing m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixRefIdeal_pre_finite_mixing [hMixRefIdeal : Cert.MixRefIdeal.Facts] [hPre_finite_mixing : Cert.Pre_finite_mixing.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mixing m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Ffn0 [hFfn0 : Cert.Ffn0.Facts] : Prop :=
  ∀ (m : (ℓ : Loc Cert.Ffn0.nD Cert.Ffn0.τ Cert.Ffn0.sig) → Buf (Elt Bits) ℓ) (g : Dev Cert.Ffn0.nD → PrngReg), Pre_Ffn0 m →
    θ_run (Cert.Ffn0.defs (F := Bits)) (onTc (τ := Cert.Ffn0.τ) (Cert.Ffn0.main (F := Bits))) ⟨m, fun _ => 0, g⟩ (fun r => (∀ c : Dev Cert.Ffn0.nD,
      r.2.mem ((c.tc : Thread Cert.Ffn0.nD Cert.Ffn0.τ).loc Cert.Ffn0.main_arg0) = m ((c.tc : Thread Cert.Ffn0.nD Cert.Ffn0.τ).loc Cert.Ffn0.main_arg0)
      ∧ r.2.mem ((c.tc : Thread Cert.Ffn0.nD Cert.Ffn0.τ).loc Cert.Ffn0.main_arg1) = m ((c.tc : Thread Cert.Ffn0.nD Cert.Ffn0.τ).loc Cert.Ffn0.main_arg1)
      ∧ r.2.mem ((c.tc : Thread Cert.Ffn0.nD Cert.Ffn0.τ).loc Cert.Ffn0.main_arg2) = m ((c.tc : Thread Cert.Ffn0.nD Cert.Ffn0.τ).loc Cert.Ffn0.main_arg2)
      ∧ r.2.mem ((c.tc : Thread Cert.Ffn0.nD Cert.Ffn0.τ).loc Cert.Ffn0.main_arg3) = m ((c.tc : Thread Cert.Ffn0.nD Cert.Ffn0.τ).loc Cert.Ffn0.main_arg3)
      ∧ r.2.mem ((c.tc : Thread Cert.Ffn0.nD Cert.Ffn0.τ).loc Cert.Ffn0.main_arg4) = m ((c.tc : Thread Cert.Ffn0.nD Cert.Ffn0.τ).loc Cert.Ffn0.main_arg4)
      ∧ r.2.mem ((c.tc : Thread Cert.Ffn0.nD Cert.Ffn0.τ).loc Cert.Ffn0.main_arg5) = m ((c.tc : Thread Cert.Ffn0.nD Cert.Ffn0.τ).loc Cert.Ffn0.main_arg5)
      ∧ r.2.mem ((c.tc : Thread Cert.Ffn0.nD Cert.Ffn0.τ).loc Cert.Ffn0.main_arg6) = m ((c.tc : Thread Cert.Ffn0.nD Cert.Ffn0.τ).loc Cert.Ffn0.main_arg6))
      ∧ r.2.sem = fun _ => 0)

def quiescent_Ffn0Ideal [hFfn0Ideal : Cert.Ffn0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg), Pre_Ffn0Ideal m →
    θ_run (Cert.Ffn0Ideal.defs (F := Ideal)) (onTc (τ := Cert.Ffn0Ideal.τ) (Cert.Ffn0Ideal.main (F := Ideal))) ⟨m, fun _ => 0, g⟩ (fun r => (∀ c : Dev Cert.Ffn0Ideal.nD,
      r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
      ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
      ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
      ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
      ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
      ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
      ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6))
      ∧ r.2.sem = fun _ => 0)

def preserves_Kernel_KernelIdeal : Prop :=
  True

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v63) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Mix_MixIdeal : Prop :=
  True

def algebraic_MixIdeal_MixRefIdeal_pre_finite_mixing [hMixIdeal : Cert.MixIdeal.Facts] [hMixRefIdeal : Cert.MixRefIdeal.Facts] [hPre_finite_mixing : Cert.Pre_finite_mixing.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mixing m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v15)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v15) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v198) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Ffn0_Ffn0Ideal : Prop :=
  True

def algebraic_Ffn0Ideal_FfnRefIdeal [hFfn0Ideal : Cert.Ffn0Ideal.Facts] [hFfnRefIdeal : Cert.FfnRefIdeal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_Ffn0Ideal m →
    (∀ c : Dev Cert.Ffn0Ideal.nD,
      m' ((c.tc : Thread Cert.FfnRefIdeal.nD Cert.FfnRefIdeal.τ).loc Cert.FfnRefIdeal.main_arg0) = m ((c.tc : Thread Cert.Ffn0Ideal.nD Cert.Ffn0Ideal.τ).loc Cert.Ffn0Ideal.main_arg0)
      ∧ m' ((c.tc : Thread Cert.FfnRefIdeal.nD Cert.FfnRefIdeal.τ).loc Cert.FfnRefIdeal.main_arg1) = m ((c.tc : Thread Cert.Ffn0Ideal.nD Cert.Ffn0Ideal.τ).loc Cert.Ffn0Ideal.main_arg1)
      ∧ m' ((c.tc : Thread Cert.FfnRefIdeal.nD Cert.FfnRefIdeal.τ).loc Cert.FfnRefIdeal.main_arg2) = m ((c.tc : Thread Cert.Ffn0Ideal.nD Cert.Ffn0Ideal.τ).loc Cert.Ffn0Ideal.main_arg2)
      ∧ m' ((c.tc : Thread Cert.FfnRefIdeal.nD Cert.FfnRefIdeal.τ).loc Cert.FfnRefIdeal.main_arg3) = m ((c.tc : Thread Cert.Ffn0Ideal.nD Cert.Ffn0Ideal.τ).loc Cert.Ffn0Ideal.main_arg3)
      ∧ m' ((c.tc : Thread Cert.FfnRefIdeal.nD Cert.FfnRefIdeal.τ).loc Cert.FfnRefIdeal.main_arg4) = m ((c.tc : Thread Cert.Ffn0Ideal.nD Cert.Ffn0Ideal.τ).loc Cert.Ffn0Ideal.main_arg4)
      ∧ m' ((c.tc : Thread Cert.FfnRefIdeal.nD Cert.FfnRefIdeal.τ).loc Cert.FfnRefIdeal.main_arg5) = m ((c.tc : Thread Cert.Ffn0Ideal.nD Cert.Ffn0Ideal.τ).loc Cert.Ffn0Ideal.main_arg5)
      ∧ m' ((c.tc : Thread Cert.FfnRefIdeal.nD Cert.FfnRefIdeal.τ).loc Cert.FfnRefIdeal.main_arg6) = m ((c.tc : Thread Cert.Ffn0Ideal.nD Cert.Ffn0Ideal.τ).loc Cert.Ffn0Ideal.main_arg6)) →
    ∃ (v0 : (c : Dev Cert.Ffn0Ideal.nD) → Buf (Elt Ideal) ((c.tc : Thread Cert.Ffn0Ideal.nD Cert.Ffn0Ideal.τ).loc Cert.Ffn0Ideal.main_v5)),
      θ_run (Cert.Ffn0Ideal.defs (F := Ideal)) (onTc (τ := Cert.Ffn0Ideal.τ) (Cert.Ffn0Ideal.main (F := Ideal))) ⟨m, fun _ => 0, g⟩ (fun r => ∀ c : Dev Cert.Ffn0Ideal.nD,
          r.2.mem ((c.tc : Thread Cert.Ffn0Ideal.nD Cert.Ffn0Ideal.τ).loc Cert.Ffn0Ideal.main_v5) = v0 c
          ∧ r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
          ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
          ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
          ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
          ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
          ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
          ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v63) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def Claim : Prop :=
  ∃ (hKernel : Cert.Kernel.Facts) (hKernelIdeal : Cert.KernelIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hFfn0 : Cert.Ffn0.Facts) (hFfn0Ideal : Cert.Ffn0Ideal.Facts) (hPre_finite_mixing : Cert.Pre_finite_mixing.Facts),
    quiescent_Kernel (hKernel := hKernel)
    ∧ quiescent_KernelIdeal (hKernelIdeal := hKernelIdeal)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixIdeal_pre_finite_mixing (hMixIdeal := hMixIdeal) (hPre_finite_mixing := hPre_finite_mixing)
    ∧ quiescent_MixRefIdeal (hMixRefIdeal := hMixRefIdeal)
    ∧ quiescent_MixRefIdeal_pre_finite_mixing (hMixRefIdeal := hMixRefIdeal) (hPre_finite_mixing := hPre_finite_mixing)
    ∧ quiescent_Ffn0 (hFfn0 := hFfn0)
    ∧ quiescent_Ffn0Ideal (hFfn0Ideal := hFfn0Ideal)
    ∧ preserves_Kernel_KernelIdeal
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal_pre_finite_mixing (hMixIdeal := hMixIdeal) (hMixRefIdeal := hMixRefIdeal) (hPre_finite_mixing := hPre_finite_mixing)
    ∧ preserves_Ffn0_Ffn0Ideal
    ∧ algebraic_Ffn0Ideal_FfnRefIdeal (hFfn0Ideal := hFfn0Ideal) (hFfnRefIdeal := hFfnRefIdeal)
-- ==== Pre_finite_mixing.lean ====
abbrev S4x4096x1024 : Shape := ⟨3, ![4, 4096, 1024]⟩
abbrev S1024 : Shape := ⟨1, ![1024]⟩
abbrev S1024x2064 : Shape := ⟨2, ![1024, 2064]⟩
abbrev S4x128x128 : Shape := ⟨3, ![4, 128, 128]⟩
abbrev S512 : Shape := ⟨1, ![512]⟩
abbrev S16x256 : Shape := ⟨2, ![16, 256]⟩
abbrev S256 : Shape := ⟨1, ![256]⟩
abbrev S128 : Shape := ⟨1, ![128]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2064 : S_.BroadcastsInDim S1024x2064 (![] : Fin 0 → Fin S1024x2064.rank)
  reducesTo_S1024x2064_S_d0_1 : S1024x2064.ReducesTo [0, 1] S_
  bcast_S_S16x256 : S_.BroadcastsInDim S16x256 (![] : Fin 0 → Fin S16x256.rank)
  reducesTo_S16x256_S_d0_1 : S16x256.ReducesTo [0, 1] S_

variable [Facts]

def fn {F : FTy → Type} [FloatOps F] (main_arg0 : FVec F S4x4096x1024 .f32) (main_arg1 : FVec F S1024 .f32) (main_arg2 : FVec F S1024x2064 .f32) (main_arg3 : FVec F S4x128x128 .f32) (main_arg4 : FVec F S512 .f32) (main_arg5 : FVec F S16x256 .f32) (main_arg6 : FVec F S256 .f32) (main_arg7 : FVec F S128 .f32) (main_arg8 : FVec F S1024x1024 .f32) (main_arg9 : FVec F S1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2064 .f32 := Host.absf main_arg2
  let main_cst_0 : FVec F S_ .f32 := constant S_ .f32 0x7F800000#32
  let main_v5 : FVec F S1024x2064 .f32 := broadcastInDim S1024x2064 ![] bcast_S_S1024x2064 main_cst_0
  let main_v6 : IVec S1024x2064 1 := cmpf .olt main_v4 main_v5
  let main_c_1 : IVec S_ 1 := constantI S_ 1 1#1
  let main_v7 : IVec S_ 1 := (fun x v => Host.reduce IntOp.andi x v reducesTo_S1024x2064_S_d0_1 h_S_) main_v6 main_c_1
  let main_v8 : IVec S_ 1 := andi main_v3 main_v7
  let main_v9 : FVec F S16x256 .f32 := Host.absf main_arg5
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  main_v13
-- ==== Kernel.lean ====
abbrev S4x4096x1024 : Shape := ⟨3, ![4, 4096, 1024]⟩
abbrev S1024 : Shape := ⟨1, ![1024]⟩
abbrev S1024x2064 : Shape := ⟨2, ![1024, 2064]⟩
abbrev S4x128x128 : Shape := ⟨3, ![4, 128, 128]⟩
abbrev S512 : Shape := ⟨1, ![512]⟩
abbrev S16x256 : Shape := ⟨2, ![16, 256]⟩
abbrev S256 : Shape := ⟨1, ![256]⟩
abbrev S128 : Shape := ⟨1, ![128]⟩
abbrev S1024x1024 : Shape := ⟨2, ![1024, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S2064x1024 : Shape := ⟨2, ![2064, 1024]⟩
abbrev S1x512 : Shape := ⟨2, ![1, 512]⟩
abbrev S1x256 : Shape := ⟨2, ![1, 256]⟩
abbrev S1x128 : Shape := ⟨2, ![1, 128]⟩
abbrev S1x2816 : Shape := ⟨2, ![1, 2816]⟩
abbrev S16384x1024 : Shape := ⟨2, ![16384, 1024]⟩
abbrev S512x1024 : Shape := ⟨2, ![512, 1024]⟩
abbrev S1024x1664 : Shape := ⟨2, ![1024, 1664]⟩
abbrev S1024x512 : Shape := ⟨2, ![1024, 512]⟩
abbrev S2x256x256 : Shape := ⟨3, ![2, 256, 256]⟩
abbrev S128x256 : Shape := ⟨2, ![128, 256]⟩
abbrev S256x1024 : Shape := ⟨2, ![256, 1024]⟩
abbrev S2x256x2176 : Shape := ⟨3, ![2, 256, 2176]⟩
abbrev S16x512 : Shape := ⟨2, ![16, 512]⟩
abbrev S256x512 : Shape := ⟨2, ![256, 512]⟩
abbrev S2x256x128 : Shape := ⟨3, ![2, 256, 128]⟩
abbrev S2x256x1024 : Shape := ⟨3, ![2, 256, 1024]⟩
abbrev S8x2816 : Shape := ⟨2, ![8, 2816]⟩
abbrev S256x2816 : Shape := ⟨2, ![256, 2816]⟩
abbrev S3x128x1024 : Shape := ⟨3, ![3, 128, 1024]⟩
abbrev S3x32x5632 : Shape := ⟨3, ![3, 32, 5632]⟩
abbrev S3 : Shape := ⟨1, ![3]⟩
abbrev S1 : Shape := ⟨1, ![1]⟩
abbrev S_ : Shape := ⟨0, ![]⟩
abbrev S1x128x1024 : Shape := ⟨3, ![1, 128, 1024]⟩
abbrev S128x1024 : Shape := ⟨2, ![128, 1024]⟩
abbrev S1024x128 : Shape := ⟨2, ![1024, 128]⟩
abbrev S1x32x5632 : Shape := ⟨3, ![1, 32, 5632]⟩
abbrev S32x5632 : Shape := ⟨2, ![32, 5632]⟩
abbrev S1x128x128 : Shape := ⟨3, ![1, 128, 128]⟩
abbrev S128x128 : Shape := ⟨2, ![128, 128]⟩
abbrev S256x1 : Shape := ⟨2, ![256, 1]⟩
abbrev S1x256x2176 : Shape := ⟨3, ![1, 256, 2176]⟩
abbrev S256x2176 : Shape := ⟨2, ![256, 2176]⟩
abbrev S1024x640 : Shape := ⟨2, ![1024, 640]⟩
abbrev S256x640 : Shape := ⟨2, ![256, 640]⟩
abbrev S256x128 : Shape := ⟨2, ![256, 128]⟩
abbrev S256x256 : Shape := ⟨2, ![256, 256]⟩
abbrev S16x1 : Shape := ⟨2, ![16, 1]⟩
abbrev S16x128 : Shape := ⟨2, ![16, 128]⟩
abbrev S272x128 : Shape := ⟨2, ![272, 128]⟩
abbrev S240x128 : Shape := ⟨2, ![240, 128]⟩
abbrev S1x256x128 : Shape := ⟨3, ![1, 256, 128]⟩
abbrev S1x256x256 : Shape := ⟨3, ![1, 256, 256]⟩
abbrev S1x256x1024 : Shape := ⟨3, ![1, 256, 1024]⟩
abbrev S32x256 : Shape := ⟨2, ![32, 256]⟩
abbrev S64x256 : Shape := ⟨2, ![64, 256]⟩
abbrev S128x512 : Shape := ⟨2, ![128, 512]⟩
abbrev S512x256 : Shape := ⟨2, ![512, 256]⟩
abbrev S128x1 : Shape := ⟨2, ![128, 1]⟩
abbrev S8x256 : Shape := ⟨2, ![8, 256]⟩
abbrev S1024x256 : Shape := ⟨2, ![1024, 256]⟩
abbrev S248x256 : Shape := ⟨2, ![248, 256]⟩
abbrev S3x256 : Shape := ⟨2, ![3, 256]⟩

abbrev nBuf : Space → Nat
  | .hbm => 28
  | .vmem => 37
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2064, .f32⟩
  | .hbm, ⟨3, _⟩ => ⟨S4x128x128, .f32⟩
  | .hbm, ⟨4, _⟩ => ⟨S512, .f32⟩
  | .hbm, ⟨5, _⟩ => ⟨S16x256, .f32⟩
  | .hbm, ⟨6, _⟩ => ⟨S256, .f32⟩
  | .hbm, ⟨7, _⟩ => ⟨S128, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x5632, .f32⟩
  | .hbm, ⟨12, _⟩ => ⟨S3x2816, .f32⟩
  | .hbm, ⟨13, _⟩ => ⟨S2816, .f32⟩
  | .hbm, ⟨14, _⟩ => ⟨S2816x1024, .f32⟩
  | .hbm, ⟨15, _⟩ => ⟨S1024, .f32⟩
  | .hbm, ⟨16, _⟩ => ⟨S1x1024, .f32⟩
  | .hbm, ⟨17, _⟩ => ⟨S2064x1024, .f32⟩
  | .hbm, ⟨18, _⟩ => ⟨S1x512, .f32⟩
  | .hbm, ⟨19, _⟩ => ⟨S1x256, .f32⟩
  | .hbm, ⟨20, _⟩ => ⟨S1x128, .f32⟩
  | .hbm, ⟨21, _⟩ => ⟨S1x1024, .f32⟩
  | .hbm, ⟨22, _⟩ => ⟨S1x1024, .f32⟩
  | .hbm, ⟨23, _⟩ => ⟨S1x2816, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x128x128, .f32⟩
  | .local _ .vmem, ⟨6, _⟩ => ⟨S1x512, .f32⟩
  | .local _ .vmem, ⟨7, _⟩ => ⟨S16x256, .f32⟩
  | .local _ .vmem, ⟨8, _⟩ => ⟨S1x256, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S3x2816, .f32⟩
  | .local _ .vmem, ⟨13, _⟩ => ⟨S1x2816, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S1024x1664, .bf16⟩
  | .local _ .vmem, ⟨18, _⟩ => ⟨S1024x512, .bf16⟩
  | .local _ .vmem, ⟨19, _⟩ => ⟨S1024x1024, .bf16⟩
  | .local _ .vmem, ⟨20, _⟩ => ⟨S1024x5632, .bf16⟩
  | .local _ .vmem, ⟨21, _⟩ => ⟨S2816x1024, .bf16⟩
  | .local _ .vmem, ⟨22, _⟩ => ⟨S2x256x256, .bf16⟩
  | .local _ .vmem, ⟨23, _⟩ => ⟨S128x256, .bf16⟩
  | .local _ .vmem, ⟨24, _⟩ => ⟨S256x1024, .bf16⟩
  | .local _ .vmem, ⟨25, _⟩ => ⟨S2x256x2176, .f32⟩
  | .local _ .vmem, ⟨26, _⟩ => ⟨S16x512, .f32⟩
  | .local _ .vmem, ⟨27, _⟩ => ⟨S256x512, .bf16⟩
  | .local _ .vmem, ⟨28, _⟩ => ⟨S2x256x128, .f32⟩
  | .local _ .vmem, ⟨29, _⟩ => ⟨S2x256x1024, .bf16⟩
  | .local _ .vmem, ⟨30, _⟩ => ⟨S256x1024, .f32⟩
  | .local _ .vmem, ⟨31, _⟩ => ⟨S256x1024, .bf16⟩
  | .local _ .vmem, ⟨32, _⟩ => ⟨S8x2816, .f32⟩
  | .local _ .vmem, ⟨33, _⟩ => ⟨S256x2816, .bf16⟩
  | .local _ .vmem, ⟨34, _⟩ => ⟨S3x128x1024, .f32⟩
  | .local _ .vmem, ⟨35, _⟩ => ⟨S3x128x1024, .f32⟩
  | .local _ .vmem, ⟨36, _⟩ => ⟨S3x32x5632, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_scratch12 : Ref sig .tc := ⟨.vmem, 29, rfl⟩
abbrev cc0_scratch13 : Ref sig .tc := ⟨.vmem, 30, rfl⟩
abbrev cc0_scratch14 : Ref sig .tc := ⟨.vmem, 31, rfl⟩
abbrev cc0_scratch15 : Ref sig .tc := ⟨.vmem, 32, rfl⟩
abbrev cc0_scratch16 : Ref sig .tc := ⟨.vmem, 33, rfl⟩
abbrev cc0_scoped0 : Ref sig .tc := ⟨.vmem, 34, rfl⟩
abbrev cc0_scoped1 : Ref sig .tc := ⟨.vmem, 35, rfl⟩
abbrev cc0_scoped2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c1_i32 : BitVec 32 := 1#32
  let v3 : BitVec 1 := Scalar.cmpi .sge arg0 c1_i32
  let c32_i32 : BitVec 32 := 32#32
  let v4 : BitVec 1 := Scalar.cmpi .slt arg0 c32_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond8 (i : grid0.Coords) : BitVec 1 :=
  let arg0 : BitVec 32 := BitVec.ofNat 32 (i 0).val
  let c32_i32_2 : BitVec 32 := 32#32
  let v8 : BitVec 1 := Scalar.cmpi .eq arg0 c32_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Ffn.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x512x1024 : Shape := ⟨3, ![1, 512, 1024]⟩
abbrev S8x2816 : Shape := ⟨2, ![8, 2816]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S8x256 : Shape := ⟨2, ![8, 256]⟩
abbrev S1024x256 : Shape := ⟨2, ![1024, 256]⟩
abbrev S512x256 : Shape := ⟨2, ![512, 256]⟩
abbrev S1x256 : Shape := ⟨2, ![1, 256]⟩
abbrev S504x256 : Shape := ⟨2, ![504, 256]⟩
abbrev S3x256 : Shape := ⟨2, ![3, 256]⟩

abbrev nBuf : Space → Nat
  | .hbm => 13
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S1x1024, .f32⟩
  | .hbm, ⟨12, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S8x2816, .f32⟩
  | .local _ .vmem, ⟨11, _⟩ => ⟨S512x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩

abbrev nBuf : Space → Nat
  | .hbm => 82
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x5632, .f32⟩
  | .hbm, ⟨24, _⟩ => ⟨S4x4096x2816, .f32⟩
  | .hbm, ⟨25, _⟩ => ⟨S4x4096x2816, .f32⟩
  | .hbm, ⟨26, _⟩ => ⟨S_, .i32⟩
  | .hbm, ⟨27, _⟩ => ⟨S_, .f32⟩
  | .hbm, ⟨28, _⟩ => ⟨S4x4098x2816, .f32⟩
  | .hbm, ⟨29, _⟩ => ⟨S4x4096x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S4x4096x2816, .f32⟩
  | .hbm, ⟨34, _⟩ => ⟨S4x4096x2816, .f32⟩
  | .hbm, ⟨35, _⟩ => ⟨S4x4096x2816, .f32⟩
  | .hbm, ⟨36, _⟩ => ⟨S1x2816, .f32⟩
  | .hbm, ⟨37, _⟩ => ⟨S2816, .f32⟩
  | .hbm, ⟨38, _⟩ => ⟨S1x1x2816, .f32⟩
  | .hbm, ⟨39, _⟩ => ⟨S4x4096x2816, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S1x2816, .f32⟩
  | .hbm, ⟨44, _⟩ => ⟨S2816, .f32⟩
  | .hbm, ⟨45, _⟩ => ⟨S1x1x2816, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S1x1x2816, .f32⟩
  | .hbm, ⟨50, _⟩ => ⟨S4x4096x2816, .f32⟩
  | .hbm, ⟨51, _⟩ => ⟨S4x4096x2816, .f32⟩
  | .hbm, ⟨52, _⟩ => ⟨S_, .f32⟩
  | .hbm, ⟨53, _⟩ => ⟨S4x4096x2816, .f32⟩
  | .hbm, ⟨54, _⟩ => ⟨S4x4096x2816, .f32⟩
  | .hbm, ⟨55, _⟩ => ⟨S_, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S_, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S4x4096x1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | .hbm, ⟨81, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Mix.lean ====
abbrev S4x4096x1024 : Shape := ⟨3, ![4, 4096, 1024]⟩
abbrev S1024 : Shape := ⟨1, ![1024]⟩
abbrev S1024x2064 : Shape := ⟨2, ![1024, 2064]⟩
abbrev S4x128x128 : Shape := ⟨3, ![4, 128, 128]⟩
abbrev S512 : Shape := ⟨1, ![512]⟩
abbrev S16x256 : Shape := ⟨2, ![16, 256]⟩
abbrev S256 : Shape := ⟨1, ![256]⟩
abbrev S128 : Shape := ⟨1, ![128]⟩
abbrev S1024x1024 : Shape := ⟨2, ![1024, 1024]⟩
abbrev S_ : Shape := ⟨0, ![]⟩
abbrev S128x256 : Shape := ⟨2, ![128, 256]⟩
abbrev S1x1024 : Shape := ⟨2, ![1, 1024]⟩
abbrev S1024x16 : Shape := ⟨2, ![1024, 16]⟩
abbrev S1024x128 : Shape := ⟨2, ![1024, 128]⟩
abbrev S1024x1536 : Shape := ⟨2, ![1024, 1536]⟩
abbrev S1024x512 : Shape := ⟨2, ![1024, 512]⟩
abbrev S1024x2176 : Shape := ⟨2, ![1024, 2176]⟩
abbrev S1x512 : Shape := ⟨2, ![1, 512]⟩
abbrev S1x256 : Shape := ⟨2, ![1, 256]⟩
abbrev S1x128 : Shape := ⟨2, ![1, 128]⟩
abbrev S1x256x1024 : Shape := ⟨3, ![1, 256, 1024]⟩
abbrev S256x2176 : Shape := ⟨2, ![256, 2176]⟩
abbrev S272x512 : Shape := ⟨2, ![272, 512]⟩
abbrev S512x256 : Shape := ⟨2, ![512, 256]⟩
abbrev S256x1024 : Shape := ⟨2, ![256, 1024]⟩
abbrev S16x512 : Shape := ⟨2, ![16, 512]⟩
abbrev S256x1 : Shape := ⟨2, ![256, 1]⟩
abbrev S256x512 : Shape := ⟨2, ![256, 512]⟩
abbrev S256x128 : Shape := ⟨2, ![256, 128]⟩
abbrev S1x128x128 : Shape := ⟨3, ![1, 128, 128]⟩
abbrev S128x128 : Shape := ⟨2, ![128, 128]⟩
abbrev S128x512 : Shape := ⟨2, ![128, 512]⟩
abbrev S512x128 : Shape := ⟨2, ![512, 128]⟩
abbrev S128x1 : Shape := ⟨2, ![128, 1]⟩

abbrev nBuf : Space → Nat
  | .hbm => 30
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2064, .f32⟩
  | .hbm, ⟨3, _⟩ => ⟨S4x128x128, .f32⟩
  | .hbm, ⟨4, _⟩ => ⟨S512, .f32⟩
  | .hbm, ⟨5, _⟩ => ⟨S16x256, .f32⟩
  | .hbm, ⟨6, _⟩ => ⟨S256, .f32⟩
  | .hbm, ⟨7, _⟩ => ⟨S128, .f32⟩
  | .hbm, ⟨8, _⟩ => ⟨S1024x1024, .f32⟩
  | .hbm, ⟨9, _⟩ => ⟨S1024, .f32⟩
  | .hbm, ⟨10, _⟩ => ⟨S_, .i32⟩
  | .hbm, ⟨11, _⟩ => ⟨S_, .f32⟩
  | .hbm, ⟨12, _⟩ => ⟨S128x256, .f32⟩
  | .hbm, ⟨13, _⟩ => ⟨S128x256, .bf16⟩
  | .hbm, ⟨14, _⟩ => ⟨S1x1024, .f32⟩
  | .hbm, ⟨15, _⟩ => ⟨S1024x16, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x1536, .f32⟩
  | .hbm, ⟨20, _⟩ => ⟨S1024x512, .f32⟩
  | .hbm, ⟨21, _⟩ => ⟨S1024x2176, .f32⟩
  | .hbm, ⟨22, _⟩ => ⟨S1024x2176, .bf16⟩
  | .hbm, ⟨23, _⟩ => ⟨S4x128x128, .bf16⟩
  | .hbm, ⟨24, _⟩ => ⟨S1x512, .f32⟩
  | .hbm, ⟨25, _⟩ => ⟨S1x256, .f32⟩
  | .hbm, ⟨26, _⟩ => ⟨S1x128, .f32⟩
  | .hbm, ⟨27, _⟩ => ⟨S1024x1024, .bf16⟩
  | .hbm, ⟨28, _⟩ => ⟨S1x1024, .f32⟩
  | .hbm, ⟨29, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2176, .bf16⟩
  | .local _ .vmem, ⟨4, _⟩ => ⟨S4x128x128, .bf16⟩
  | .local _ .vmem, ⟨5, _⟩ => ⟨S1x512, .f32⟩
  | .local _ .vmem, ⟨6, _⟩ => ⟨S128x256, .bf16⟩
  | .local _ .vmem, ⟨7, _⟩ => ⟨S1x256, .f32⟩
  | .local _ .vmem, ⟨8, _⟩ => ⟨S1x128, .f32⟩
  | .local _ .vmem, ⟨9, _⟩ => ⟨S1024x1024, .bf16⟩
  | .local _ .vmem, ⟨10, _⟩ => ⟨S1x1024, .f32⟩
  | .local _ .vmem, ⟨11, _⟩ => ⟨S1x256x1024, .f32⟩
  | .local _ .vmem, ⟨12, _⟩ => ⟨S1x256x1024, .f32⟩
  | .local _ .vmem, ⟨13, _⟩ => ⟨S256x2176, .f32⟩
  | .local _ .vmem, ⟨14, _⟩ => ⟨S272x512, .f32⟩
  | .local _ .vmem, ⟨15, _⟩ => ⟨S512x256, .f32⟩
  | .local _ .vmem, ⟨16, _⟩ => ⟨S256x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixRefIdeal.lean ====
abbrev S4x4096x1024 : Shape := ⟨3, ![4, 4096, 1024]⟩
abbrev S1024 : Shape := ⟨1, ![1024]⟩
abbrev S1024x2064 : Shape := ⟨2, ![1024, 2064]⟩
abbrev S4x128x128 : Shape := ⟨3, ![4, 128, 128]⟩
abbrev S512 : Shape := ⟨1, ![512]⟩
abbrev S16x256 : Shape := ⟨2, ![16, 256]⟩
abbrev S256 : Shape := ⟨1, ![256]⟩
abbrev S128 : Shape := ⟨1, ![128]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2064 : Shape := ⟨3, ![4, 4096, 2064]⟩
abbrev S4x4096x512 : Shape := ⟨3, ![4, 4096, 512]⟩
abbrev S4x4096x256 : Shape := ⟨3, ![4, 4096, 256]⟩
abbrev S4x4096x16 : Shape := ⟨3, ![4, 4096, 16]⟩
abbrev S1x1x256 : Shape := ⟨3, ![1, 1, 256]⟩
abbrev S4x4096x4x64 : Shape := ⟨4, ![4, 4096, 4, 64]⟩
abbrev S4x4096x4x128 : Shape := ⟨4, ![4, 4096, 4, 128]⟩
abbrev S4x4096x1x4x64 : Shape := ⟨5, ![4, 4096, 1, 4, 64]⟩
abbrev S4x1x4096x4x64 : Shape := ⟨5, ![4, 1, 4096, 4, 64]⟩
abbrev S4x4096x4096x4x64 : Shape := ⟨5, ![4, 4096, 4096, 4, 64]⟩
abbrev S4x4096x4096x4 : Shape := ⟨4, ![4, 4096, 4096, 4]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096x1 : Shape := ⟨4, ![1, 4096, 4096, 1]⟩
abbrev S4x4096x4096x4x1 : Shape := ⟨5, ![4, 4096, 4096, 4, 1]⟩
abbrev S4x1x4096x4x128 : Shape := ⟨5, ![4, 1, 4096, 4, 128]⟩
abbrev S4x4096x4096x4x128 : Shape := ⟨5, ![4, 4096, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4112x512 : Shape := ⟨3, ![4, 4112, 512]⟩
abbrev S4x4096x128 : Shape := ⟨3, ![4, 4096, 128]⟩
abbrev S1x4096x1 : Shape := ⟨3, ![1, 4096, 1]⟩
abbrev S1x128x128 : Shape := ⟨3, ![1, 128, 128]⟩
abbrev S128x128 : Shape := ⟨2, ![128, 128]⟩
abbrev S1x1x512 : Shape := ⟨3, ![1, 1, 512]⟩

abbrev nBuf : Space → Nat
  | .hbm => 258
  | .vmem => 0
  | .smem => 0
  | _ => 0

abbrev hbmTy0_0 (i : Nat) : BufTy := match i % 128 with
  | 0 => ⟨S4x4096x1024, .f32⟩
  | 1 => ⟨S1024, .f32⟩
  | 2 => ⟨S1024x2064, .f32⟩
  | 3 => ⟨S4x128x128, .f32⟩
  | 4 => ⟨S512, .f32⟩
  | 5 => ⟨S16x256, .f32⟩
  | 6 => ⟨S256, .f32⟩
  | 7 => ⟨S128, .f32⟩
  | 8 => ⟨S1024x1024, .f32⟩
  | 9 => ⟨S1024, .f32⟩
  | 10 => ⟨S4x4096x1024, .f32⟩
  | 11 => ⟨S_, .f32⟩
  | 12 => ⟨S4x4096, .f32⟩
  | 13 => ⟨S4x4096x1, .f32⟩
  | 14 => ⟨S_, .f32⟩
  | 15 => ⟨S4x4096x1, .f32⟩
  | 16 => ⟨S4x4096x1, .f32⟩
  | 17 => ⟨S_, .f32⟩
  | 18 => ⟨S4x4096x1, .f32⟩
  | 19 => ⟨S4x4096x1, .f32⟩
  | 20 => ⟨S4x4096x1, .f32⟩
  | 21 => ⟨S4x4096x1024, .f32⟩
  | 22 => ⟨S4x4096x1024, .f32⟩
  | 23 => ⟨S1x1x1024, .f32⟩
  | 24 => ⟨S4x4096x1024, .f32⟩
  | 25 => ⟨S4x4096x1024, .f32⟩
  | 26 => ⟨S4x4096x2064, .f32⟩
  | 27 => ⟨S4x4096x512, .f32⟩
  | 28 => ⟨S4x4096x256, .f32⟩
  | 29 => ⟨S4x4096x256, .f32⟩
  | 30 => ⟨S4x4096x512, .f32⟩
  | 31 => ⟨S4x4096x16, .f32⟩
  | 32 => ⟨S4x4096x512, .f32⟩
  | 33 => ⟨S4x4096x256, .f32⟩
  | 34 => ⟨S1x1x256, .f32⟩
  | 35 => ⟨S4x4096x256, .f32⟩
  | 36 => ⟨S4x4096x256, .f32⟩
  | 37 => ⟨S4x4096x256, .f32⟩
  | 38 => ⟨S_, .f32⟩
  | 39 => ⟨S4x4096x256, .f32⟩
  | 40 => ⟨S4x4096x256, .f32⟩
  | 41 => ⟨S4x4096x256, .f32⟩
  | 42 => ⟨S4x4096x256, .f32⟩
  | 43 => ⟨S4x4096x256, .i1⟩
  | 44 => ⟨S4x4096x256, .f32⟩
  | 45 => ⟨S4x4096x256, .f32⟩
  | 46 => ⟨S4x4096x256, .f32⟩
  | 47 => ⟨S4x4096x256, .f32⟩
  | 48 => ⟨S4x4096x256, .f32⟩
  | 49 => ⟨S4x4096x256, .f32⟩
  | 50 => ⟨S4x4096x256, .f32⟩
  | 51 => ⟨S4x4096x256, .f32⟩
  | 52 => ⟨S4x4096x256, .f32⟩
  | 53 => ⟨S_, .f32⟩
  | 54 => ⟨S4x4096x256, .f32⟩
  | 55 => ⟨S4x4096x256, .f32⟩
  | 56 => ⟨S4x4096x4x64, .f32⟩
  | 57 => ⟨S_, .f32⟩
  | 58 => ⟨S4x4096x4x64, .f32⟩
  | 59 => ⟨S4x4096x4x64, .f32⟩
  | 60 => ⟨S4x4096x4x64, .f32⟩
  | 61 => ⟨S4x4096x4x128, .f32⟩
  | 62 => ⟨S4x4096x4x64, .f32⟩
  | 63 => ⟨S_, .f32⟩
  | 64 => ⟨S_, .f32⟩
  | 65 => ⟨S4x4096x4x64, .f32⟩
  | 66 => ⟨S4x4096x1x4x64, .f32⟩
  | 67 => ⟨S4x1x4096x4x64, .f32⟩
  | 68 => ⟨S4x4096x4096x4x64, .f32⟩
  | 69 => ⟨S4x4096x4096x4x64, .f32⟩
  | 70 => ⟨S4x4096x4096x4x64, .f32⟩
  | 71 => ⟨S4x4096x1x4x64, .f32⟩
  | 72 => ⟨S4x1x4096x4x64, .f32⟩
  | 73 => ⟨S4x4096x4096x4x64, .f32⟩
  | 74 => ⟨S4x4096x4096x4x64, .f32⟩
  | 75 => ⟨S4x4096x4096x4x64, .f32⟩
  | 76 => ⟨S4x4096x4096x4x64, .f32⟩
  | 77 => ⟨S4x4096x4096x4x64, .f32⟩
  | 78 => ⟨S_, .f32⟩
  | 79 => ⟨S4x4096x4096x4, .f32⟩
  | 80 => ⟨S4096, .i32⟩
  | 81 => ⟨S4096x1, .i32⟩
  | 82 => ⟨S1x4096, .i32⟩
  | 83 => ⟨S4096x4096, .i32⟩
  | 84 => ⟨S4096x4096, .i32⟩
  | 85 => ⟨S4096x4096, .i1⟩
  | 86 => ⟨S1x4096x4096x1, .i1⟩
  | 87 => ⟨S_, .f32⟩
  | 88 => ⟨S_, .f32⟩
  | 89 => ⟨S4x4096x4096x4, .i1⟩
  | 90 => ⟨S4x4096x4096x4, .f32⟩
  | 91 => ⟨S4x4096x4096x4, .f32⟩
  | 92 => ⟨S4x4096x4096x4x1, .f32⟩
  | 93 => ⟨S4x1x4096x4x128, .f32⟩
  | 94 => ⟨S4x4096x4096x4x128, .f32⟩
  | 95 => ⟨S4x4096x4096x4x128, .f32⟩
  | 96 => ⟨S4x4096x4096x4x128, .f32⟩
  | 97 => ⟨S_, .f32⟩
  | 98 => ⟨S4x4096x4x128, .f32⟩
  | 99 => ⟨S4x4096x4x128, .f32⟩
  | 100 => ⟨S_, .f32⟩
  | 101 => ⟨S4x4096x4, .f32⟩
  | 102 => ⟨S4x4096x4x1, .f32⟩
  | 103 => ⟨S_, .f32⟩
  | 104 => ⟨S4x4096x4x1, .f32⟩
  | 105 => ⟨S4x4096x4x1, .f32⟩
  | 106 => ⟨S_, .f32⟩
  | 107 => ⟨S4x4096x4x1, .f32⟩
  | 108 => ⟨S4x4096x4x1, .f32⟩
  | 109 => ⟨S4x4096x4x1, .f32⟩
  | 110 => ⟨S4x4096x4x128, .f32⟩
  | 111 => ⟨S4x4096x4x128, .f32⟩
  | 112 => ⟨S1x1x1x128, .f32⟩
  | 113 => ⟨S4x4096x4x128, .f32⟩
  | 114 => ⟨S4x4096x4x128, .f32⟩
  | 115 => ⟨S4x4096x4x128, .f32⟩
  | 116 => ⟨S4x4096x4x128, .f32⟩
  | 117 => ⟨S4x4096x4x128, .f32⟩
  | 118 => ⟨S_, .f32⟩
  | 119 => ⟨S4x4096x4x128, .f32⟩
  | 120 => ⟨S4x4096x4x128, .f32⟩
  | 121 => ⟨S_, .f32⟩
  | 122 => ⟨S4x4096x4x128, .f32⟩
  | 123 => ⟨S4x4096x4x128, .f32⟩
  | 124 => ⟨S4x4096x4x128, .f32⟩
  | 125 => ⟨S4x4096x4x128, .f32⟩
  | 126 => ⟨S4096, .f32⟩
  | 127 => ⟨S_, .f32⟩
  | _ => ⟨S4x4096x1024, .f32⟩

abbrev hbmTy0_1 (i : Nat) : BufTy := match i % 128 with
  | 0 => ⟨S4096, .f32⟩
  | 1 => ⟨S4096, .f32⟩
  | 2 => ⟨S4096x1, .f32⟩
  | 3 => ⟨S_, .i32⟩
  | 4 => ⟨S_, .f32⟩
  | 5 => ⟨S4x4112x512, .f32⟩
  | 6 => ⟨S4x4096x128, .f32⟩
  | 7 => ⟨S4x4096x128, .f32⟩
  | 8 => ⟨S4x4096x128, .f32⟩
  | 9 => ⟨S_, .f32⟩
  | 10 => ⟨S4096x1, .f32⟩
  | 11 => ⟨S4096x1, .f32⟩
  | 12 => ⟨S1x4096x1, .f32⟩
  | 13 => ⟨S4x4096x128, .f32⟩
  | 14 => ⟨S4x4096x128, .f32⟩
  | 15 => ⟨S4x4096x128, .f32⟩
  | 16 => ⟨S4x4096x128, .f32⟩
  | 17 => ⟨S1x128x128, .f32⟩
  | 18 => ⟨S128x128, .f32⟩
  | 19 => ⟨S4x4096x128, .f32⟩
  | 20 => ⟨S4x4096x128, .f32⟩
  | 21 => ⟨S4x4096x128, .f32⟩
  | 22 => ⟨S4x4096x128, .f32⟩
  | 23 => ⟨S4x4096x128, .f32⟩
  | 24 => ⟨S4x4096x128, .f32⟩
  | 25 => ⟨S4x4096x128, .f32⟩
  | 26 => ⟨S4x4096x128, .f32⟩
  | 27 => ⟨S_, .f32⟩
  | 28 => ⟨S4096x1, .f32⟩
  | 29 => ⟨S4096x1, .f32⟩
  | 30 => ⟨S1x4096x1, .f32⟩
  | 31 => ⟨S4x4096x128, .f32⟩
  | 32 => ⟨S4x4096x128, .f32⟩
  | 33 => ⟨S4x4096x128, .f32⟩
  | 34 => ⟨S4x4096x128, .f32⟩
  | 35 => ⟨S1x128x128, .f32⟩
  | 36 => ⟨S128x128, .f32⟩
  | 37 => ⟨S4x4096x128, .f32⟩
  | 38 => ⟨S4x4096x128, .f32⟩
  | 39 => ⟨S4x4096x128, .f32⟩
  | 40 => ⟨S4x4096x128, .f32⟩
  | 41 => ⟨S4x4096x128, .f32⟩
  | 42 => ⟨S4x4096x128, .f32⟩
  | 43 => ⟨S4x4096x128, .f32⟩
  | 44 => ⟨S4x4096x128, .f32⟩
  | 45 => ⟨S4x4096x128, .f32⟩
  | 46 => ⟨S4x4096x128, .f32⟩
  | 47 => ⟨S4x4096x128, .f32⟩
  | 48 => ⟨S4x4096x128, .f32⟩
  | 49 => ⟨S4x4096x128, .f32⟩
  | 50 => ⟨S4x4096x128, .f32⟩
  | 51 => ⟨S4x4096x128, .f32⟩
  | 52 => ⟨S4x4096x128, .f32⟩
  | 53 => ⟨S_, .f32⟩
  | 54 => ⟨S4096x1, .f32⟩
  | 55 => ⟨S4096x1, .f32⟩
  | 56 => ⟨S1x4096x1, .f32⟩
  | 57 => ⟨S4x4096x128, .f32⟩
  | 58 => ⟨S4x4096x128, .f32⟩
  | 59 => ⟨S4x4096x128, .f32⟩
  | 60 => ⟨S4x4096x128, .f32⟩
  | 61 => ⟨S1x128x128, .f32⟩
  | 62 => ⟨S128x128, .f32⟩
  | 63 => ⟨S4x4096x128, .f32⟩
  | 64 => ⟨S4x4096x128, .f32⟩
  | 65 => ⟨S4x4096x128, .f32⟩
  | 66 => ⟨S4x4096x128, .f32⟩
  | 67 => ⟨S4x4096x128, .f32⟩
  | 68 => ⟨S4x4096x128, .f32⟩
  | 69 => ⟨S4x4096x128, .f32⟩
  | 70 => ⟨S4x4096x128, .f32⟩
  | 71 => ⟨S4x4096x128, .f32⟩
  | 72 => ⟨S4x4096x128, .f32⟩
  | 73 => ⟨S4x4096x128, .f32⟩
  | 74 => ⟨S4x4096x128, .f32⟩
  | 75 => ⟨S4x4096x128, .f32⟩
  | 76 => ⟨S4x4096x128, .f32⟩
  | 77 => ⟨S4x4096x128, .f32⟩
  | 78 => ⟨S4x4096x128, .f32⟩
  | 79 => ⟨S4x4096x128, .f32⟩
  | 80 => ⟨S4x4096x128, .f32⟩
  | 81 => ⟨S4x4096x128, .f32⟩
  | 82 => ⟨S4x4096x128, .f32⟩
  | 83 => ⟨S4x4096x128, .f32⟩
  | 84 => ⟨S4x4096x128, .f32⟩
  | 85 => ⟨S4x4096x128, .f32⟩
  | 86 => ⟨S4x4096x128, .f32⟩
  | 87 => ⟨S4x4096x128, .f32⟩
  | 88 => ⟨S4x4096x128, .f32⟩
  | 89 => ⟨S4x4096x128, .f32⟩
  | 90 => ⟨S4x4096x128, .f32⟩
  | 91 => ⟨S4x4096x128, .f32⟩
  | 92 => ⟨S4x4096x128, .f32⟩
  | 93 => ⟨S4x4096x128, .f32⟩
  | 94 => ⟨S4x4096x128, .f32⟩
  | 95 => ⟨S_, .f32⟩
  | 96 => ⟨S4096x1, .f32⟩
  | 97 => ⟨S4096x1, .f32⟩
  | 98 => ⟨S1x4096x1, .f32⟩
  | 99 => ⟨S4x4096x128, .f32⟩
  | 100 => ⟨S4x4096x128, .f32⟩
  | 101 => ⟨S4x4096x128, .f32⟩
  | 102 => ⟨S4x4096x128, .f32⟩
  | 103 => ⟨S1x128x128, .f32⟩
  | 104 => ⟨S128x128, .f32⟩
  | 105 => ⟨S4x4096x128, .f32⟩
  | 106 => ⟨S4x4096x512, .f32⟩
  | 107 => ⟨S1x1x512, .f32⟩
  | 108 => ⟨S4x4096x512, .f32⟩
  | 109 => ⟨S4x4096x512, .f32⟩
  | 110 => ⟨S4x4096x512, .f32⟩
  | 111 => ⟨S4x4096x1024, .f32⟩
  | 112 => ⟨S4x4096x1024, .f32⟩
  | 113 => ⟨S4x4096x1024, .f32⟩
  | 114 => ⟨S_, .f32⟩
  | 115 => ⟨S4x4096, .f32⟩
  | 116 => ⟨S4x4096x1, .f32⟩
  | 117 => ⟨S_, .f32⟩
  | 118 => ⟨S4x4096x1, .f32⟩
  | 119 => ⟨S4x4096x1, .f32⟩
  | 120 => ⟨S_, .f32⟩
  | 121 => ⟨S4x4096x1, .f32⟩
  | 122 => ⟨S4x4096x1, .f32⟩
  | 123 => ⟨S4x4096x1, .f32⟩
  | 124 => ⟨S4x4096x1024, .f32⟩
  | 125 => ⟨S4x4096x1024, .f32⟩
  | 126 => ⟨S1x1x1024, .f32⟩
  | 127 => ⟨S4x4096x1024, .f32⟩
  | _ => ⟨S4x4096x1024, .f32⟩

abbrev hbmTy0_2 (i : Nat) : BufTy := match i % 128 with
  | 0 => ⟨S4x4096x1024, .f32⟩
  | 1 => ⟨S4x4096x1024, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_call0_cst : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_v1 : Ref sig .tc := ⟨.hbm, 51, rfl⟩
abbrev main_v24 : Ref sig .tc := ⟨.hbm, 52, rfl⟩
abbrev main_cst_2 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_call1_call0_cst : Ref sig .tc := ⟨.hbm, 63, rfl⟩
abbrev main_call1_call0_v0 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_4 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_5 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_6 : Ref sig .tc := ⟨.hbm, 97, rfl⟩
abbrev main_v60 : Ref sig .tc := ⟨.hbm, 98, rfl⟩
abbrev main_v61 : Ref sig .tc := ⟨.hbm, 99, rfl⟩
abbrev main_cst_7 : Ref sig .tc := ⟨.hbm, 100, rfl⟩
abbrev main_v62 : Ref sig .tc := ⟨.hbm, 101, rfl⟩
abbrev main_v63 : Ref sig .tc := ⟨.hbm, 102, rfl⟩
abbrev main_cst_8 : Ref sig .tc := ⟨.hbm, 103, rfl⟩
abbrev main_v64 : Ref sig .tc := ⟨.hbm, 104, rfl⟩
abbrev main_v65 : Ref sig .tc := ⟨.hbm, 105, rfl⟩
abbrev main_cst_9 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_call3_v5 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_10 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_c : Ref sig .tc := ⟨.hbm, 131, rfl⟩
abbrev main_call4_v0 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_11 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_12 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_13 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_cst_14 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_cst_15 : Ref sig .tc := ⟨.hbm, 242, rfl⟩
abbrev main_v186 : Ref sig .tc := ⟨.hbm, 243, rfl⟩
abbrev main_v187 : Ref sig .tc := ⟨.hbm, 244, rfl⟩
abbrev main_cst_16 : Ref sig .tc := ⟨.hbm, 245, rfl⟩
abbrev main_v188 : Ref sig .tc := ⟨.hbm, 246, rfl⟩
abbrev main_v189 : Ref sig .tc := ⟨.hbm, 247, rfl⟩
abbrev main_cst_17 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩

abbrev nD : Nat := 1
abbrev τ : Topo := Topo.v7x

variable {F : FTy → Type} [FloatOps F]
-- ==== Ffn0.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x512x1024 : Shape := ⟨3, ![1, 512, 1024]⟩
abbrev S8x2816 : Shape := ⟨2, ![8, 2816]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1024x256 : Shape := ⟨2, ![1024, 256]⟩
abbrev S8x256 : Shape := ⟨2, ![8, 256]⟩
abbrev S1x256 : Shape := ⟨2, ![1, 256]⟩
abbrev S3x256 : Shape := ⟨2, ![3, 256]⟩
abbrev S256x1024 : Shape := ⟨2, ![256, 1024]⟩

abbrev nBuf : Space → Nat
  | .hbm => 13
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S1x1024, .f32⟩
  | .hbm, ⟨12, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S8x2816, .f32⟩
  | .local _ .vmem, ⟨11, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.KBase.lean ====
/-
  The buffers of the fused decoder layer: its scratch, its three staging rings and its four operands left in HBM.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixR
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The scratch buffers and the staging rings -/

abbrev scM0 : Memref sig .tc .vmem S1024x1664 .bf16 := Memref.whole cc0_scratch0
abbrev scM1 : Memref sig .tc .vmem S1024x512 .bf16 := Memref.whole cc0_scratch1
abbrev scM2 : Memref sig .tc .vmem S1024x1024 .bf16 := Memref.whole cc0_scratch2
abbrev scM3 : Memref sig .tc .vmem S1024x5632 .bf16 := Memref.whole cc0_scratch3
abbrev scM4 : Memref sig .tc .vmem S2816x1024 .bf16 := Memref.whole cc0_scratch4
abbrev scM5 : Memref sig .tc .vmem S2x256x256 .bf16 := Memref.whole cc0_scratch5
abbrev scM6 : Memref sig .tc .vmem S128x256 .bf16 := Memref.whole cc0_scratch6
abbrev scM7 : Memref sig .tc .vmem S256x1024 .bf16 := Memref.whole cc0_scratch7
abbrev scM8 : Memref sig .tc .vmem S2x256x2176 .f32 := Memref.whole cc0_scratch8
abbrev scM9 : Memref sig .tc .vmem S16x512 .f32 := Memref.whole cc0_scratch9
abbrev scM10 : Memref sig .tc .vmem S256x512 .bf16 := Memref.whole cc0_scratch10
abbrev scM11 : Memref sig .tc .vmem S2x256x128 .f32 := Memref.whole cc0_scratch11
abbrev scM12 : Memref sig .tc .vmem S2x256x1024 .bf16 := Memref.whole cc0_scratch12
abbrev scM13 : Memref sig .tc .vmem S256x1024 .f32 := Memref.whole cc0_scratch13
abbrev scM14 : Memref sig .tc .vmem S256x1024 .bf16 := Memref.whole cc0_scratch14
abbrev scM15 : Memref sig .tc .vmem S8x2816 .f32 := Memref.whole cc0_scratch15
abbrev scM16 : Memref sig .tc .vmem S256x2816 .bf16 := Memref.whole cc0_scratch16
abbrev scM17 : Memref sig .tc .vmem S3x128x1024 .f32 := Memref.whole cc0_scoped0
abbrev scM18 : Memref sig .tc .vmem S3x128x1024 .f32 := Memref.whole cc0_scoped1
abbrev scM19 : Memref sig .tc .vmem S3x32x5632 .f32 := Memref.whole cc0_scoped2

/-! ## The operands left in HBM -/

abbrev hbM0 : Memref sig .tc .hbm S2064x1024 .f32 := Memref.whole main_v1
abbrev hbM1 : Memref sig .tc .hbm S1024x1024 .f32 := Memref.whole main_arg8
abbrev hbM2 : Memref sig .tc .hbm S1024x5632 .f32 := Memref.whole main_arg11
abbrev hbM3 : Memref sig .tc .hbm S2816x1024 .f32 := Memref.whole main_arg14

abbrev HbBuf (c : Dev nD) {sp : Space} {S : Shape} {e : EltTy} (M : Memref sig .tc sp S e) : Type := Buf (Elt F) (M.view.loc (c : Thread nD τ))
/-- A whole buffer held at full share. -/
abbrev hbPt (c : Dev nD) {sp : Space} {S : Shape} {e : EltTy} (M : Memref sig .tc sp S e) (f : HbBuf (F := F) c M) : sProp 𝕄 :=
  M.view.loc (c : Thread nD τ) ↦{fullShare} f

/-- The scratch buffers and the staging rings, each whole at some contents. -/
def scr (c : Dev nD) : sProp 𝕄 :=
  iprop((∃ f, hbPt c scM0 f) ∗ (∃ f, hbPt c scM1 f) ∗ (∃ f, hbPt c scM2 f) ∗ (∃ f, hbPt c scM3 f) ∗ (∃ f, hbPt c scM4 f) ∗ (∃ f, hbPt c scM5 f) ∗ (∃ f, hbPt c scM6 f) ∗ (∃ f, hbPt c scM7 f) ∗ (∃ f, hbPt c scM8 f) ∗ (∃ f, hbPt c scM9 f) ∗ (∃ f, hbPt c scM10 f) ∗ (∃ f, hbPt c scM11 f) ∗ (∃ f, hbPt c scM12 f) ∗ (∃ f, hbPt c scM13 f) ∗ (∃ f, hbPt c scM14 f) ∗ (∃ f, hbPt c scM15 f) ∗ (∃ f, hbPt c scM16 f) ∗ (∃ f, hbPt c scM17 f) ∗ (∃ f, hbPt c scM18 f) ∗ (∃ f, hbPt c scM19 f))

end Cert.KernelIdeal.Hand

end
-- ==== Proof.KFirst.lean ====
/-
  The first grid point: the weights are copied in, then the first two tiles enter the pipeline.
-/
module

public import proofs.«01_k».proof.Proof.KBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxRecDepth 16384 in
/-- The first grid point: the weights are copied in, then the first two tiles enter the pipeline. -/
theorem run_first (c : Dev nD) (i : grid0.Coords) (c1 : (Scalar.cmpi .ne (Scalar.extui (Scalar.cmpi .eq (BitVec.ofNat 32 (i 0).val) 0#32) : BitVec 32) 0#32 : BitVec 1) = 1#1) (c3 : ¬ k0_cond3 i = 1#1) (c8 : ¬ k0_cond8 i = 1#1) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg5 : Memref sig .tc .vmem S4x128x128 .f32) (harg5 : arg5.IsWhole) (arg6 : Memref sig .tc .vmem S1x512 .f32) (harg6 : arg6.IsWhole) (arg7 : Memref sig .tc .vmem S16x256 .f32) (harg7 : arg7.IsWhole) (arg8 : Memref sig .tc .vmem S1x256 .f32) (harg8 : arg8.IsWhole) (arg9 : Memref sig .tc .vmem S1x128 .f32) (harg9 : arg9.IsWhole) (arg11 : Memref sig .tc .vmem S1x1024 .f32) (harg11 : arg11.IsWhole) (arg12 : Memref sig .tc .vmem S1x1024 .f32) (harg12 : arg12.IsWhole) (arg14 : Memref sig .tc .vmem S3x2816 .f32) (harg14 : arg14.IsWhole) (arg15 : Memref sig .tc .vmem S1x2816 .f32) (harg15 : arg15.IsWhole) (arg17 : Memref sig .tc .vmem S1x1024 .f32) (harg17 : arg17.IsWhole) (arg18 : Memref sig .tc .vmem S512x1024 .f32) (harg18 : arg18.IsWhole)
    (x1 : Vec F S512x1024 .f32) (x2 : Vec F S512x1024 .f32) (x3 : Vec F S1x1024 .f32) (x5 : Vec F S4x128x128 .f32) (x6 : Vec F S1x512 .f32) (x7 : Vec F S16x256 .f32) (x8 : Vec F S1x256 .f32) (x9 : Vec F S1x128 .f32) (x11 : Vec F S1x1024 .f32) (x12 : Vec F S1x1024 .f32) (x14 : Vec F S3x2816 .f32) (x15 : Vec F S1x2816 .f32) (x17 : Vec F S1x1024 .f32)
    (fh0 : HbBuf (F := F) c hbM0) (fh1 : HbBuf (F := F) c hbM1) (fh2 : HbBuf (F := F) c hbM2) (fh3 : HbBuf (F := F) c hbM3) (W : Waits sig Unit) (K : PUnit → sProp 𝕄) :
    iprop(owns (c : Thread nD τ) arg1 fullShare x1 ∗ owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg14 fullShare x14 ∗ owns (c : Thread nD τ) arg15 fullShare x15 ∗ owns (c : Thread nD τ) arg17 fullShare x17
        ∗ (∃ d, owns (c : Thread nD τ) arg18 fullShare d)
        ∗ (∃ f, hbPt c scM0 f) ∗ (∃ f, hbPt c scM1 f) ∗ (∃ f, hbPt c scM2 f) ∗ (∃ f, hbPt c scM3 f) ∗ (∃ f, hbPt c scM4 f) ∗ (∃ f, hbPt c scM5 f) ∗ (∃ f, hbPt c scM6 f) ∗ (∃ f, hbPt c scM7 f) ∗ (∃ f, hbPt c scM8 f) ∗ (∃ f, hbPt c scM9 f) ∗ (∃ f, hbPt c scM10 f) ∗ (∃ f, hbPt c scM11 f) ∗ (∃ f, hbPt c scM12 f) ∗ (∃ f, hbPt c scM13 f) ∗ (∃ f, hbPt c scM14 f) ∗ (∃ f, hbPt c scM15 f) ∗ (∃ f, hbPt c scM16 f) ∗ (∃ f, hbPt c scM17 f) ∗ (∃ f, hbPt c scM18 f) ∗ (∃ f, hbPt c scM19 f)
        ∗ semVal ((c : Thread nD τ), SemLoc.dma 17) 0 ∗ semVal ((c : Thread nD τ), SemLoc.dma 18) 0 ∗ semVal ((c : Thread nD τ), SemLoc.dma 19) 0 ∗ hbPt c hbM0 fh0 ∗ hbPt c hbM1 fh1 ∗ hbPt c hbM2 fh2 ∗ hbPt c hbM3 fh3 ∗ owes (c : Thread nD τ) 0 W
        ∗ (iprop(owns (c : Thread nD τ) arg1 fullShare x1 ∗ owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg14 fullShare x14 ∗ owns (c : Thread nD τ) arg15 fullShare x15 ∗ owns (c : Thread nD τ) arg17 fullShare x17
            ∗ (∃ d, owns (c : Thread nD τ) arg18 fullShare d)
            ∗ (∃ f, hbPt c scM0 f) ∗ (∃ f, hbPt c scM1 f) ∗ (∃ f, hbPt c scM2 f) ∗ (∃ f, hbPt c scM3 f) ∗ (∃ f, hbPt c scM4 f) ∗ (∃ f, hbPt c scM5 f) ∗ (∃ f, hbPt c scM6 f) ∗ (∃ f, hbPt c scM7 f) ∗ (∃ f, hbPt c scM8 f) ∗ (∃ f, hbPt c scM9 f) ∗ (∃ f, hbPt c scM10 f) ∗ (∃ f, hbPt c scM11 f) ∗ (∃ f, hbPt c scM12 f) ∗ (∃ f, hbPt c scM13 f) ∗ (∃ f, hbPt c scM14 f) ∗ (∃ f, hbPt c scM15 f) ∗ (∃ f, hbPt c scM16 f) ∗ (∃ f, hbPt c scM17 f) ∗ (∃ f, hbPt c scM18 f) ∗ (∃ f, hbPt c scM19 f)
            ∗ semVal ((c : Thread nD τ), SemLoc.dma 17) 0 ∗ semVal ((c : Thread nD τ), SemLoc.dma 18) 0 ∗ semVal ((c : Thread nD τ), SemLoc.dma 19) 0 ∗ hbPt c hbM0 fh0 ∗ hbPt c hbM1 fh1 ∗ hbPt c hbM2 fh2 ∗ hbPt c hbM3 fh3 ∗ (∃ W', owes (c : Thread nD τ) 0 W')) -∗ K ⟨⟩))
      ⊢ wp frame (wpE (defs₀ (F := F)) Variants.none c none) Set.univ
          (cc0_decoder_layer i arg1 harg1 arg2 harg2 arg3 harg3 hbM0 (Memref.isWhole_whole _) arg5 harg5 arg6 harg6 arg7 harg7 arg8 harg8 arg9 harg9 hbM1 (Memref.isWhole_whole _) arg11 harg11 arg12 harg12 hbM2 (Memref.isWhole_whole _) arg14 harg14 arg15 harg15 hbM3 (Memref.isWhole_whole _) arg17 harg17 arg18 harg18 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) scM18 (Memref.isWhole_whole _) scM19 (Memref.isWhole_whole _) cc0_scoped3) K := by
  simp only [cc0_decoder_layer_eq_skeleton]; unfold cc0_decoder_layer_skel
  unfold owns
  iintro ⟨⟨%f1, %e1, H1⟩, ⟨%f2, %e2, H2⟩, ⟨%f3, %e3, H3⟩, ⟨%f5, %e5, H5⟩, ⟨%f6, %e6, H6⟩, ⟨%f7, %e7, H7⟩, ⟨%f8, %e8, H8⟩, ⟨%f9, %e9, H9⟩, ⟨%f11, %e11, H11⟩, ⟨%f12, %e12, H12⟩, ⟨%f14, %e14, H14⟩, ⟨%f15, %e15, H15⟩, ⟨%f17, %e17, H17⟩, ⟨%d18, %f18, -, H18⟩, ⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s13, S13⟩, ⟨%s14, S14⟩, ⟨%s15, S15⟩, ⟨%s16, S16⟩, ⟨%s17, S17⟩, ⟨%s18, S18⟩, ⟨%s19, S19⟩, Q0, Q1, Q2, B0, B1, B2, B3, HW, Hk⟩
  set_option sl_exec.dmaWindow true in
  set_option sl_exec.dmaWindowLent true in
  set_option sl_exec.lendShare "B0" in
  sl_exec_parts
  sl_step
  iapply Hk
  isplitl [H1]; · (iexists f1; isplitr; · (ipureintro; exact e1)); iexact H1
  isplitl [H2]; · (iexists f2; isplitr; · (ipureintro; exact e2)); iexact H2
  isplitl [H3]; · (iexists f3; isplitr; · (ipureintro; exact e3)); iexact H3
  isplitl [H5]; · (iexists f5; isplitr; · (ipureintro; exact e5)); iexact H5
  isplitl [H6]; · (iexists f6; isplitr; · (ipureintro; exact e6)); iexact H6
  isplitl [H7]; · (iexists f7; isplitr; · (ipureintro; exact e7)); iexact H7
  isplitl [H8]; · (iexists f8; isplitr; · (ipureintro; exact e8)); iexact H8
  isplitl [H9]; · (iexists f9; isplitr; · (ipureintro; exact e9)); iexact H9
  isplitl [H11]; · (iexists f11; isplitr; · (ipureintro; exact e11)); iexact H11
  isplitl [H12]; · (iexists f12; isplitr; · (ipureintro; exact e12)); iexact H12
  isplitl [H14]; · (iexists f14; isplitr; · (ipureintro; exact e14)); iexact H14
  isplitl [H15]; · (iexists f15; isplitr; · (ipureintro; exact e15)); iexact H15
  isplitl [H17]; · (iexists f17; isplitr; · (ipureintro; exact e17)); iexact H17
  isplitl [H18]
  · iexists _, _; isplitr; swap; · iexact H18
    ipureintro; rfl
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  isplitl [S10]; · iexists _; iexact S10
  isplitl [S11]; · iexists _; iexact S11
  isplitl [S12]; · iexists _; iexact S12
  isplitl [S13]; · iexists _; iexact S13
  isplitl [S14]; · iexists _; iexact S14
  isplitl [S15]; · iexists _; iexact S15
  isplitl [S16]; · iexists _; iexact S16
  isplitl [S17]; · iexists _; iexact S17
  isplitl [S18]; · iexists _; iexact S18
  isplitl [S19]; · iexists _; iexact S19
  isplitl [Q0]; · iexact Q0
  isplitl [Q1]; · iexact Q1
  isplitl [Q2]; · iexact Q2
  isplitl [B0]; · iexact B0
  isplitl [B1]; · iexact B1
  isplitl [B2]; · iexact B2
  isplitl [B3]; · iexact B3
  iexists _; iexact HW

end Cert.KernelIdeal.Hand

end
-- ==== Proof.KMid.lean ====
/-
  A middle grid point: both tiles run all three stages.
-/
module

public import proofs.«01_k».proof.Proof.KBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxRecDepth 16384 in
/-- A middle grid point: both tiles run all three stages. -/
theorem run_mid (c : Dev nD) (i : grid0.Coords) (c1 : ¬ (Scalar.cmpi .ne (Scalar.extui (Scalar.cmpi .eq (BitVec.ofNat 32 (i 0).val) 0#32) : BitVec 32) 0#32 : BitVec 1) = 1#1) (c3 : k0_cond3 i = 1#1) (c8 : ¬ k0_cond8 i = 1#1) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg5 : Memref sig .tc .vmem S4x128x128 .f32) (harg5 : arg5.IsWhole) (arg6 : Memref sig .tc .vmem S1x512 .f32) (harg6 : arg6.IsWhole) (arg7 : Memref sig .tc .vmem S16x256 .f32) (harg7 : arg7.IsWhole) (arg8 : Memref sig .tc .vmem S1x256 .f32) (harg8 : arg8.IsWhole) (arg9 : Memref sig .tc .vmem S1x128 .f32) (harg9 : arg9.IsWhole) (arg11 : Memref sig .tc .vmem S1x1024 .f32) (harg11 : arg11.IsWhole) (arg12 : Memref sig .tc .vmem S1x1024 .f32) (harg12 : arg12.IsWhole) (arg14 : Memref sig .tc .vmem S3x2816 .f32) (harg14 : arg14.IsWhole) (arg15 : Memref sig .tc .vmem S1x2816 .f32) (harg15 : arg15.IsWhole) (arg17 : Memref sig .tc .vmem S1x1024 .f32) (harg17 : arg17.IsWhole) (arg18 : Memref sig .tc .vmem S512x1024 .f32) (harg18 : arg18.IsWhole)
    (x1 : Vec F S512x1024 .f32) (x2 : Vec F S512x1024 .f32) (x3 : Vec F S1x1024 .f32) (x5 : Vec F S4x128x128 .f32) (x6 : Vec F S1x512 .f32) (x7 : Vec F S16x256 .f32) (x8 : Vec F S1x256 .f32) (x9 : Vec F S1x128 .f32) (x11 : Vec F S1x1024 .f32) (x12 : Vec F S1x1024 .f32) (x14 : Vec F S3x2816 .f32) (x15 : Vec F S1x2816 .f32) (x17 : Vec F S1x1024 .f32)
    (fh0 : HbBuf (F := F) c hbM0) (fh1 : HbBuf (F := F) c hbM1) (fh2 : HbBuf (F := F) c hbM2) (fh3 : HbBuf (F := F) c hbM3) (W : Waits sig Unit) (K : PUnit → sProp 𝕄) :
    iprop(owns (c : Thread nD τ) arg1 fullShare x1 ∗ owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg14 fullShare x14 ∗ owns (c : Thread nD τ) arg15 fullShare x15 ∗ owns (c : Thread nD τ) arg17 fullShare x17
        ∗ (∃ d, owns (c : Thread nD τ) arg18 fullShare d)
        ∗ (∃ f, hbPt c scM0 f) ∗ (∃ f, hbPt c scM1 f) ∗ (∃ f, hbPt c scM2 f) ∗ (∃ f, hbPt c scM3 f) ∗ (∃ f, hbPt c scM4 f) ∗ (∃ f, hbPt c scM5 f) ∗ (∃ f, hbPt c scM6 f) ∗ (∃ f, hbPt c scM7 f) ∗ (∃ f, hbPt c scM8 f) ∗ (∃ f, hbPt c scM9 f) ∗ (∃ f, hbPt c scM10 f) ∗ (∃ f, hbPt c scM11 f) ∗ (∃ f, hbPt c scM12 f) ∗ (∃ f, hbPt c scM13 f) ∗ (∃ f, hbPt c scM14 f) ∗ (∃ f, hbPt c scM15 f) ∗ (∃ f, hbPt c scM16 f) ∗ (∃ f, hbPt c scM17 f) ∗ (∃ f, hbPt c scM18 f) ∗ (∃ f, hbPt c scM19 f)
        ∗ semVal ((c : Thread nD τ), SemLoc.dma 17) 0 ∗ semVal ((c : Thread nD τ), SemLoc.dma 18) 0 ∗ semVal ((c : Thread nD τ), SemLoc.dma 19) 0 ∗ hbPt c hbM0 fh0 ∗ hbPt c hbM1 fh1 ∗ hbPt c hbM2 fh2 ∗ hbPt c hbM3 fh3 ∗ owes (c : Thread nD τ) 0 W
        ∗ (iprop(owns (c : Thread nD τ) arg1 fullShare x1 ∗ owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg14 fullShare x14 ∗ owns (c : Thread nD τ) arg15 fullShare x15 ∗ owns (c : Thread nD τ) arg17 fullShare x17
            ∗ (∃ d, owns (c : Thread nD τ) arg18 fullShare d)
            ∗ (∃ f, hbPt c scM0 f) ∗ (∃ f, hbPt c scM1 f) ∗ (∃ f, hbPt c scM2 f) ∗ (∃ f, hbPt c scM3 f) ∗ (∃ f, hbPt c scM4 f) ∗ (∃ f, hbPt c scM5 f) ∗ (∃ f, hbPt c scM6 f) ∗ (∃ f, hbPt c scM7 f) ∗ (∃ f, hbPt c scM8 f) ∗ (∃ f, hbPt c scM9 f) ∗ (∃ f, hbPt c scM10 f) ∗ (∃ f, hbPt c scM11 f) ∗ (∃ f, hbPt c scM12 f) ∗ (∃ f, hbPt c scM13 f) ∗ (∃ f, hbPt c scM14 f) ∗ (∃ f, hbPt c scM15 f) ∗ (∃ f, hbPt c scM16 f) ∗ (∃ f, hbPt c scM17 f) ∗ (∃ f, hbPt c scM18 f) ∗ (∃ f, hbPt c scM19 f)
            ∗ semVal ((c : Thread nD τ), SemLoc.dma 17) 0 ∗ semVal ((c : Thread nD τ), SemLoc.dma 18) 0 ∗ semVal ((c : Thread nD τ), SemLoc.dma 19) 0 ∗ hbPt c hbM0 fh0 ∗ hbPt c hbM1 fh1 ∗ hbPt c hbM2 fh2 ∗ hbPt c hbM3 fh3 ∗ (∃ W', owes (c : Thread nD τ) 0 W')) -∗ K ⟨⟩))
      ⊢ wp frame (wpE (defs₀ (F := F)) Variants.none c none) Set.univ
          (cc0_decoder_layer i arg1 harg1 arg2 harg2 arg3 harg3 hbM0 (Memref.isWhole_whole _) arg5 harg5 arg6 harg6 arg7 harg7 arg8 harg8 arg9 harg9 hbM1 (Memref.isWhole_whole _) arg11 harg11 arg12 harg12 hbM2 (Memref.isWhole_whole _) arg14 harg14 arg15 harg15 hbM3 (Memref.isWhole_whole _) arg17 harg17 arg18 harg18 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) scM18 (Memref.isWhole_whole _) scM19 (Memref.isWhole_whole _) cc0_scoped3) K := by
  simp only [cc0_decoder_layer_eq_skeleton]; unfold cc0_decoder_layer_skel
  unfold owns
  iintro ⟨⟨%f1, %e1, H1⟩, ⟨%f2, %e2, H2⟩, ⟨%f3, %e3, H3⟩, ⟨%f5, %e5, H5⟩, ⟨%f6, %e6, H6⟩, ⟨%f7, %e7, H7⟩, ⟨%f8, %e8, H8⟩, ⟨%f9, %e9, H9⟩, ⟨%f11, %e11, H11⟩, ⟨%f12, %e12, H12⟩, ⟨%f14, %e14, H14⟩, ⟨%f15, %e15, H15⟩, ⟨%f17, %e17, H17⟩, ⟨%d18, %f18, -, H18⟩, ⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s13, S13⟩, ⟨%s14, S14⟩, ⟨%s15, S15⟩, ⟨%s16, S16⟩, ⟨%s17, S17⟩, ⟨%s18, S18⟩, ⟨%s19, S19⟩, Q0, Q1, Q2, B0, B1, B2, B3, HW, Hk⟩
  sl_exec_parts
  sl_step
  iapply Hk
  isplitl [H1]; · (iexists f1; isplitr; · (ipureintro; exact e1)); iexact H1
  isplitl [H2]; · (iexists f2; isplitr; · (ipureintro; exact e2)); iexact H2
  isplitl [H3]; · (iexists f3; isplitr; · (ipureintro; exact e3)); iexact H3
  isplitl [H5]; · (iexists f5; isplitr; · (ipureintro; exact e5)); iexact H5
  isplitl [H6]; · (iexists f6; isplitr; · (ipureintro; exact e6)); iexact H6
  isplitl [H7]; · (iexists f7; isplitr; · (ipureintro; exact e7)); iexact H7
  isplitl [H8]; · (iexists f8; isplitr; · (ipureintro; exact e8)); iexact H8
  isplitl [H9]; · (iexists f9; isplitr; · (ipureintro; exact e9)); iexact H9
  isplitl [H11]; · (iexists f11; isplitr; · (ipureintro; exact e11)); iexact H11
  isplitl [H12]; · (iexists f12; isplitr; · (ipureintro; exact e12)); iexact H12
  isplitl [H14]; · (iexists f14; isplitr; · (ipureintro; exact e14)); iexact H14
  isplitl [H15]; · (iexists f15; isplitr; · (ipureintro; exact e15)); iexact H15
  isplitl [H17]; · (iexists f17; isplitr; · (ipureintro; exact e17)); iexact H17
  isplitl [H18]
  · iexists _, _; isplitr; swap; · iexact H18
    ipureintro; rfl
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  isplitl [S10]; · iexists _; iexact S10
  isplitl [S11]; · iexists _; iexact S11
  isplitl [S12]; · iexists _; iexact S12
  isplitl [S13]; · iexists _; iexact S13
  isplitl [S14]; · iexists _; iexact S14
  isplitl [S15]; · iexists _; iexact S15
  isplitl [S16]; · iexists _; iexact S16
  isplitl [S17]; · iexists _; iexact S17
  isplitl [S18]; · iexists _; iexact S18
  isplitl [S19]; · iexists _; iexact S19
  isplitl [Q0]; · iexact Q0
  isplitl [Q1]; · iexact Q1
  isplitl [Q2]; · iexact Q2
  isplitl [B0]; · iexact B0
  isplitl [B1]; · iexact B1
  isplitl [B2]; · iexact B2
  isplitl [B3]; · iexact B3
  iexists _; iexact HW

end Cert.KernelIdeal.Hand

end
-- ==== Proof.KLast.lean ====
/-
  The last grid point: the last two tiles leave the pipeline.
-/
module

public import proofs.«01_k».proof.Proof.KBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxRecDepth 16384 in
/-- The last grid point: the last two tiles leave the pipeline. -/
theorem run_last (c : Dev nD) (i : grid0.Coords) (c1 : ¬ (Scalar.cmpi .ne (Scalar.extui (Scalar.cmpi .eq (BitVec.ofNat 32 (i 0).val) 0#32) : BitVec 32) 0#32 : BitVec 1) = 1#1) (c3 : ¬ k0_cond3 i = 1#1) (c8 : k0_cond8 i = 1#1) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg5 : Memref sig .tc .vmem S4x128x128 .f32) (harg5 : arg5.IsWhole) (arg6 : Memref sig .tc .vmem S1x512 .f32) (harg6 : arg6.IsWhole) (arg7 : Memref sig .tc .vmem S16x256 .f32) (harg7 : arg7.IsWhole) (arg8 : Memref sig .tc .vmem S1x256 .f32) (harg8 : arg8.IsWhole) (arg9 : Memref sig .tc .vmem S1x128 .f32) (harg9 : arg9.IsWhole) (arg11 : Memref sig .tc .vmem S1x1024 .f32) (harg11 : arg11.IsWhole) (arg12 : Memref sig .tc .vmem S1x1024 .f32) (harg12 : arg12.IsWhole) (arg14 : Memref sig .tc .vmem S3x2816 .f32) (harg14 : arg14.IsWhole) (arg15 : Memref sig .tc .vmem S1x2816 .f32) (harg15 : arg15.IsWhole) (arg17 : Memref sig .tc .vmem S1x1024 .f32) (harg17 : arg17.IsWhole) (arg18 : Memref sig .tc .vmem S512x1024 .f32) (harg18 : arg18.IsWhole)
    (x1 : Vec F S512x1024 .f32) (x2 : Vec F S512x1024 .f32) (x3 : Vec F S1x1024 .f32) (x5 : Vec F S4x128x128 .f32) (x6 : Vec F S1x512 .f32) (x7 : Vec F S16x256 .f32) (x8 : Vec F S1x256 .f32) (x9 : Vec F S1x128 .f32) (x11 : Vec F S1x1024 .f32) (x12 : Vec F S1x1024 .f32) (x14 : Vec F S3x2816 .f32) (x15 : Vec F S1x2816 .f32) (x17 : Vec F S1x1024 .f32)
    (fh0 : HbBuf (F := F) c hbM0) (fh1 : HbBuf (F := F) c hbM1) (fh2 : HbBuf (F := F) c hbM2) (fh3 : HbBuf (F := F) c hbM3) (W : Waits sig Unit) (K : PUnit → sProp 𝕄) :
    iprop(owns (c : Thread nD τ) arg1 fullShare x1 ∗ owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg14 fullShare x14 ∗ owns (c : Thread nD τ) arg15 fullShare x15 ∗ owns (c : Thread nD τ) arg17 fullShare x17
        ∗ (∃ d, owns (c : Thread nD τ) arg18 fullShare d)
        ∗ (∃ f, hbPt c scM0 f) ∗ (∃ f, hbPt c scM1 f) ∗ (∃ f, hbPt c scM2 f) ∗ (∃ f, hbPt c scM3 f) ∗ (∃ f, hbPt c scM4 f) ∗ (∃ f, hbPt c scM5 f) ∗ (∃ f, hbPt c scM6 f) ∗ (∃ f, hbPt c scM7 f) ∗ (∃ f, hbPt c scM8 f) ∗ (∃ f, hbPt c scM9 f) ∗ (∃ f, hbPt c scM10 f) ∗ (∃ f, hbPt c scM11 f) ∗ (∃ f, hbPt c scM12 f) ∗ (∃ f, hbPt c scM13 f) ∗ (∃ f, hbPt c scM14 f) ∗ (∃ f, hbPt c scM15 f) ∗ (∃ f, hbPt c scM16 f) ∗ (∃ f, hbPt c scM17 f) ∗ (∃ f, hbPt c scM18 f) ∗ (∃ f, hbPt c scM19 f)
        ∗ semVal ((c : Thread nD τ), SemLoc.dma 17) 0 ∗ semVal ((c : Thread nD τ), SemLoc.dma 18) 0 ∗ semVal ((c : Thread nD τ), SemLoc.dma 19) 0 ∗ hbPt c hbM0 fh0 ∗ hbPt c hbM1 fh1 ∗ hbPt c hbM2 fh2 ∗ hbPt c hbM3 fh3 ∗ owes (c : Thread nD τ) 0 W
        ∗ (iprop(owns (c : Thread nD τ) arg1 fullShare x1 ∗ owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg14 fullShare x14 ∗ owns (c : Thread nD τ) arg15 fullShare x15 ∗ owns (c : Thread nD τ) arg17 fullShare x17
            ∗ (∃ d, owns (c : Thread nD τ) arg18 fullShare d)
            ∗ (∃ f, hbPt c scM0 f) ∗ (∃ f, hbPt c scM1 f) ∗ (∃ f, hbPt c scM2 f) ∗ (∃ f, hbPt c scM3 f) ∗ (∃ f, hbPt c scM4 f) ∗ (∃ f, hbPt c scM5 f) ∗ (∃ f, hbPt c scM6 f) ∗ (∃ f, hbPt c scM7 f) ∗ (∃ f, hbPt c scM8 f) ∗ (∃ f, hbPt c scM9 f) ∗ (∃ f, hbPt c scM10 f) ∗ (∃ f, hbPt c scM11 f) ∗ (∃ f, hbPt c scM12 f) ∗ (∃ f, hbPt c scM13 f) ∗ (∃ f, hbPt c scM14 f) ∗ (∃ f, hbPt c scM15 f) ∗ (∃ f, hbPt c scM16 f) ∗ (∃ f, hbPt c scM17 f) ∗ (∃ f, hbPt c scM18 f) ∗ (∃ f, hbPt c scM19 f)
            ∗ semVal ((c : Thread nD τ), SemLoc.dma 17) 0 ∗ semVal ((c : Thread nD τ), SemLoc.dma 18) 0 ∗ semVal ((c : Thread nD τ), SemLoc.dma 19) 0 ∗ hbPt c hbM0 fh0 ∗ hbPt c hbM1 fh1 ∗ hbPt c hbM2 fh2 ∗ hbPt c hbM3 fh3 ∗ (∃ W', owes (c : Thread nD τ) 0 W')) -∗ K ⟨⟩))
      ⊢ wp frame (wpE (defs₀ (F := F)) Variants.none c none) Set.univ
          (cc0_decoder_layer i arg1 harg1 arg2 harg2 arg3 harg3 hbM0 (Memref.isWhole_whole _) arg5 harg5 arg6 harg6 arg7 harg7 arg8 harg8 arg9 harg9 hbM1 (Memref.isWhole_whole _) arg11 harg11 arg12 harg12 hbM2 (Memref.isWhole_whole _) arg14 harg14 arg15 harg15 hbM3 (Memref.isWhole_whole _) arg17 harg17 arg18 harg18 scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) scM18 (Memref.isWhole_whole _) scM19 (Memref.isWhole_whole _) cc0_scoped3) K := by
  simp only [cc0_decoder_layer_eq_skeleton]; unfold cc0_decoder_layer_skel
  unfold owns
  iintro ⟨⟨%f1, %e1, H1⟩, ⟨%f2, %e2, H2⟩, ⟨%f3, %e3, H3⟩, ⟨%f5, %e5, H5⟩, ⟨%f6, %e6, H6⟩, ⟨%f7, %e7, H7⟩, ⟨%f8, %e8, H8⟩, ⟨%f9, %e9, H9⟩, ⟨%f11, %e11, H11⟩, ⟨%f12, %e12, H12⟩, ⟨%f14, %e14, H14⟩, ⟨%f15, %e15, H15⟩, ⟨%f17, %e17, H17⟩, ⟨%d18, %f18, -, H18⟩, ⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s13, S13⟩, ⟨%s14, S14⟩, ⟨%s15, S15⟩, ⟨%s16, S16⟩, ⟨%s17, S17⟩, ⟨%s18, S18⟩, ⟨%s19, S19⟩, Q0, Q1, Q2, B0, B1, B2, B3, HW, Hk⟩
  sl_exec_parts
  sl_step
  iapply Hk
  isplitl [H1]; · (iexists f1; isplitr; · (ipureintro; exact e1)); iexact H1
  isplitl [H2]; · (iexists f2; isplitr; · (ipureintro; exact e2)); iexact H2
  isplitl [H3]; · (iexists f3; isplitr; · (ipureintro; exact e3)); iexact H3
  isplitl [H5]; · (iexists f5; isplitr; · (ipureintro; exact e5)); iexact H5
  isplitl [H6]; · (iexists f6; isplitr; · (ipureintro; exact e6)); iexact H6
  isplitl [H7]; · (iexists f7; isplitr; · (ipureintro; exact e7)); iexact H7
  isplitl [H8]; · (iexists f8; isplitr; · (ipureintro; exact e8)); iexact H8
  isplitl [H9]; · (iexists f9; isplitr; · (ipureintro; exact e9)); iexact H9
  isplitl [H11]; · (iexists f11; isplitr; · (ipureintro; exact e11)); iexact H11
  isplitl [H12]; · (iexists f12; isplitr; · (ipureintro; exact e12)); iexact H12
  isplitl [H14]; · (iexists f14; isplitr; · (ipureintro; exact e14)); iexact H14
  isplitl [H15]; · (iexists f15; isplitr; · (ipureintro; exact e15)); iexact H15
  isplitl [H17]; · (iexists f17; isplitr; · (ipureintro; exact e17)); iexact H17
  isplitl [H18]
  · iexists _, _; isplitr; swap; · iexact H18
    ipureintro; rfl
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  isplitl [S10]; · iexists _; iexact S10
  isplitl [S11]; · iexists _; iexact S11
  isplitl [S12]; · iexists _; iexact S12
  isplitl [S13]; · iexists _; iexact S13
  isplitl [S14]; · iexists _; iexact S14
  isplitl [S15]; · iexists _; iexact S15
  isplitl [S16]; · iexists _; iexact S16
  isplitl [S17]; · iexists _; iexact S17
  isplitl [S18]; · iexists _; iexact S18
  isplitl [S19]; · iexists _; iexact S19
  isplitl [Q0]; · iexact Q0
  isplitl [Q1]; · iexact Q1
  isplitl [Q2]; · iexact Q2
  isplitl [B0]; · iexact B0
  isplitl [B1]; · iexact B1
  isplitl [B2]; · iexact B2
  isplitl [B3]; · iexact B3
  iexists _; iexact HW

end Cert.KernelIdeal.Hand

end
-- ==== Proof.KFrame.lean ====
/-
  The frame of the fused decoder layer: from its three kinds of grid point to the whole program.
-/
module

public import proofs.«01_k».proof.Proof.KFirst
public import proofs.«01_k».proof.Proof.KMid
public import proofs.«01_k».proof.Proof.KLast
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel holds beside its windows -/

/-- The three semaphores of the weights' staging slots. -/
abbrev osem : Fin 3 → SemLoc sig := fun j => (![SemLoc.dma 17, SemLoc.dma 18, SemLoc.dma 19] : Fin 3 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 17) 0 ∗ semVal ((c : Thread nD τ), SemLoc.dma 18) 0
          ∗ semVal ((c : Thread nD τ), SemLoc.dma 19) 0) := by
  rw [Pipeline.ownSems0_eq_of_list c osem [0, 1, 2] (by decide) (by decide)]; rfl
/-- The operands left in HBM that the weights' copies read. -/
def H0 : Finset (Ref sig .tc) := {main_v1, main_arg8, main_arg11, main_arg14}
theorem H0_sub : H0 ⊆ Pipeline.restRefs sig spec0 := by decide
theorem hbmPts_eq (c : Dev nD) :
    (bigSep H0 (fun b => ((c : Thread nD τ).loc b) ↦{fullShare} V m c b) : sProp 𝕄)
      = iprop(hbPt c hbM0 (V m c main_v1) ∗ hbPt c hbM1 (V m c main_arg8) ∗ hbPt c hbM2 (V m c main_arg11) ∗ hbPt c hbM3 (V m c main_arg14)) := by
  rw [BI.bigSep_eq_bigSepL_of_eq [main_v1, main_arg8, main_arg11, main_arg14] (by decide) (by decide)]; rfl
set_option maxHeartbeats 1600000 in
/-- The staging rings and the scratch buffers, each whole at some contents. -/
theorem scoped_eq (c : Dev nD) :
    (Pipeline.scopedRest (Ix := Unit) (Name := ℕ) (U := Pipeline.UD sig nD τ) (Lvl := ℕ) (Val := Elt F) spec0 c : sProp 𝕄)
      = iprop((∃ f, hbPt c scM0 f) ∗ (∃ f, hbPt c scM1 f) ∗ (∃ f, hbPt c scM2 f) ∗ (∃ f, hbPt c scM3 f) ∗ (∃ f, hbPt c scM4 f) ∗ (∃ f, hbPt c scM5 f) ∗ (∃ f, hbPt c scM6 f) ∗ (∃ f, hbPt c scM7 f) ∗ (∃ f, hbPt c scM8 f) ∗ (∃ f, hbPt c scM9 f) ∗ (∃ f, hbPt c scM10 f) ∗ (∃ f, hbPt c scM11 f) ∗ (∃ f, hbPt c scM12 f) ∗ (∃ f, hbPt c scM13 f) ∗ (∃ f, hbPt c scM14 f) ∗ (∃ f, hbPt c scM15 f) ∗ (∃ f, hbPt c scM16 f) ∗ (∃ f, hbPt c scM17 f) ∗ (∃ f, hbPt c scM18 f) ∗ (∃ f, hbPt c scM19 f)) := by
  rw [scopedRest0_eq]
theorem Phi_eq (c : Dev nD) :
    (Pipeline.ΦD osem spec0 H0 (V m) c : sProp 𝕄)
      = iprop(iprop((∃ f, hbPt c scM0 f) ∗ (∃ f, hbPt c scM1 f) ∗ (∃ f, hbPt c scM2 f) ∗ (∃ f, hbPt c scM3 f) ∗ (∃ f, hbPt c scM4 f) ∗ (∃ f, hbPt c scM5 f) ∗ (∃ f, hbPt c scM6 f) ∗ (∃ f, hbPt c scM7 f) ∗ (∃ f, hbPt c scM8 f) ∗ (∃ f, hbPt c scM9 f) ∗ (∃ f, hbPt c scM10 f) ∗ (∃ f, hbPt c scM11 f) ∗ (∃ f, hbPt c scM12 f) ∗ (∃ f, hbPt c scM13 f) ∗ (∃ f, hbPt c scM14 f) ∗ (∃ f, hbPt c scM15 f) ∗ (∃ f, hbPt c scM16 f) ∗ (∃ f, hbPt c scM17 f) ∗ (∃ f, hbPt c scM18 f) ∗ (∃ f, hbPt c scM19 f))
          ∗ (∃ r, prngReg c r)
          ∗ iprop(semVal ((c : Thread nD τ), SemLoc.dma 17) 0 ∗ semVal ((c : Thread nD τ), SemLoc.dma 18) 0
              ∗ semVal ((c : Thread nD τ), SemLoc.dma 19) 0)
          ∗ iprop(hbPt c hbM0 (V m c main_v1) ∗ hbPt c hbM1 (V m c main_arg8) ∗ hbPt c hbM2 (V m c main_arg11) ∗ hbPt c hbM3 (V m c main_arg14))) := by
  rw [Pipeline.ΦD_eq, scoped_eq, ownSems_eq, hbmPts_eq]

/-! ## The proof data: every window's contents left unnamed -/

def dats (_ : Fin 1) (c : Dev nD) : Dat τ (Elt F) Unit ℕ (Pipeline.UD sig nD τ) ℕ cfg0 c where
  A w := V m c (Pipeline.arrRef spec0 w)
  after w t := Dat.unnamed w t
  Φ _ := Pipeline.ΦD osem spec0 H0 (V m) c
  q w := Pipeline.shareOf spec0 w
  owed _ := 0

theorem A_eq (c : Dev nD) (w : Fin cfg0.W) : (dats m 0 c).A w = V m c (Pipeline.arrRef spec0 w) := by
  dsimp only [dats]

/-- The three kinds of grid point. -/
theorem kinds : ∀ t : Fin cfg0.N,
    ((Scalar.cmpi .ne (Scalar.extui (Scalar.cmpi .eq (BitVec.ofNat 32 (grid0.coords t 0).val) 0#32) : BitVec 32) 0#32 : BitVec 1) = 1#1
        ∧ (¬ k0_cond3 (grid0.coords t) = 1#1) ∧ ¬ k0_cond8 (grid0.coords t) = 1#1)
    ∨ ((¬ (Scalar.cmpi .ne (Scalar.extui (Scalar.cmpi .eq (BitVec.ofNat 32 (grid0.coords t 0).val) 0#32) : BitVec 32) 0#32 : BitVec 1) = 1#1)
        ∧ k0_cond3 (grid0.coords t) = 1#1 ∧ ¬ k0_cond8 (grid0.coords t) = 1#1)
    ∨ ((¬ (Scalar.cmpi .ne (Scalar.extui (Scalar.cmpi .eq (BitVec.ofNat 32 (grid0.coords t 0).val) 0#32) : BitVec 32) 0#32 : BitVec 1) = 1#1)
        ∧ (¬ k0_cond3 (grid0.coords t) = 1#1) ∧ k0_cond8 (grid0.coords t) = 1#1) := by
  decide +kernel

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d))
def bodyPost (c : Dev nD) (t : Fin cfg0.N) : sProp 𝕄 :=
  iprop((dats m 0 c).Φ t.succ ∗ (dats m 0 c).owesAt () t.succ
    ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d))

set_option maxRecDepth 16384 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD osem spec0 H0 (V m) c from rfl, Phi_eq]
  unfold Dat.owesAt Pipeline.owesWithin
  rw [show (dats m 0 c).owed t.castSucc = 0 from rfl, show (dats m 0 c).owed t.succ = 0 from rfl]
  iintro ⟨⟨⟨S0, S1, S2, S3, S4, S5, S6, S7, S8, S9, S10, S11, S12, S13, S14, S15, S16, S17, S18, S19⟩, Hg, ⟨Q0, Q1, Q2⟩, ⟨B0, B1, B2, B3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rcases kinds t with ⟨c1, c3, c8⟩ | ⟨c1, c3, c8⟩ | ⟨c1, c3, c8⟩
  · iapply (run_first c (grid0.coords t) c1 c3 c8 _ _ _ _ _ _ _ _ _ _ _ _ _ _ _ _ _ _ _ _ _ _ _ _ _ _ _ _ d0 d1 d2 d3 d4 d5 d6 d7 d8 d9 d10 d11 d12 (V m c main_v1) (V m c main_arg8) (V m c main_arg11) (V m c main_arg14) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [Q0]; · iexact Q0
    isplitl [Q1]; · iexact Q1
    isplitl [Q2]; · iexact Q2
    isplitl [B0]; · iexact B0
    isplitl [B1]; · iexact B1
    isplitl [B2]; · iexact B2
    isplitl [B3]; · iexact B3
    isplitl [HW]; · iexact HW
    iintro ⟨H0, H1, H2, H3, H4, H5, H6, H7, H8, H9, H10, H11, H12, H13, S0, S1, S2, S3, S4, S5, S6, S7, S8, S9, S10, S11, S12, S13, S14, S15, S16, S17, S18, S19, Q0, Q1, Q2, B0, B1, B2, B3, ⟨%W', HW⟩⟩
    isplitl [S0 S1 S2 S3 S4 S5 S6 S7 S8 S9 S10 S11 S12 S13 S14 S15 S16 S17 S18 S19 Hg Q0 Q1 Q2 B0 B1 B2 B3]
    · isplitl [S0 S1 S2 S3 S4 S5 S6 S7 S8 S9 S10 S11 S12 S13 S14 S15 S16 S17 S18 S19]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        isplitl [S12]; · iexact S12
        isplitl [S13]; · iexact S13
        isplitl [S14]; · iexact S14
        isplitl [S15]; · iexact S15
        isplitl [S16]; · iexact S16
        isplitl [S17]; · iexact S17
        isplitl [S18]; · iexact S18
        iexact S19
      isplitl [Hg]; · iexact Hg
      isplitl [Q0 Q1 Q2]
      · isplitl [Q0]; · iexact Q0
        isplitl [Q1]; · iexact Q1
        iexact Q2
      isplitl [B0]; · iexact B0
      isplitl [B1]; · iexact B1
      isplitl [B2]; · iexact B2
      iexact B3
    isplitl [HW]
    · iexists W'; isplitr; · ipureintro; exact fun _ _ => Or.inl trivial
      iexact HW
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexact H13
  · iapply (run_mid c (grid0.coords t) c1 c3 c8 _ _ _ _ _ _ _ _ _ _ _ _ _ _ _ _ _ _ _ _ _ _ _ _ _ _ _ _ d0 d1 d2 d3 d4 d5 d6 d7 d8 d9 d10 d11 d12 (V m c main_v1) (V m c main_arg8) (V m c main_arg11) (V m c main_arg14) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [Q0]; · iexact Q0
    isplitl [Q1]; · iexact Q1
    isplitl [Q2]; · iexact Q2
    isplitl [B0]; · iexact B0
    isplitl [B1]; · iexact B1
    isplitl [B2]; · iexact B2
    isplitl [B3]; · iexact B3
    isplitl [HW]; · iexact HW
    iintro ⟨H0, H1, H2, H3, H4, H5, H6, H7, H8, H9, H10, H11, H12, H13, S0, S1, S2, S3, S4, S5, S6, S7, S8, S9, S10, S11, S12, S13, S14, S15, S16, S17, S18, S19, Q0, Q1, Q2, B0, B1, B2, B3, ⟨%W', HW⟩⟩
    isplitl [S0 S1 S2 S3 S4 S5 S6 S7 S8 S9 S10 S11 S12 S13 S14 S15 S16 S17 S18 S19 Hg Q0 Q1 Q2 B0 B1 B2 B3]
    · isplitl [S0 S1 S2 S3 S4 S5 S6 S7 S8 S9 S10 S11 S12 S13 S14 S15 S16 S17 S18 S19]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        isplitl [S12]; · iexact S12
        isplitl [S13]; · iexact S13
        isplitl [S14]; · iexact S14
        isplitl [S15]; · iexact S15
        isplitl [S16]; · iexact S16
        isplitl [S17]; · iexact S17
        isplitl [S18]; · iexact S18
        iexact S19
      isplitl [Hg]; · iexact Hg
      isplitl [Q0 Q1 Q2]
      · isplitl [Q0]; · iexact Q0
        isplitl [Q1]; · iexact Q1
        iexact Q2
      isplitl [B0]; · iexact B0
      isplitl [B1]; · iexact B1
      isplitl [B2]; · iexact B2
      iexact B3
    isplitl [HW]
    · iexists W'; isplitr; · ipureintro; exact fun _ _ => Or.inl trivial
      iexact HW
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexact H13
  · iapply (run_last c (grid0.coords t) c1 c3 c8 _ _ _ _ _ _ _ _ _ _ _ _ _ _ _ _ _ _ _ _ _ _ _ _ _ _ _ _ d0 d1 d2 d3 d4 d5 d6 d7 d8 d9 d10 d11 d12 (V m c main_v1) (V m c main_arg8) (V m c main_arg11) (V m c main_arg14) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [Q0]; · iexact Q0
    isplitl [Q1]; · iexact Q1
    isplitl [Q2]; · iexact Q2
    isplitl [B0]; · iexact B0
    isplitl [B1]; · iexact B1
    isplitl [B2]; · iexact B2
    isplitl [B3]; · iexact B3
    isplitl [HW]; · iexact HW
    iintro ⟨H0, H1, H2, H3, H4, H5, H6, H7, H8, H9, H10, H11, H12, H13, S0, S1, S2, S3, S4, S5, S6, S7, S8, S9, S10, S11, S12, S13, S14, S15, S16, S17, S18, S19, Q0, Q1, Q2, B0, B1, B2, B3, ⟨%W', HW⟩⟩
    isplitl [S0 S1 S2 S3 S4 S5 S6 S7 S8 S9 S10 S11 S12 S13 S14 S15 S16 S17 S18 S19 Hg Q0 Q1 Q2 B0 B1 B2 B3]
    · isplitl [S0 S1 S2 S3 S4 S5 S6 S7 S8 S9 S10 S11 S12 S13 S14 S15 S16 S17 S18 S19]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        isplitl [S12]; · iexact S12
        isplitl [S13]; · iexact S13
        isplitl [S14]; · iexact S14
        isplitl [S15]; · iexact S15
        isplitl [S16]; · iexact S16
        isplitl [S17]; · iexact S17
        isplitl [S18]; · iexact S18
        iexact S19
      isplitl [Hg]; · iexact Hg
      isplitl [Q0 Q1 Q2]
      · isplitl [Q0]; · iexact Q0
        isplitl [Q1]; · iexact Q1
        iexact Q2
      isplitl [B0]; · iexact B0
      isplitl [B1]; · iexact B1
      isplitl [B2]; · iexact B2
      iexact B3
    isplitl [HW]
    · iexists W'; isplitr; · ipureintro; exact fun _ _ => Or.inl trivial
      iexact HW
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationLoose (dats (F := F) m 0 c) (defs₀ (F := F)) Variants.none () Set.univ (fun _ => true) := fun t => by
  simp only []
  rw [defs₀_row, bigSep_W0]
  exact triple_restated (sound_body m c t) rfl .rfl fun _ => .rfl

/-! ## The run and the frame -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The one line after the region reads none of the operands the copies read. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun j => j.elim0) ?_
  simp only [hostOps1, List.mem_cons, List.mem_nil_iff, or_false] at hop
  rcases hop with rfl
  intro b hb
  simp only [H0, Finset.mem_insert, Finset.mem_singleton] at hb
  simp only [StableHlo.reshape_bufs, Finset.mem_insert, Finset.mem_singleton, not_or]
  rcases hb with rfl | rfl | rfl | rfl <;>
    exact ⟨StableHlo.devRef_ne_of_ne (by decide), StableHlo.devRef_ne_of_ne (by decide)⟩

/-- It writes the result only. -/
theorem sfx_T : ∀ ops ∈ ([hostOps1] : List (List (HloOp τ sig (Elt F)))), ∀ op ∈ ops,
    ∀ b : Ref sig .tc, Proc.devRef .tc b ∈ op.writes → b ∈ ({main_v11} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  exact Finset.mem_singleton.mpr (Proc.devRef_injective _ hb)

set_option backward.isDefEq.respectTransparency.types false in
theorem run_main : θ_run defs (onTc (τ := τ) (main (F := F))) (s₀ m ρ)
    (fun r => Pipeline.RDat.FramePostR (cfgs 0) (fun c => (dats m 0 c).toRForget (fun _ => true)) {main_v11} (V m) r ∧ r.2.sem = fun _ => 0) :=
  Pipeline.θ_run_frame_dma_around_T_forget_shared (Q' := _) cfgs (dats m) (0 : Fin 1) launch₀0 osem defs₀ Variants.none (fun _ => true)
    ownSemFacts H0 {main_v11} H0_sub m ρ main
    (hbody := body_obligation m) (hq := fun _ _ _ => rfl) (howed := fun _ _ => rfl) (V₀ := V0 m) (opss := [hostOps1])
    (hsub := sfx_but) (hfresh := sfx_fresh) (hkeep := sfx_keeps) (hT := sfx_T) (hmain := hmainD m Variants.none) (hA := A_eq m)
    (hin := fun _ => .rfl) (hout := fun _ => .rfl)

/-- An argument that is a window's array, at a state the run ends in. -/
theorem kept_win (r : PUnit × MemSt nD τ sig (Elt F)) (h : Pipeline.RDat.FramePostR (cfgs 0) (fun c => (dats m 0 c).toRForget (fun _ => true)) {main_v11} (V m) r)
    (c : Dev nD) (w : Fin cfg0.W) (hw : (spec0 w).isOut = false) :
    r.2.mem ((c.tc : Thread nD τ).loc (Pipeline.arrRef spec0 w)) = V m c (Pipeline.arrRef spec0 w) :=
  Eq.trans (Pipeline.RDat.FramePostR.arr_in h c w hw) (A_eq m c w)
/-- Any other array the run leaves alone, at a state the run ends in. -/
theorem kept_rest (r : PUnit × MemSt nD τ sig (Elt F)) (h : Pipeline.RDat.FramePostR (cfgs 0) (fun c => (dats m 0 c).toRForget (fun _ => true)) {main_v11} (V m) r)
    (c : Dev nD) (b : Ref sig .tc) (hb : b ∈ Pipeline.restRefs sig spec0 \ {main_v11}) :
    r.2.mem ((c.tc : Thread nD τ).loc b) = V m c b :=
  (h c).2 b hb

/-- The frame at any float interpretation: the argument arrays end as they began and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15))
      ∧ r.2.sem = fun _ => 0) :=
  (θ_run defs _ _).mono (fun r h => ⟨fun c => ⟨(kept_rest m r h.1 c main_arg0 (Finset.mem_sdiff.mpr ⟨Pipeline.mem_restRefs_of main_arg0 (by decide) (by decide), by decide⟩)).trans (V_main_arg0 m c), (kept_rest m r h.1 c main_arg1 (Finset.mem_sdiff.mpr ⟨Pipeline.mem_restRefs_of main_arg1 (by decide) (by decide), by decide⟩)).trans (V_main_arg1 m c), (kept_rest m r h.1 c main_arg2 (Finset.mem_sdiff.mpr ⟨Pipeline.mem_restRefs_of main_arg2 (by decide) (by decide), by decide⟩)).trans (V_main_arg2 m c), (kept_win m r h.1 c 3 rfl).trans (V_main_arg3 m c), (kept_rest m r h.1 c main_arg4 (Finset.mem_sdiff.mpr ⟨Pipeline.mem_restRefs_of main_arg4 (by decide) (by decide), by decide⟩)).trans (V_main_arg4 m c), (kept_win m r h.1 c 5 rfl).trans (V_main_arg5 m c), (kept_rest m r h.1 c main_arg6 (Finset.mem_sdiff.mpr ⟨Pipeline.mem_restRefs_of main_arg6 (by decide) (by decide), by decide⟩)).trans (V_main_arg6 m c), (kept_rest m r h.1 c main_arg7 (Finset.mem_sdiff.mpr ⟨Pipeline.mem_restRefs_of main_arg7 (by decide) (by decide), by decide⟩)).trans (V_main_arg7 m c), (kept_rest m r h.1 c main_arg8 (Finset.mem_sdiff.mpr ⟨Pipeline.mem_restRefs_of main_arg8 (by decide) (by decide), by decide⟩)).trans (V_main_arg8 m c), (kept_rest m r h.1 c main_arg9 (Finset.mem_sdiff.mpr ⟨Pipeline.mem_restRefs_of main_arg9 (by decide) (by decide), by decide⟩)).trans (V_main_arg9 m c), (kept_rest m r h.1 c main_arg10 (Finset.mem_sdiff.mpr ⟨Pipeline.mem_restRefs_of main_arg10 (by decide) (by decide), by decide⟩)).trans (V_main_arg10 m c), (kept_rest m r h.1 c main_arg11 (Finset.mem_sdiff.mpr ⟨Pipeline.mem_restRefs_of main_arg11 (by decide) (by decide), by decide⟩)).trans (V_main_arg11 m c), (kept_win m r h.1 c 10 rfl).trans (V_main_arg12 m c), (kept_rest m r h.1 c main_arg13 (Finset.mem_sdiff.mpr ⟨Pipeline.mem_restRefs_of main_arg13 (by decide) (by decide), by decide⟩)).trans (V_main_arg13 m c), (kept_rest m r h.1 c main_arg14 (Finset.mem_sdiff.mpr ⟨Pipeline.mem_restRefs_of main_arg14 (by decide) (by decide), by decide⟩)).trans (V_main_arg14 m c), (kept_rest m r h.1 c main_arg15 (Finset.mem_sdiff.mpr ⟨Pipeline.mem_restRefs_of main_arg15 (by decide) (by decide), by decide⟩)).trans (V_main_arg15 m c)⟩, h.2⟩) (run_main m ρ)

end Cert.KernelIdeal.Hand

end
-- ==== Proof.FfnChunk.lean ====
/-
  The feed-forward kernel's eleven column chunks are one function. Each chunk computes 256 columns of the gate and
  value projections, the causal three-tap convolution of the gate, and the gated activation; the printed body cuts
  the chunks' operations into differently shaped pieces, and this module brings every piece back to `actC` and `gateC`.
-/
module

public import proofs.«01_k».proof.Defs
public import proofs.«01_k».proof.Proof.Gen.FfnIdeal.Skeleton
public import Idealize.ShloMosaic.Lib.Pointwise

@[expose] public section

noncomputable section

open Idealize.ShloMosaic Idealize.ShloMosaic.TcCoe

namespace Cert.FfnIdeal.Hand

open Cert.FfnIdeal Cert.FfnIdeal.Gen

variable {F : FTy → Type} [FloatOps F]

/-- The row numbers of an eight-row block. -/
abbrev rowI : IVec S8x256 32 := iota .tc S8x256 32 [0] iota_S8x256_d0_w32

/-- One chunk of the gate: the normalised rows times 256 columns of the weights. -/
def gateC (h : FVec F S512x1024 .bf16) (w : Vec F S1024x256 .bf16) : FVec F S512x256 .f32 := k0_pay20 h w

/-- The last eight rows of a gate chunk: what the kernel carries to the next block of rows. -/
def tailC (h : FVec F S512x1024 .bf16) (w : Vec F S1024x256 .bf16) : FVec F S8x256 .f32 := k0_pay22 h w

/-- One chunk of the activation: gate, value, convolution with the eight carried rows `prev`, gated product. -/
def actC (h : FVec F S512x1024 .bf16) (wg wv : Vec F S1024x256 .bf16) (prev : Vec F S8x256 .f32)
    (cw : Vec F S3x256 .f32) (cb : Vec F S1x256 .f32) : FVec F S512x256 .bf16 :=
  k0_pay26 (k0_pay25 rowI (k0_pay20 h wg) (k0_pay21 h wv) (k0_pay23 prev) (k0_pay24 prev) cw cb)

section Chunks

variable (x0 : Vec F S1x512x1024 .f32) (x1 : Vec F S1x1024 .f32) (h : FVec F S512x1024 .bf16)
  (wg wv : Vec F S1024x256 .bf16) (prev : Vec F S8x256 .f32) (cw : Vec F S3x256 .f32) (cb : Vec F S1x256 .f32)

/-- Chunk 0 of the activation. -/
theorem chunk0 : k0_pay12 (k0_pay11 rowI (k0_pay5 x0 x1 wg) (k0_pay6 x0 x1 wv) (k0_pay8 prev) (k0_pay9 prev) (k0_pay10 x0 x1 wg) cw cb) = actC (k0_pay4 x0 x1) wg wv prev cw cb := rfl

/-- Chunk 1 of the activation. -/
theorem chunk1 : k0_pay19 (k0_pay13 h wg) (k0_pay14 h wv) (k0_pay17 h rowI wg prev) (k0_pay18 h rowI wg prev) cw cb = actC h wg wv prev cw cb := rfl

/-- Chunk 2 of the activation. -/
theorem chunk2 : k0_pay26 (k0_pay25 rowI (k0_pay20 h wg) (k0_pay21 h wv) (k0_pay23 prev) (k0_pay24 prev) cw cb) = actC h wg wv prev cw cb := rfl

/-- Chunk 3 of the activation. -/
theorem chunk3 : k0_pay33 (k0_pay27 h wg) (k0_pay28 h wv) (k0_pay31 h rowI wg prev) (k0_pay32 h rowI wg prev) cw cb = actC h wg wv prev cw cb := rfl

/-- Chunk 4 of the activation. -/
theorem chunk4 : k0_pay40 (k0_pay35 h wv) (k0_pay38 rowI (k0_pay34 h wg) prev cw cb) (k0_pay39 rowI (k0_pay34 h wg) prev cw cb) = actC h wg wv prev cw cb := rfl

/-- Chunk 5 of the activation. -/
theorem chunk5 : k0_pay49 (k0_pay41 h wg) (k0_pay42 h wv) (k0_pay46 h rowI wg prev) (k0_pay47 h rowI wg prev) (k0_pay48 h wg) cw cb = actC h wg wv prev cw cb := rfl

/-- Chunk 6 of the activation. -/
theorem chunk6 : k0_pay57 (k0_pay51 h wv) (k0_pay55 rowI (k0_pay50 h wg) prev cw cb) (k0_pay56 rowI (k0_pay50 h wg) prev cw cb) (FloatOps.ofBits FTy.f32 1065353216#32) = actC h wg wv prev cw cb := rfl

/-- Chunk 7 of the activation. -/
theorem chunk7 : k0_pay67 (k0_pay58 h wg) (k0_pay59 h wv) (k0_pay63 h wg) (k0_pay64 h rowI wg prev) (k0_pay65 h rowI wg prev) (k0_pay66 h wg) cw cb = actC h wg wv prev cw cb := rfl

/-- Chunk 8 of the activation. -/
theorem chunk8 : k0_pay75 (k0_pay69 h wv) (k0_pay73 rowI (k0_pay68 h wg) prev cw cb) (k0_pay74 rowI (k0_pay68 h wg) prev cw cb) = actC h wg wv prev cw cb := rfl

/-- Chunk 9 of the activation. -/
theorem chunk9 : k0_pay86 (k0_pay76 h wg) (k0_pay77 h wv) (k0_pay80 h wg) (k0_pay81 h wg) (k0_pay82 h rowI wg prev) (k0_pay83 rowI) (k0_pay84 h rowI wg prev) (k0_pay85 prev) cw cb = actC h wg wv prev cw cb := rfl

/-- Chunk 10 of the activation. -/
theorem chunk10 : k0_pay93 (k0_pay88 h wv) (k0_pay91 rowI (k0_pay87 h wg) prev cw cb) (k0_pay92 rowI (k0_pay87 h wg) prev cw cb) (FloatOps.ofBits FTy.f32 1060439283#32) = actC h wg wv prev cw cb := rfl

/-- Chunk 0 of the carried rows. -/
theorem tail0 : k0_pay7 x0 x1 wg = tailC (k0_pay4 x0 x1) wg := rfl

/-- Chunk 1 of the carried rows. -/
theorem tail1 : k0_pay15 h wg = tailC h wg := rfl

/-- Chunk 2 of the carried rows. -/
theorem tail2 : k0_pay22 h wg = tailC h wg := rfl

/-- Chunk 3 of the carried rows. -/
theorem tail3 : k0_pay29 h wg = tailC h wg := rfl

/-- Chunk 4 of the carried rows. -/
theorem tail4 : k0_pay36 h wg = tailC h wg := rfl

/-- Chunk 5 of the carried rows. -/
theorem tail5 : k0_pay43 h wg = tailC h wg := rfl

/-- Chunk 6 of the carried rows. -/
theorem tail6 : k0_pay53 (k0_pay52 h wg) = tailC h wg := rfl

/-- Chunk 7 of the carried rows. -/
theorem tail7 : k0_pay60 h wg = tailC h wg := rfl

/-- Chunk 8 of the carried rows. -/
theorem tail8 : k0_pay71 (k0_pay70 h wg) = tailC h wg := rfl

/-- Chunk 9 of the carried rows. -/
theorem tail9 : k0_pay78 h wg = tailC h wg := rfl

/-- Chunk 10 of the carried rows. -/
theorem tail10 : k0_pay90 (k0_pay89 h wg) = tailC h wg := rfl

end Chunks

end Cert.FfnIdeal.Hand

end
-- ==== Proof.FfnMath.lean ====
/-
  The feed-forward call's arithmetic over the extended reals, element by element: the normalised row, the gate and value
  projections, the three-tap causal convolution over a sequence of gate rows, the gated activation and the output row.
  The kernel's payloads are read at an index as these functions.
-/
module

public import proofs.«01_k».proof.Proof.FfnChunk
public import Idealize.ShloMosaic.Lib.Pointwise

@[expose] public section

noncomputable section

open Idealize.ShloMosaic Idealize.ShloMosaic.TcCoe
open Idealize.ShloMosaic.Pointwise

namespace Cert.FfnIdeal.Hand

open Cert.FfnIdeal Cert.FfnIdeal.Gen

/-- A row of 1024 entries divided by its root mean square and scaled by `g`, at entry `k`. -/
def rnorm (v g : Fin 1024 → EReal) (k : Fin 1024) : EReal :=
  v k * Ideal.rsqrt (Ideal.div (∑ j, v j * v j) (Ideal.ofBits .f32 0x44800000#32) + Ideal.ofBits .f32 0x358637BD#32) * g k

/-- The gated activation of a convolved gate `a` and a value `v`: `a/2 · (1 + erf (a/√2)) · v`, as the programs spell it. -/
def glu (a v : EReal) : EReal :=
  Ideal.ofBits .f32 0x3F000000#32 * a * (1 + Ideal.erf (a * Ideal.ofBits .f32 0x3F3504F3#32)) * v

/-- Three taps of the gate's sequence from place `n` on, and the bias. -/
def conv3 (p : ℕ → EReal) (n : ℕ) (w0 w1 w2 b : EReal) : EReal := p n * w0 + p (n + 1) * w1 + p (n + 2) * w2 + b

/-- The kernel's normalised block, at an entry. -/
theorem h_apply (x0 : Vec Ideal S1x512x1024 .f32) (x1 : Vec Ideal S1x1024 .f32) (r : Fin 512) (k : Fin 1024) :
    k0_pay4 x0 x1 (ix2 r k) = rnorm (fun k => x0 (ix3 0 r k)) (fun k => x1 (ix2 0 k)) k := by
  pointwise [k0_pay4, k0_pay3]
  rfl

/-- A gate chunk, at an entry. -/
theorem gateC_apply (h : FVec Ideal S512x1024 .bf16) (w : Vec Ideal S1024x256 .bf16) (r : Fin 512) (q : Fin 256) :
    gateC h w (ix2 r q) = ∑ k : Fin 1024, h (ix2 r k) * w (ix2 k q) := by
  pointwise [gateC, k0_pay20]

/-- The carried rows of a chunk, at an entry. -/
theorem tailC_apply (h : FVec Ideal S512x1024 .bf16) (w : Vec Ideal S1024x256 .bf16) (r : Fin 8) (q : Fin 256) :
    tailC h w (ix2 r q) = ∑ k : Fin 1024, h (ix2 ⟨504 + r.val, by omega⟩ k) * w (ix2 k q) := by
  pointwise [tailC, k0_pay22, k0_pay20]

theorem valC_apply (h : FVec Ideal S512x1024 .bf16) (w : Vec Ideal S1024x256 .bf16) (r : Fin 512) (q : Fin 256) :
    k0_pay21 h w (ix2 r q) = ∑ k : Fin 1024, h (ix2 r k) * w (ix2 k q) := by
  pointwise [k0_pay21]

/-- A select on a row number. -/
theorem select_row {α : Type} (r c : ℕ) (hr : r < 8) (hc : c < 8) (a b : α) :
    Scalar.select (IntOp.cmpi CmpIPredicate.eq (BitVec.ofNat 32 r) (BitVec.ofNat 32 c)) a b = if r = c then a else b := by
  interval_cases r <;> interval_cases c <;> rfl

set_option maxRecDepth 4000 in
/-- The activation chunk, at an entry: where `p` runs through the gate column's sequence, first the last two carried rows
    and then the chunk's own rows, row `r` takes the taps at `r`, `r + 1`, `r + 2`. -/
theorem actC_apply (h : FVec Ideal S512x1024 .bf16) (wg wv : Vec Ideal S1024x256 .bf16) (prev : Vec Ideal S8x256 .f32)
    (cw : Vec Ideal S3x256 .f32) (cb : Vec Ideal S1x256 .f32) (q : Fin 256) (p : ℕ → EReal)
    (h6 : prev (ix2 6 q) = p 0) (h7 : prev (ix2 7 q) = p 1)
    (hg : ∀ r : Fin 512, ∑ k : Fin 1024, h (ix2 r k) * wg (ix2 k q) = p (r.val + 2)) (r : Fin 512) :
    actC h wg wv prev cw cb (ix2 r q)
      = glu (conv3 p r.val (cw (ix2 0 q)) (cw (ix2 1 q)) (cw (ix2 2 q)) (cb (ix2 0 q)))
          (∑ k : Fin 1024, h (ix2 r k) * wv (ix2 k q)) := by
  have hg' : ∀ r : Fin 512, k0_pay20 h wg (ix2 r q) = p (r.val + 2) := fun r => (gateC_apply h wg r q).trans (hg r)
  have hv' := valC_apply h wv r q
  unfold actC
  revert hg' hv'
  generalize k0_pay20 h wg = g
  generalize k0_pay21 h wv = v
  intro hg' hv'
  rw [← hv']
  have e2 : (if h : r.val < 8 then
        Scalar.select (IntOp.cmpi CmpIPredicate.eq (BitVec.ofNat 32 r.val) 0#32) (prev (ix2 6 q))
          (Scalar.select (IntOp.cmpi CmpIPredicate.eq (BitVec.ofNat 32 r.val) 1#32) (prev (ix2 7 q))
            (g (ix2 ⟨(r.val + 512 - 2) % 512, by omega⟩ q)))
        else g (ix2 ⟨(8 + (r.val - 8) + 512 - 2) % 512, by omega⟩ q)) = p r.val := by
    have hr := r.isLt
    split
    · rename_i h8
      rw [show (0#32) = BitVec.ofNat 32 0 from rfl, show (1#32) = BitVec.ofNat 32 1 from rfl, select_row _ _ h8 (by omega),
        select_row _ _ h8 (by omega), h6, h7, hg']
      split
      · rename_i e; rw [e]
      · split
        · rename_i e; rw [e]
        · congr 1; dsimp only; omega
    · rw [hg']; congr 1; dsimp only; omega
  have e1 : (if h : r.val < 8 then
        Scalar.select (IntOp.cmpi CmpIPredicate.eq (BitVec.ofNat 32 r.val) 0#32) (prev (ix2 7 q))
            (g (ix2 ⟨(r.val + 512 - 1) % 512, by omega⟩ q))
        else g (ix2 ⟨(8 + (r.val - 8) + 512 - 1) % 512, by omega⟩ q)) = p (r.val + 1) := by
    have hr := r.isLt
    split
    · rename_i h8
      rw [show (0#32) = BitVec.ofNat 32 0 from rfl, select_row _ _ h8 (by omega), h7, hg']
      split
      · rename_i e; rw [e]
      · congr 1; dsimp only; omega
    · rw [hg']; congr 1; dsimp only; omega
  pointwise [k0_pay26, k0_pay25, k0_pay23, k0_pay24, rowI]
  rw [e2, e1, hg' r]
  rfl

/-- The output block, at an entry: the input row plus the normalised product of the activation with the weights. -/
theorem out_apply (x0 : Vec Ideal S1x512x1024 .f32) (a : Vec Ideal S512x2816 .bf16) (x5 : Vec Ideal S2816x1024 .bf16)
    (x6 : Vec Ideal S1x1024 .f32) (r : Fin 512) (d : Fin 1024) :
    k0_pay1 (k0_pay3 x0) (k0_pay94 a x5 x6) (ix3 0 r d)
      = x0 (ix3 0 r d) + rnorm (fun d => ∑ c : Fin 2816, a (ix2 r c) * x5 (ix2 c d)) (fun d => x6 (ix2 0 d)) d := by
  pointwise [k0_pay1, k0_pay3, k0_pay94]
  rfl

/-- The zero rows a batch starts from. -/
theorem zero_apply (i : Fin 8) (c : Fin 2816) : k0_pay2 (F := Ideal) (ix2 i c) = 0 := by
  pointwise [k0_pay2]

end Cert.FfnIdeal.Hand

end
-- ==== Proof.FfnBlock.lean ====
/-
  One grid point of the feed-forward call: what its body leaves in the output block and in the eight carried rows, read
  as values. The activation scratch is written in eleven column chunks and read back whole: each chunk is a block of one
  function `actL`, so the read is that function.
-/
module

public import proofs.«01_k».proof.Proof.FfnMath
public import proofs.«01_k».proof.Proof.Gen.FfnIdeal.Frame
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

noncomputable section

open Idealize.ShloMosaic Idealize.ShloMosaic.TcCoe
open Idealize.ShloMosaic.Pointwise

namespace Cert.FfnIdeal.Hand

open Cert.FfnIdeal Cert.FfnIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- Stores that are all blocks of one function leave that function wherever one of them covers. -/
theorem canon_pieces {s : Shape} {e : EltTy} (G : s.Idx → Elt Ideal e) (L : List (View.Piece (Elt Ideal) s e))
    (h : View.PiecesOf G L) (y : s.Idx) (hc : ∃ p ∈ L, y ∈ p.1.set) : View.canon L y = G y := by
  have e := View.canon_append_of_piecesOf G [] L h y hc
  rwa [List.append_nil] at e

/-- The same when only the last `n` stores are blocks of the function. -/
theorem canon_take {s : Shape} {e : EltTy} (G : s.Idx → Elt Ideal e) (n : ℕ) (L : List (View.Piece (Elt Ideal) s e))
    (h : View.PiecesOf G (L.take n)) (y : s.Idx) (hc : ∃ p ∈ L.take n, y ∈ p.1.set) : View.canon L y = G y := by
  have e := View.canon_append_of_piecesOf G (L.drop n) (L.take n) h y hc
  rwa [List.take_append_drop] at e

section Values

variable (x0 : Vec Ideal S1x512x1024 .f32) (x1 : Vec Ideal S1x1024 .f32) (x2 : Vec Ideal S1024x5632 .bf16)
  (x3 : Vec Ideal S3x2816 .f32) (x4 : Vec Ideal S1x2816 .f32)

/-- The block's projection onto weight column `c`, at row `r`. -/
def upL (r : Fin 512) (c : Fin 5632) : EReal := ∑ k : Fin 1024, k0_pay4 x0 x1 (ix2 r k) * x2 (ix2 k c)

/-- The block's activation at row `r`, column `c`, for the gate sequence `p` of each column. -/
def actL (p : Fin 2816 → ℕ → EReal) (i : S512x2816.Idx) : EReal :=
  glu (conv3 (p (i 1)) (i 0).val (x3 (ix2 0 (i 1))) (x3 (ix2 1 (i 1))) (x3 (ix2 2 (i 1))) (x4 (ix2 0 (i 1))))
    (upL x0 x1 x2 (i 0) ⟨2816 + (i 1).val, by have := (i 1).isLt; dsimp at this; omega⟩)

/-- The gate sequence of a block that starts with carried rows `xs`: the last two carried rows, then the block's. -/
structure Seq (xs : Vec Ideal S8x2816 .f32) (p : Fin 2816 → ℕ → EReal) : Prop where
  six : ∀ c, xs (ix2 6 c) = p c 0
  seven : ∀ c, xs (ix2 7 c) = p c 1
  rows : ∀ (c : Fin 2816) (r : Fin 512), upL x0 x1 x2 r ⟨c.val, by omega⟩ = p c (r.val + 2)

variable {x0 x1 x2}

/-- Each chunk's activation is a block of `actL`. -/
theorem act_piece {xs : Vec Ideal S8x2816 .f32} {p : Fin 2816 → ℕ → EReal} (hp : Seq x0 x1 x2 xs p) (o o' : ℕ)
    (ho : o + 256 ≤ 2816) (ho' : o' = 2816 + o)
    (i1 : ∀ a, (![0, o] : Fin 2 → ℕ) a + S1024x256.size a ≤ S1024x5632.size a)
    (i2 : ∀ a, (![0, o'] : Fin 2 → ℕ) a + S1024x256.size a ≤ S1024x5632.size a)
    (i3 : ∀ a, (![0, o] : Fin 2 → ℕ) a + S8x256.size a ≤ S8x2816.size a)
    (i4 : ∀ a, (![0, o] : Fin 2 → ℕ) a + S3x256.size a ≤ S3x2816.size a)
    (i5 : ∀ a, (![0, o] : Fin 2 → ℕ) a + S1x256.size a ≤ S1x2816.size a)
    (i6 : ∀ a, (![0, o] : Fin 2 → ℕ) a + S512x256.size a ≤ S512x2816.size a) (x : S512x256.Idx) :
    actC (k0_pay4 x0 x1) (View.ld x2 (Rect.unit ![0, o] S1024x256.size i1)) (View.ld x2 (Rect.unit ![0, o'] S1024x256.size i2))
      (View.ld xs (Rect.unit ![0, o] S8x256.size i3)) (View.ld x3 (Rect.unit ![0, o] S3x256.size i4))
      (View.ld x4 (Rect.unit ![0, o] S1x256.size i5)) x
      = actL x0 x1 x2 x3 x4 p ((Rect.unit (s := S512x2816) ![0, o] S512x256.size i6).emb x) := by
  subst ho'
  obtain ⟨r, q, rfl⟩ : ∃ (r : Fin 512) (q : Fin 256), x = ix2 r q := ⟨x 0, x 1, (ix2_eta x).symm⟩
  have hq := q.isLt
  have key : ∀ (M : ℕ) (k : Fin M) (off : ℕ) (N : ℕ) (hN : off + 256 ≤ N) (X : (⟨2, ![M, N]⟩ : Shape).Idx → EReal)
      (inb : ∀ a, (![0, off] : Fin 2 → ℕ) a + (![M, 256] : Fin 2 → ℕ) a ≤ (⟨2, ![M, N]⟩ : Shape).size a),
      X ((Rect.unit (s := ⟨2, ![M, N]⟩) ![0, off] ![M, 256] inb).idx (ix2 k q)) = X (ix2 k ⟨off + q.val, by omega⟩) := by
    intro M k off N hN X inb
    refine congrArg X (funext fun a => Fin.ext ?_)
    rw [Rect.idx_unit_val]
    match a with
    | ⟨0, _⟩ => show 0 + k.val = k.val; omega
    | ⟨1, _⟩ => rfl
  have hemb : (Rect.unit (s := S512x2816) ![0, o] S512x256.size i6).emb (ix2 r q) = ix2 r ⟨o + q.val, by omega⟩ := by
    funext a
    refine Fin.ext ((Rect.idx_unit_val _ _ _ _ a).trans ?_)
    match a with
    | ⟨0, _⟩ => show 0 + r.val = r.val; omega
    | ⟨1, _⟩ => rfl
  rw [hemb]
  rw [actC_apply _ _ _ _ _ _ q (p ⟨o + q.val, by omega⟩)
    ((key 8 6 o 2816 (by omega) xs i3).trans (hp.six _)) ((key 8 7 o 2816 (by omega) xs i3).trans (hp.seven _))
    (fun r => (Finset.sum_congr rfl fun k _ => congrArg (k0_pay4 x0 x1 (ix2 r k) * ·) (key 1024 k o 5632 (by omega) x2 i1)).trans
      (hp.rows ⟨o + q.val, by omega⟩ r)) r]
  unfold actL upL
  refine congr (congrArg glu ?_) (Finset.sum_congr rfl fun k _ => congrArg (k0_pay4 x0 x1 (ix2 r k) * ·)
    ((key 1024 k (2816 + o) 5632 (by omega) x2 i2).trans (congrArg x2 ?_)))
  · exact congr (congr (congr (congrArg (conv3 _ _) (key 3 0 o 2816 ho x3 i4)) (key 3 1 o 2816 ho x3 i4)) (key 3 2 o 2816 ho x3 i4))
      (key 1 0 o 2816 ho x4 i5)
  · exact congrArg (ix2 k) (Fin.ext (Nat.add_assoc _ _ _))

/-- The carried rows a block leaves: the last eight of its gate, so places 506 to 513 of the sequence. -/
def tailL (p : Fin 2816 → ℕ → EReal) (i : S8x2816.Idx) : EReal := p (i 1) (506 + (i 0).val)

/-- Each chunk's carried rows are a block of `tailL`. -/
theorem tail_piece {xs : Vec Ideal S8x2816 .f32} {p : Fin 2816 → ℕ → EReal} (hp : Seq x0 x1 x2 xs p) (o : ℕ)
    (ho : o + 256 ≤ 2816) (i1 : ∀ a, (![0, o] : Fin 2 → ℕ) a + S1024x256.size a ≤ S1024x5632.size a)
    (i3 : ∀ a, (![0, o] : Fin 2 → ℕ) a + S8x256.size a ≤ S8x2816.size a) (x : S8x256.Idx) :
    tailC (k0_pay4 x0 x1) (View.ld x2 (Rect.unit ![0, o] S1024x256.size i1)) x
      = tailL p ((Rect.unit (s := S8x2816) ![0, o] S8x256.size i3).emb x) := by
  obtain ⟨r, q, rfl⟩ : ∃ (r : Fin 8) (q : Fin 256), x = ix2 r q := ⟨x 0, x 1, (ix2_eta x).symm⟩
  have hq := q.isLt
  have hr := r.isLt
  have hemb : (Rect.unit (s := S8x2816) ![0, o] S8x256.size i3).emb (ix2 r q) = ix2 r ⟨o + q.val, by omega⟩ := by
    funext a
    refine Fin.ext ((Rect.idx_unit_val _ _ _ _ a).trans ?_)
    match a with
    | ⟨0, _⟩ => show 0 + r.val = r.val; omega
    | ⟨1, _⟩ => rfl
  rw [hemb, tailC_apply]
  have e := hp.rows ⟨o + q.val, by omega⟩ ⟨504 + r.val, by omega⟩
  show _ = p ⟨o + q.val, by omega⟩ (506 + r.val)
  rw [show 506 + r.val = 504 + r.val + 2 by omega]
  refine Eq.trans (Finset.sum_congr rfl fun k _ => congrArg (k0_pay4 x0 x1 (ix2 _ k) * ·) (congrArg x2 (funext fun a => Fin.ext ?_))) e
  rw [Rect.idx_unit_val]
  match a with
  | ⟨0, _⟩ => show 0 + k.val = k.val; omega
  | ⟨1, _⟩ => rfl

end Values

/-- Case B: the output block is the input block plus the normalised product of the activation `actL` with the weights. -/
theorem out_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x2816 .f32) (harg10 : arg10.IsWhole) (arg11 : Memref sig .tc .vmem S512x2816 .bf16) (harg11 : arg11.IsWhole) (hc0 : ¬cond0_0 i)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (x6 : Vec Ideal S1x1024 .f32) (xs0 : Vec Ideal S8x2816 .f32) (p : Fin 2816 → ℕ → EReal) (hp : Seq x0 x1 x2 xs0 p) :
    out0_B_7 c i arg2 harg2 arg3 harg3 arg4 harg4 arg5 harg5 arg6 harg6 arg7 harg7 arg8 harg8 arg9 harg9 arg10 harg10 arg11 harg11 hc0 x0 x1 x2 x3 x4 x5 x6 xs0 = k0_pay1 (k0_pay3 x0) (k0_pay94 (actL x0 x1 x2 x3 x4 p) x5 x6) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0)]
  unfold kernelRun0_B
  dsimp only
  sl_unfold_words
  rw [View.canon_unit_zero (S := S1x512x1024) hz3]
  simp only [View.readAt_eq_ld, harg2.read_unread, harg3.read_unread, harg4.read_unread, harg5.read_unread, harg6.read_unread, harg7.read_unread, harg8.read_unread, harg10.read_unread, View.ld_unit_zero (S := S1x512x1024) hz3, View.ld_unit_zero (S := S1x1024) hz2, View.ld_unit_zero (S := S2816x1024) hz2]
  refine congrArg (fun a => k0_pay1 (k0_pay3 x0) (k0_pay94 a x5 x6)) ?_
  rw [View.readCov_eq_canon']
  funext j
  refine (canon_pieces (actL x0 x1 x2 x3 x4 p) _ ?_ _ ?_).trans (congrArg _ (funext fun a => Fin.ext ?_))
  · simp only [View.PiecesOf, and_true]
    exact ⟨fun x => (congrFun (chunk10 _ _ _ _ _ _) x).trans (act_piece x3 x4 hp 2560 5376 (by norm_num) rfl _ _ _ _ _ _ x), fun x => (congrFun (chunk9 _ _ _ _ _ _) x).trans (act_piece x3 x4 hp 2304 5120 (by norm_num) rfl _ _ _ _ _ _ x), fun x => (congrFun (chunk8 _ _ _ _ _ _) x).trans (act_piece x3 x4 hp 2048 4864 (by norm_num) rfl _ _ _ _ _ _ x), fun x => (congrFun (chunk7 _ _ _ _ _ _) x).trans (act_piece x3 x4 hp 1792 4608 (by norm_num) rfl _ _ _ _ _ _ x), fun x => (congrFun (chunk6 _ _ _ _ _ _) x).trans (act_piece x3 x4 hp 1536 4352 (by norm_num) rfl _ _ _ _ _ _ x), fun x => (congrFun (chunk5 _ _ _ _ _ _) x).trans (act_piece x3 x4 hp 1280 4096 (by norm_num) rfl _ _ _ _ _ _ x), fun x => (congrFun (chunk4 _ _ _ _ _ _) x).trans (act_piece x3 x4 hp 1024 3840 (by norm_num) rfl _ _ _ _ _ _ x), fun x => (congrFun (chunk3 _ _ _ _ _ _) x).trans (act_piece x3 x4 hp 768 3584 (by norm_num) rfl _ _ _ _ _ _ x), fun x => (congrFun (chunk2 _ _ _ _ _ _) x).trans (act_piece x3 x4 hp 512 3328 (by norm_num) rfl _ _ _ _ _ _ x), fun x => (congrFun (chunk1 _ _ _ _ _ _) x).trans (act_piece x3 x4 hp 256 3072 (by norm_num) rfl _ _ _ _ _ _ x), fun x => (congrFun (chunk0 _ _ _ _ _ _ _) x).trans (act_piece x3 x4 hp 0 2816 (by norm_num) rfl _ _ _ _ _ _ x)⟩
  · exact View.cover_of_tiledL _ ![512, 256] (by sl_kernel_rfl) _
  · match a with
    | ⟨0, _⟩ => show 0 + 1 * (j 0).val = (j 0).val; omega
    | ⟨1, _⟩ => show 0 + 1 * (j 1).val = (j 1).val; omega

/-- Case B: the carried rows it leaves. -/
theorem sout_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x2816 .f32) (harg10 : arg10.IsWhole) (arg11 : Memref sig .tc .vmem S512x2816 .bf16) (harg11 : arg11.IsWhole) (hc0 : ¬cond0_0 i)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (x6 : Vec Ideal S1x1024 .f32) (xs0 : Vec Ideal S8x2816 .f32) (p : Fin 2816 → ℕ → EReal) (hp : Seq x0 x1 x2 xs0 p) :
    sout0_B_0 c i arg2 harg2 arg3 harg3 arg4 harg4 arg5 harg5 arg6 harg6 arg7 harg7 arg8 harg8 arg9 harg9 arg10 harg10 arg11 harg11 hc0 x0 x1 x2 x3 x4 x5 x6 xs0 = tailL p := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 x0 x1 x2 x3 x4 x5 x6 xs0)]
  have hcov := scover0_B_0 c i arg2 harg2 arg3 harg3 arg4 harg4 arg5 harg5 arg6 harg6 arg7 harg7 arg8 harg8 arg9 harg9 arg10 harg10 arg11 harg11 hc0 x0 x1 x2 x3 x4 x5 x6 xs0
  revert hcov
  unfold kernelRun0_B
  dsimp only
  sl_unfold_words
  simp only [View.readAt_eq_ld, harg2.read_unread, harg3.read_unread, harg4.read_unread, View.ld_unit_zero (S := S1x512x1024) hz3, View.ld_unit_zero (S := S1x1024) hz2]
  intro hcov
  funext j
  refine canon_pieces (tailL p) _ ?_ _ (hcov j)
  simp only [View.PiecesOf, and_true]
  exact ⟨fun x => (congrFun (tail10 _ _) x).trans (tail_piece hp 2560 (by norm_num) _ _ x), fun x => (congrFun (tail9 _ _) x).trans (tail_piece hp 2304 (by norm_num) _ _ x), fun x => (congrFun (tail8 _ _) x).trans (tail_piece hp 2048 (by norm_num) _ _ x), fun x => (congrFun (tail7 _ _) x).trans (tail_piece hp 1792 (by norm_num) _ _ x), fun x => (congrFun (tail6 _ _) x).trans (tail_piece hp 1536 (by norm_num) _ _ x), fun x => (congrFun (tail5 _ _) x).trans (tail_piece hp 1280 (by norm_num) _ _ x), fun x => (congrFun (tail4 _ _) x).trans (tail_piece hp 1024 (by norm_num) _ _ x), fun x => (congrFun (tail3 _ _) x).trans (tail_piece hp 768 (by norm_num) _ _ x), fun x => (congrFun (tail2 _ _) x).trans (tail_piece hp 512 (by norm_num) _ _ x), fun x => (congrFun (tail1 _ _) x).trans (tail_piece hp 256 (by norm_num) _ _ x), fun x => (congrFun (tail0 _ _ _) x).trans (tail_piece hp 0 (by norm_num) _ _ x)⟩

/-- Case A: the output block is the input block plus the normalised product of the activation `actL` with the weights. -/
theorem out_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x2816 .f32) (harg10 : arg10.IsWhole) (arg11 : Memref sig .tc .vmem S512x2816 .bf16) (harg11 : arg11.IsWhole) (hc0 : cond0_0 i)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (x6 : Vec Ideal S1x1024 .f32) (p : Fin 2816 → ℕ → EReal) (hp : Seq x0 x1 x2 (k0_pay2 (F := Ideal)) p) :
    out0_A_7 c i arg2 harg2 arg3 harg3 arg4 harg4 arg5 harg5 arg6 harg6 arg7 harg7 arg8 harg8 arg9 harg9 arg10 harg10 arg11 harg11 hc0 x0 x1 x2 x3 x4 x5 x6 = k0_pay1 (k0_pay3 x0) (k0_pay94 (actL x0 x1 x2 x3 x4 p) x5 x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero (S := S1x512x1024) hz3]
  simp (disch := decide) only [↓ View.readCov_skip, ↓ View.readCov_fill]
  simp only [View.readAt_eq_ld, harg2.read_unread, harg3.read_unread, harg4.read_unread, harg5.read_unread, harg6.read_unread, harg7.read_unread, harg8.read_unread, View.ld_unit_zero (S := S1x512x1024) hz3, View.ld_unit_zero (S := S1x1024) hz2, View.ld_unit_zero (S := S2816x1024) hz2]
  refine congrArg (fun a => k0_pay1 (k0_pay3 x0) (k0_pay94 a x5 x6)) ?_
  rw [View.readCov_eq_canon']
  funext j
  refine (canon_pieces (actL x0 x1 x2 x3 x4 p) _ ?_ _ ?_).trans (congrArg _ (funext fun a => Fin.ext ?_))
  · simp only [View.PiecesOf, and_true]
    exact ⟨fun x => (congrFun (chunk10 _ _ _ _ _ _) x).trans (act_piece x3 x4 hp 2560 5376 (by norm_num) rfl _ _ _ _ _ _ x), fun x => (congrFun (chunk9 _ _ _ _ _ _) x).trans (act_piece x3 x4 hp 2304 5120 (by norm_num) rfl _ _ _ _ _ _ x), fun x => (congrFun (chunk8 _ _ _ _ _ _) x).trans (act_piece x3 x4 hp 2048 4864 (by norm_num) rfl _ _ _ _ _ _ x), fun x => (congrFun (chunk7 _ _ _ _ _ _) x).trans (act_piece x3 x4 hp 1792 4608 (by norm_num) rfl _ _ _ _ _ _ x), fun x => (congrFun (chunk6 _ _ _ _ _ _) x).trans (act_piece x3 x4 hp 1536 4352 (by norm_num) rfl _ _ _ _ _ _ x), fun x => (congrFun (chunk5 _ _ _ _ _ _) x).trans (act_piece x3 x4 hp 1280 4096 (by norm_num) rfl _ _ _ _ _ _ x), fun x => (congrFun (chunk4 _ _ _ _ _ _) x).trans (act_piece x3 x4 hp 1024 3840 (by norm_num) rfl _ _ _ _ _ _ x), fun x => (congrFun (chunk3 _ _ _ _ _ _) x).trans (act_piece x3 x4 hp 768 3584 (by norm_num) rfl _ _ _ _ _ _ x), fun x => (congrFun (chunk2 _ _ _ _ _ _) x).trans (act_piece x3 x4 hp 512 3328 (by norm_num) rfl _ _ _ _ _ _ x), fun x => (congrFun (chunk1 _ _ _ _ _ _) x).trans (act_piece x3 x4 hp 256 3072 (by norm_num) rfl _ _ _ _ _ _ x), fun x => (congrFun (chunk0 _ _ _ _ _ _ _) x).trans (act_piece x3 x4 hp 0 2816 (by norm_num) rfl _ _ _ _ _ _ x)⟩
  · exact View.cover_of_tiledL _ ![512, 256] (by sl_kernel_rfl) _
  · match a with
    | ⟨0, _⟩ => show 0 + 1 * (j 0).val = (j 0).val; omega
    | ⟨1, _⟩ => show 0 + 1 * (j 1).val = (j 1).val; omega

/-- Case A: the carried rows it leaves. -/
theorem sout_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x2816 .f32) (harg10 : arg10.IsWhole) (arg11 : Memref sig .tc .vmem S512x2816 .bf16) (harg11 : arg11.IsWhole) (hc0 : cond0_0 i)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (x6 : Vec Ideal S1x1024 .f32) (p : Fin 2816 → ℕ → EReal) (hp : Seq x0 x1 x2 (k0_pay2 (F := Ideal)) p) :
    sout0_A_0 c i arg2 harg2 arg3 harg3 arg4 harg4 arg5 harg5 arg6 harg6 arg7 harg7 arg8 harg8 arg9 harg9 arg10 harg10 arg11 harg11 hc0 x0 x1 x2 x3 x4 x5 x6 = tailL p := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  have hcov := scover0_A_0 c i arg2 harg2 arg3 harg3 arg4 harg4 arg5 harg5 arg6 harg6 arg7 harg7 arg8 harg8 arg9 harg9 arg10 harg10 arg11 harg11 hc0 x0 x1 x2 x3 x4 x5 x6
  revert hcov
  unfold kernelRun0_A
  dsimp only
  sl_unfold_words
  simp only [View.readAt_eq_ld, harg2.read_unread, harg3.read_unread, harg4.read_unread, View.ld_unit_zero (S := S1x512x1024) hz3, View.ld_unit_zero (S := S1x1024) hz2]
  intro hcov
  funext j
  refine canon_take (s := S8x2816) (e := .f32) (tailL p) 11 _ ?_ _ ?_
  · simp only [List.take_succ_cons, List.take_zero, View.PiecesOf, and_true]
    exact ⟨fun x => (congrFun (tail10 _ _) x).trans (tail_piece hp 2560 (by norm_num) _ _ x), fun x => (congrFun (tail9 _ _) x).trans (tail_piece hp 2304 (by norm_num) _ _ x), fun x => (congrFun (tail8 _ _) x).trans (tail_piece hp 2048 (by norm_num) _ _ x), fun x => (congrFun (tail7 _ _) x).trans (tail_piece hp 1792 (by norm_num) _ _ x), fun x => (congrFun (tail6 _ _) x).trans (tail_piece hp 1536 (by norm_num) _ _ x), fun x => (congrFun (tail5 _ _) x).trans (tail_piece hp 1280 (by norm_num) _ _ x), fun x => (congrFun (tail4 _ _) x).trans (tail_piece hp 1024 (by norm_num) _ _ x), fun x => (congrFun (tail3 _ _) x).trans (tail_piece hp 768 (by norm_num) _ _ x), fun x => (congrFun (tail2 _ _) x).trans (tail_piece hp 512 (by norm_num) _ _ x), fun x => (congrFun (tail1 _ _) x).trans (tail_piece hp 256 (by norm_num) _ _ x), fun x => (congrFun (tail0 _ _ _) x).trans (tail_piece hp 0 (by norm_num) _ _ x)⟩
  · simp only [List.take_succ_cons, List.take_zero]
    exact View.cover_of_tiledL _ ![8, 256] (by sl_kernel_rfl) _

end Cert.FfnIdeal.Hand

end
-- ==== Proof.FfnSpec.lean ====
/-
  The feed-forward call as one formula of its arguments, and the reference program read as that formula: the rows are
  normalised, projected to gate and value, the gate is run through a three-tap causal convolution along its sequence
  (two zero rows before it), activated and multiplied by the value, projected back, normalised and added to the input.
-/
module

public import proofs.«01_k».proof.Proof.FfnMath
public import proofs.«01_k».proof.Proof.Gen.FfnRefIdeal.Run
public import proofs.«01_k».proof.Proof.Gen.FfnRefIdeal.Read

@[expose] public section

noncomputable section

open Idealize.ShloMosaic Idealize.ShloMosaic.TcCoe
open Idealize.ShloMosaic.Pointwise

namespace Cert.FfnIdeal.Hand

section Spec

variable (X : (⟨3, ![4, 4096, 1024]⟩ : Shape).Idx → EReal) (G1 : (⟨1, ![1024]⟩ : Shape).Idx → EReal)
  (W : (⟨2, ![1024, 5632]⟩ : Shape).Idx → EReal) (CW : (⟨2, ![3, 2816]⟩ : Shape).Idx → EReal)
  (CB : (⟨1, ![2816]⟩ : Shape).Idx → EReal) (WO : (⟨2, ![2816, 1024]⟩ : Shape).Idx → EReal)
  (G2 : (⟨1, ![1024]⟩ : Shape).Idx → EReal)

/-- The normalised input. -/
def hS (b : Fin 4) (s : Fin 4096) (k : Fin 1024) : EReal := rnorm (fun k => X (ix3 b s k)) (fun k => G1 (ix1 k)) k

/-- The projection onto weight column `c`. -/
def upS (b : Fin 4) (s : Fin 4096) (c : Fin 5632) : EReal := ∑ k : Fin 1024, hS X G1 b s k * W (ix2 k c)

/-- Gate column `c`'s sequence in batch `b`, two zeros before it. -/
def seqS (b : Fin 4) (c : Fin 2816) (n : ℕ) : EReal :=
  if h : 2 ≤ n ∧ n < 4098 then upS X G1 W b ⟨n - 2, by omega⟩ ⟨c.val, by omega⟩ else 0

/-- The gated activation. -/
def actS (b : Fin 4) (s : Fin 4096) (c : Fin 2816) : EReal :=
  glu (conv3 (seqS X G1 W b c) s.val (CW (ix2 0 c)) (CW (ix2 1 c)) (CW (ix2 2 c)) (CB (ix1 c)))
    (upS X G1 W b s ⟨2816 + c.val, by omega⟩)

/-- The result. -/
def outS (b : Fin 4) (s : Fin 4096) (d : Fin 1024) : EReal :=
  X (ix3 b s d) + rnorm (fun d => ∑ c : Fin 2816, actS X G1 W CW CB b s c * WO (ix2 c d)) (fun d => G2 (ix1 d)) d

end Spec

section Ref

open Cert.FfnRefIdeal Cert.FfnRefIdeal.Read

variable (X : (⟨S4x4096x1024, .f32⟩ : BufTy).Contents (Elt Ideal)) (G1 : (⟨S1024, .f32⟩ : BufTy).Contents (Elt Ideal))
  (W : (⟨S1024x5632, .f32⟩ : BufTy).Contents (Elt Ideal)) (CW : (⟨S3x2816, .f32⟩ : BufTy).Contents (Elt Ideal))
  (CB : (⟨S2816, .f32⟩ : BufTy).Contents (Elt Ideal)) (WO : (⟨S2816x1024, .f32⟩ : BufTy).Contents (Elt Ideal))
  (G2 : (⟨S1024, .f32⟩ : BufTy).Contents (Elt Ideal))

theorem ref_h (b : Fin 4) (s : Fin 4096) (k : Fin 1024) : val_main_v12 (F := Ideal) X G1 (ix3 b s k) = hS X G1 b s k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem ref_up (b : Fin 4) (s : Fin 4096) (c : Fin 5632) : val_main_v13 (F := Ideal) X G1 W (ix3 b s c) = upS X G1 W b s c := by
  unfold val_main_v13 upS
  have e := ref_h X G1
  revert e
  generalize val_main_v12 (F := Ideal) X G1 = y
  intro e
  simp only [← e]
  pointwise []

theorem ref_seq (b : Fin 4) (n : Fin 4098) (c : Fin 2816) :
    val_main_v16 (F := Ideal) X G1 W (ix3 b n c) = seqS X G1 W b c n.val := by
  unfold val_main_v16 val_main_v14 seqS
  have e := ref_up X G1 W
  revert e
  generalize val_main_v13 (F := Ideal) X G1 W = y
  intro e
  have hz : FloatOps.sitofp (F := Ideal) .f32 (0#32) = (0 : EReal) := by
    show (((0#32 : BitVec 32).toInt : ℝ) : EReal) = 0
    simp
  pointwise [val_main_call0_v0, val_main_c]
  rw [hz]
  have hn := n.isLt
  split
  · rename_i h
    rw [dif_pos h.1]
    exact e _ _ _
  · rename_i h
    rw [dif_neg (fun h2 => h ⟨h2, by omega⟩)]

theorem ref_conv (b : Fin 4) (s : Fin 4096) (c : Fin 2816) :
    val_main_v39 (F := Ideal) X G1 W CW CB (ix3 b s c)
      = conv3 (seqS X G1 W b c) s.val (CW (ix2 0 c)) (CW (ix2 1 c)) (CW (ix2 2 c)) (CB (ix1 c)) := by
  unfold val_main_v39 val_main_v36 val_main_v35 val_main_v29 val_main_v28 val_main_v22 val_main_v17 val_main_v23 val_main_v30
  have e := ref_seq X G1 W
  revert e
  generalize val_main_v16 (F := Ideal) X G1 W = y
  intro e
  unfold conv3
  have e0 := e b ⟨s.val, by omega⟩ c
  have e1 := e b ⟨s.val + 1, by omega⟩ c
  have e2 := e b ⟨s.val + 2, by omega⟩ c
  dsimp only at e0 e1 e2
  rw [← e0, ← e1, ← e2]
  pointwise [val_main_v18, val_main_v19, val_main_v20, val_main_v21, val_main_v24, val_main_v25, val_main_v26, val_main_v27, val_main_v31, val_main_v32, val_main_v33, val_main_v34, val_main_v37, val_main_v38]
  simp only [Nat.add_comm]

theorem ref_act (b : Fin 4) (s : Fin 4096) (c : Fin 2816) :
    val_main_v48 (F := Ideal) X G1 W CW CB (ix3 b s c) = actS X G1 W CW CB b s c := by
  unfold val_main_v48 val_main_v47 val_main_v46 val_main_v44 val_main_v43 val_main_v41 val_main_v15 actS
  rw [← ref_conv X G1 W CW CB b s c, ← ref_up]
  generalize val_main_v13 (F := Ideal) X G1 W = y
  generalize val_main_v39 (F := Ideal) X G1 W CW CB = z
  pointwise [val_main_v40, val_main_v42, val_main_v45, val_main_cst_2, val_main_cst_3, val_main_cst_4]
  rfl

theorem ref_ff (b : Fin 4) (s : Fin 4096) (d : Fin 1024) :
    val_main_v49 (F := Ideal) X G1 W CW CB WO (ix3 b s d) = ∑ c : Fin 2816, actS X G1 W CW CB b s c * WO (ix2 c d) := by
  unfold val_main_v49
  have e := ref_act X G1 W CW CB
  revert e
  generalize val_main_v48 (F := Ideal) X G1 W CW CB = y
  intro e
  simp only [← e]
  pointwise []

theorem ref_out (b : Fin 4) (s : Fin 4096) (d : Fin 1024) :
    val_main_v63 (F := Ideal) X G1 W CW CB WO G2 (ix3 b s d) = outS X G1 W CW CB WO G2 b s d := by
  have e := ref_ff X G1 W CW CB WO
  unfold outS
  simp only [← e]
  unfold val_main_v63 val_main_v62 val_main_v59 val_main_v58 val_main_v57 val_main_v56 val_main_v54 val_main_v52 val_main_v51 val_main_v50
  generalize val_main_v49 (F := Ideal) X G1 W CW CB WO = y
  pointwise [val_main_v61, val_main_v60, val_main_v55, val_main_v53, val_main_cst_5, val_main_cst_6, val_main_cst_7]
  rfl

end Ref

end Cert.FfnIdeal.Hand

end
-- ==== Proof.FfnClaim.lean ====
/-
  The feed-forward call's claims: the frames of the compiled program, of its ideal reading and of the reference, and that
  the ideal kernel and the reference end with the same array.
-/
module

public import proofs.«01_k».proof.Defs
public import proofs.«01_k».proof.Proof.Gen.Ffn
public import proofs.«01_k».proof.Proof.Gen.FfnRefIdeal
public import proofs.«01_k».proof.Proof.FfnValue

@[expose] public section

noncomputable section

namespace Cert.Proof

open Idealize.ShloMosaic Idealize.ShloMosaic.TcCoe Idealize.SL.Sem
open Idealize.ShloMosaic.Pointwise

/-- The two programs' kernel bodies are the same. -/
theorem ffn_body_same : @Cert.Ffn.cc0_conv_glu_ffn Bits _ Cert.Ffn.Gen.facts = @Cert.FfnIdeal.cc0_conv_glu_ffn Bits _ Cert.FfnIdeal.Gen.facts := rfl

set_option maxHeartbeats 2000000 in
/-- The two programs' body tables are the same. -/
theorem ffn_bodies_same : @Cert.Ffn.defs₀ Bits _ Cert.Ffn.Gen.facts = @Cert.FfnIdeal.defs₀ Bits _ Cert.FfnIdeal.Gen.facts := by
  unfold Cert.Ffn.defs₀ Cert.FfnIdeal.defs₀
  refine congrArg Defs.onTc ?_
  funext ℓ
  obtain ⟨k, hk⟩ := ℓ
  obtain rfl : k = 0 := by have : k < 1 := hk; omega
  funext a
  obtain ⟨t, s⟩ := a
  dsimp only
  rw [ffn_body_same]
  rfl

/-- The compiled feed-forward call's frame: the run at the bit interpretation. -/
theorem frame_ffn : @Cert.quiescent_Ffn Cert.Ffn.Gen.facts := fun m ρ _ => by
  unfold Cert.Ffn.defs
  rw [ffn_bodies_same]
  exact Cert.FfnIdeal.Gen.frame (F := Bits) m ρ

/-- The ideal feed-forward call's frame: the same run over the extended reals. -/
theorem frame_ffnIdeal : @Cert.quiescent_FfnIdeal Cert.FfnIdeal.Gen.facts := fun m ρ _ =>
  Cert.FfnIdeal.Gen.frame (F := Ideal) m ρ

/-- The reference's frame: straight host lines, and no semaphore at all. -/
theorem frame_ffnRef : @Cert.quiescent_FfnRefIdeal Cert.FfnRefIdeal.Gen.facts := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

open Cert.FfnIdeal.Hand in
/-- From the same arguments the ideal kernel's array is the reference's result. -/
theorem ffn_same (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (h0 : m' ((c.tc : Thread Cert.FfnRefIdeal.nD Cert.FfnRefIdeal.τ).loc Cert.FfnRefIdeal.main_arg0) = aX m c)
    (h1 : m' ((c.tc : Thread Cert.FfnRefIdeal.nD Cert.FfnRefIdeal.τ).loc Cert.FfnRefIdeal.main_arg1) = aG1 m c)
    (h2 : m' ((c.tc : Thread Cert.FfnRefIdeal.nD Cert.FfnRefIdeal.τ).loc Cert.FfnRefIdeal.main_arg2) = aW m c)
    (h3 : m' ((c.tc : Thread Cert.FfnRefIdeal.nD Cert.FfnRefIdeal.τ).loc Cert.FfnRefIdeal.main_arg3) = aCW m c)
    (h4 : m' ((c.tc : Thread Cert.FfnRefIdeal.nD Cert.FfnRefIdeal.τ).loc Cert.FfnRefIdeal.main_arg4) = aCB m c)
    (h5 : m' ((c.tc : Thread Cert.FfnRefIdeal.nD Cert.FfnRefIdeal.τ).loc Cert.FfnRefIdeal.main_arg5) = aWO m c)
    (h6 : m' ((c.tc : Thread Cert.FfnRefIdeal.nD Cert.FfnRefIdeal.τ).loc Cert.FfnRefIdeal.main_arg6) = aG2 m c) :
    Cert.FfnRefIdeal.Value.res_main_v63 m' c = Cert.FfnIdeal.Value.G7 m c := by
  rw [Cert.FfnRefIdeal.Read.val_main_v63_eq]
  funext i
  obtain ⟨b, s, d, rfl⟩ : ∃ (b : Fin 4) (s : Fin 4096) (d : Fin 1024), i = ix3 b s d := ⟨i 0, i 1, i 2, (ix3_eta i).symm⟩
  rw [G7_eq]
  refine (ref_out _ _ _ _ _ _ _ b s d).trans ?_
  rw [h0, h1, h2, h3, h4, h5, h6]

/-- The ideal feed-forward call computes the reference's result. -/
theorem algebraic_ffn : @Cert.algebraic_FfnIdeal_FfnRefIdeal Cert.FfnIdeal.Gen.facts Cert.FfnRefIdeal.Gen.facts := by
  intro m g m' g' _ hag
  refine ⟨fun c => Cert.FfnIdeal.Value.G7 m c, Cert.FfnIdeal.Value.run (F := Ideal) m g, ?_⟩
  refine (θ_run Cert.FfnRefIdeal.defs _ _).mono (fun r h c => ⟨(h c).1.trans ?_, (h c).2⟩)
    (Cert.FfnRefIdeal.Value.run (F := Ideal) m' g')
  obtain ⟨h0, h1, h2, h3, h4, h5, h6⟩ := hag c
  exact ffn_same m m' c h0 h1 h2 h3 h4 h5 h6

end Cert.Proof

end
-- ==== Proof.MixBase.lean ====
module

public import proofs.«01_k».proof.Proof.Gen.MixIdeal.Value
public import proofs.«01_k».proof.Proof.Gen.Mix
public import proofs.«01_k».proof.Proof.Gen.MixRefIdeal.Run
public import proofs.«01_k».proof.Proof.Gen.MixRefIdeal.Read
public import proofs.«01_k».proof.Proof.Gen.Pre_finite_mixing
-- ==== Proof.MixChunk.lean ====
/-
  The token mixer's two attention blocks are one function of their rows. Each grid point runs 128 rows twice; the
  printed body cuts the two runs' operations into differently shaped pieces, and this module brings every piece back to
  the decays `bcC`, the scores `scC`, the product with the state `inC`, the next state `stC` and the four heads.
-/
module

public import proofs.«01_k».proof.Defs
public import proofs.«01_k».proof.Proof.Gen.MixIdeal.Skeleton

@[expose] public section

noncomputable section

open Idealize.ShloMosaic Idealize.ShloMosaic.TcCoe

namespace Cert.MixIdeal.Hand

open Cert.MixIdeal Cert.MixIdeal.Gen

variable {F : FTy → Type} [FloatOps F]

/-- The lower triangle of ones. -/
def triC : FVec F S128x128 .bf16 := k0_pay18 k0_pay17 (FloatOps.ofBits .f32 0x3F800000#32)

/-- Where a state row and a state column belong to the same head. -/
def maskC : IVec S512x256 1 := k0_pay23 (iota .tc S512x256 32 [0] iota_S512x256_d0_w32) k0_pay20 k0_pay21 k0_pay22

section Chunks

variable (pq pk : Vec F S128x256 .f32) (pv pr : Vec F S128x512 .f32) (pg : Vec F S128x128 .f32)
  (wg : Vec F S128x256 .bf16) (bg : Vec F S1x256 .f32) (gg : Vec F S1x128 .f32) (st : Vec F S512x256 .f32)

/-- The decays accumulated inside the block. -/
def bcC : FVec F S128x256 .f32 := k0_pay27 triC pg wg bg

/-- The four heads' scores inside the block, one above the other. -/
def scC : FVec F S512x128 .f32 :=
  k0_pay34 k0_pay19 (k0_pay30 triC (k0_pay25 pq) pg wg bg) (k0_pay31 triC pk pg wg bg) 0#32

/-- The decayed queries times the state. -/
def inC : FVec F S128x512 .f32 := k0_pay35 (k0_pay32 triC (k0_pay25 pq) pg wg bg) st

/-- The state after the block. -/
def stC : FVec F S512x256 .f32 := k0_pay36 maskC (k0_pay26 pv) (k0_pay28 triC pg wg bg) (k0_pay33 triC pk pg wg bg) st

/-- The four heads' outputs. -/
def hd0 : FVec F S128x128 .bf16 := k0_pay56 k0_pay17 (k0_pay24 gg) (k0_pay26 pv) pr (scC pq pk pg wg bg) (inC pq pg wg bg st)
def hd1 : FVec F S128x128 .bf16 := k0_pay40 k0_pay17 (k0_pay24 gg) (k0_pay26 pv) pr (scC pq pk pg wg bg) (inC pq pg wg bg st)
def hd2 : FVec F S128x128 .bf16 := k0_pay41 k0_pay17 (k0_pay24 gg) (k0_pay26 pv) pr (scC pq pk pg wg bg) (inC pq pg wg bg st)
def hd3 : FVec F S128x128 .bf16 := k0_pay61 k0_pay17 (k0_pay24 gg) (k0_pay26 pv) pr (scC pq pk pg wg bg) (inC pq pg wg bg st)

/-- The first block's heads. -/
theorem first0 : k0_pay39 (k0_pay24 gg) pr
      (k0_pay37 k0_pay17 k0_pay19 (k0_pay26 pv) (k0_pay30 triC (k0_pay25 pq) pg wg bg) (k0_pay31 triC pk pg wg bg) (k0_pay32 triC (k0_pay25 pq) pg wg bg) 0#32 st)
      (k0_pay38 k0_pay17 k0_pay19 (k0_pay26 pv) (k0_pay30 triC (k0_pay25 pq) pg wg bg) (k0_pay31 triC pk pg wg bg) (k0_pay32 triC (k0_pay25 pq) pg wg bg) 0#32 st)
    = hd0 pq pk pv pr pg wg bg gg st := rfl

theorem first3 : k0_pay44 pr (k0_pay42 k0_pay17 (k0_pay26 pv) (scC pq pk pg wg bg) (inC pq pg wg bg st)) (k0_pay43 (k0_pay24 gg))
    = hd3 pq pk pv pr pg wg bg gg st := rfl

/-- The second block's scores, product with the state, next state and heads. -/
theorem second_sc : k0_pay53 triC k0_pay19 (k0_pay45 pq) pk (k0_pay48 pg wg bg) (k0_pay49 pg wg bg) = scC pq pk pg wg bg := rfl

theorem second_in : k0_pay54 triC (k0_pay45 pq) (k0_pay48 pg wg bg) (k0_pay49 pg wg bg) st = inC pq pg wg bg st := rfl

theorem second_st : k0_pay55 maskC (k0_pay46 pv) (k0_pay51 triC (k0_pay48 pg wg bg) (k0_pay49 pg wg bg))
      (k0_pay52 triC pk (k0_pay48 pg wg bg) (k0_pay49 pg wg bg)) st (constant S512x256 .f32 0x00000000#32)
    = stC pk pv pg wg bg st := rfl

theorem second1 : k0_pay58 (k0_pay24 gg) pr (k0_pay57 k0_pay17 (k0_pay26 pv) (scC pq pk pg wg bg) (inC pq pg wg bg st))
    = hd1 pq pk pv pr pg wg bg gg st := rfl

theorem second2 : k0_pay60 (k0_pay59 k0_pay17 (k0_pay24 gg) (k0_pay26 pv) pr (scC pq pk pg wg bg) (inC pq pg wg bg st))
    = hd2 pq pk pv pr pg wg bg gg st := rfl

end Chunks

end Cert.MixIdeal.Hand

end
-- ==== Proof.MixReal.lean ====
/-
  Gated linear attention in blocks, over the real numbers: a block of 128 rows computed from the state before it and the
  decays inside it gives the causal sum over the whole past, and the state after it is the state of the longer past.
  Keys and queries have 256 columns in four heads of 64, values 512 columns in four heads of 128.
-/
module

public import Idealize.ShloMosaic.PureOps.Ideal
public import Mathlib.Algebra.BigOperators.Intervals
public import Mathlib.Tactic.Ring

@[expose] public section

noncomputable section

namespace Cert.MixIdeal.Hand

open scoped BigOperators

section Gla

variable (a k q : ℕ → Fin 256 → ℝ) (v : ℕ → Fin 512 → ℝ)

/-- The decay accumulated by the first `T` rows. -/
def cum (T : ℕ) (c : Fin 256) : ℝ := ∑ r ∈ Finset.range T, a r c

/-- The state after `T` rows: values against decayed keys, of equal heads only. -/
def stR (T : ℕ) (r : Fin 512) (c : Fin 256) : ℝ :=
  if r.val / 128 = c.val / 64 then ∑ s ∈ Finset.range T, v s r * (k s c * Real.exp (cum a T c - cum a (s + 1) c)) else 0

/-- The attention output of row `t` at value column `r`, as the causal sum over the past. -/
def attR (t : ℕ) (r : Fin 512) : ℝ :=
  ∑ s ∈ Finset.range (t + 1), (∑ c : Fin 256, if c.val / 64 = r.val / 128 then
    q t c * k s c * Real.exp (cum a (t + 1) c - cum a (s + 1) c) else 0) * v s r

theorem cum_block (T : ℕ) (i : Fin 128) (c : Fin 256) :
    (∑ j : Fin 128, if j.val ≤ i.val then a (T + j.val) c else 0) = cum a (T + i.val + 1) c - cum a T c := by
  have hi := i.isLt
  rw [Fin.sum_univ_eq_sum_range (fun j => if j ≤ i.val then a (T + j) c else 0) 128, ← Finset.sum_filter]
  have e : (Finset.range 128).filter (fun j => j ≤ i.val) = Finset.range (i.val + 1) := by
    ext j; simp only [Finset.mem_filter, Finset.mem_range]; omega
  rw [e]
  unfold cum
  rw [show T + i.val + 1 = T + (i.val + 1) by omega, Finset.sum_range_add _ T]
  ring

theorem st_step (T : ℕ) (r : Fin 512) (c : Fin 256) :
    stR a k v T r c * Real.exp (cum a (T + 128) c - cum a T c)
      + (if r.val / 128 = c.val / 64 then ∑ j : Fin 128, v (T + j.val) r * (k (T + j.val) c
          * Real.exp ((cum a (T + 128) c - cum a T c) - (cum a (T + j.val + 1) c - cum a T c))) else 0)
      = stR a k v (T + 128) r c := by
  unfold stR
  split
  · rw [Finset.sum_range_add _ T, Finset.sum_mul]
    refine congr (congrArg _ (Finset.sum_congr rfl fun s _ => ?_)) ?_
    · rw [show cum a (T + 128) c - cum a (s + 1) c = (cum a T c - cum a (s + 1) c) + (cum a (T + 128) c - cum a T c) by ring,
        Real.exp_add]
      ring
    · rw [Fin.sum_univ_eq_sum_range (fun j => v (T + j) r * (k (T + j) c
          * Real.exp ((cum a (T + 128) c - cum a T c) - (cum a (T + j + 1) c - cum a T c)))) 128]
      refine Finset.sum_congr rfl fun s _ => ?_
      rw [show cum a (T + 128) c - cum a T c - (cum a (T + s + 1) c - cum a T c) = cum a (T + 128) c - cum a (T + s + 1) c by ring]
  · simp

theorem att_block (T : ℕ) (i : Fin 128) (r : Fin 512) (m : Fin 256 → ℝ) :
    (∑ j : Fin 128, (if j.val ≤ i.val then ∑ c : Fin 256, (if c.val / 64 = r.val / 128 then
        q (T + i.val) c * Real.exp ((cum a (T + i.val + 1) c - cum a T c) - m c) else 0)
          * (k (T + j.val) c * Real.exp (m c - (cum a (T + j.val + 1) c - cum a T c))) else 0) * v (T + j.val) r)
      + ∑ c : Fin 256, (q (T + i.val) c * Real.exp (cum a (T + i.val + 1) c - cum a T c)) * stR a k v T r c
      = attR a k q v (T + i.val) r := by
  have hi := i.isLt
  unfold attR
  rw [show T + i.val + 1 = T + (i.val + 1) by omega, Finset.sum_range_add _ T, add_comm]
  refine congr (congrArg _ ?_) ?_
  · unfold stR
    simp only [mul_ite, mul_zero, Finset.sum_mul, Finset.mul_sum, ite_mul, zero_mul]
    rw [Finset.sum_comm]
    refine Finset.sum_congr rfl fun c _ => ?_
    by_cases h : r.val / 128 = c.val / 64
    · simp only [if_pos h, if_pos h.symm]
      refine Finset.sum_congr rfl fun s _ => ?_
      rw [show cum a (T + (i.val + 1)) c - cum a (s + 1) c
        = (cum a (T + (i.val + 1)) c - cum a T c) + (cum a T c - cum a (s + 1) c) by ring, Real.exp_add]
      ring
    · simp only [if_neg h, if_neg (fun e => h (Eq.symm e)), Finset.sum_const_zero]
  · rw [Fin.sum_univ_eq_sum_range (fun j => (if j ≤ i.val then ∑ c : Fin 256, (if c.val / 64 = r.val / 128 then
        q (T + i.val) c * Real.exp ((cum a (T + (i.val + 1)) c - cum a T c) - m c) else 0)
          * (k (T + j) c * Real.exp (m c - (cum a (T + j + 1) c - cum a T c))) else 0) * v (T + j) r) 128]
    have e : ∀ f : ℕ → ℝ, (∑ j ∈ Finset.range 128, (if j ≤ i.val then f j else 0) * v (T + j) r)
        = ∑ j ∈ Finset.range (i.val + 1), f j * v (T + j) r := by
      intro f
      simp only [ite_mul, zero_mul]
      rw [← Finset.sum_filter]
      refine Finset.sum_congr ?_ fun _ _ => rfl
      ext j; simp only [Finset.mem_filter, Finset.mem_range]; omega
    rw [e]
    refine Finset.sum_congr rfl fun j _ => congrArg (· * v (T + j) r) (Finset.sum_congr rfl fun c _ => ?_)
    split
    · rw [show cum a (T + (i.val + 1)) c - cum a (T + j + 1) c
        = (cum a (T + (i.val + 1)) c - cum a T c - m c) + (m c - (cum a (T + j + 1) c - cum a T c)) by ring, Real.exp_add]
      ring
    · ring

/-- The causal sum over the whole sequence, a head's 64 columns at a time, is the same output. -/
theorem att_whole (t : Fin 4096) (h : Fin 4) (w : Fin 128) (r : Fin 512) (hr : r.val = 128 * h.val + w.val) :
    (∑ s : Fin 4096, (if s.val ≤ t.val then ∑ d : Fin 64, q t.val ⟨64 * h.val + d.val, by omega⟩ * k s.val ⟨64 * h.val + d.val, by omega⟩
        * Real.exp (cum a (t.val + 1) ⟨64 * h.val + d.val, by omega⟩ - cum a (s.val + 1) ⟨64 * h.val + d.val, by omega⟩) else 0) * v s.val r)
      = attR a k q v t.val r := by
  have ht := t.isLt
  have hw := w.isLt
  have hh := h.isLt
  unfold attR
  have hd : r.val / 128 = h.val := by omega
  rw [hd]
  have e : ∀ f : ℕ → ℝ, (∑ s : Fin 4096, (if s.val ≤ t.val then f s.val else 0) * v s.val r)
      = ∑ s ∈ Finset.range (t.val + 1), f s * v s r := by
    intro f
    rw [Fin.sum_univ_eq_sum_range (fun s => (if s ≤ t.val then f s else 0) * v s r) 4096]
    simp only [ite_mul, zero_mul]
    rw [← Finset.sum_filter]
    refine Finset.sum_congr ?_ fun _ _ => rfl
    ext j; simp only [Finset.mem_filter, Finset.mem_range]; omega
  rw [e (fun s => ∑ d : Fin 64, q t.val ⟨64 * h.val + d.val, by omega⟩ * k s ⟨64 * h.val + d.val, by omega⟩
        * Real.exp (cum a (t.val + 1) ⟨64 * h.val + d.val, by omega⟩ - cum a (s + 1) ⟨64 * h.val + d.val, by omega⟩))]
  refine Finset.sum_congr rfl fun s _ => congrArg (· * v s r) ?_
  rw [← Finset.sum_filter]
  refine Finset.sum_nbij' (i := fun d => ⟨64 * h.val + d.val, by omega⟩) (j := fun c => ⟨c.val % 64, Nat.mod_lt _ (by decide)⟩) ?_ ?_ ?_ ?_ ?_
  · intro d _
    have := d.isLt
    simp only [Finset.mem_filter, Finset.mem_univ, true_and]; omega
  · intro c _; exact Finset.mem_univ _
  · intro d _
    have := d.isLt
    exact Fin.ext (show (64 * h.val + d.val) % 64 = d.val by omega)
  · intro c hc
    simp only [Finset.mem_filter, Finset.mem_univ, true_and] at hc
    exact Fin.ext (show 64 * h.val + c.val % 64 = c.val by omega)
  · intro d _; rfl

end Gla

end Cert.MixIdeal.Hand

end
-- ==== Proof.MixMath.lean ====
/-
  One attention block of the token mixer over the extended reals, element by element. Where the block's keys, queries,
  values and log-decays are rows `T … T + 127` of real sequences and the state is the state of the first `T` rows, the
  block's next state is the state of `T + 128` rows and each head's output is the causal sum over the whole past.
-/
module

public import proofs.«01_k».proof.Proof.MixChunk
public import proofs.«01_k».proof.Proof.MixReal
public import Idealize.ShloMosaic.Lib.Pointwise

@[expose] public section

noncomputable section

open Idealize.ShloMosaic Idealize.ShloMosaic.TcCoe
open Idealize.ShloMosaic.Pointwise

namespace Cert.MixIdeal.Hand

open Cert.MixIdeal Cert.MixIdeal.Gen

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum whose terms are real is the real sum. -/
theorem sum_real {n : ℕ} (f : Fin n → EReal) (g : Fin n → ℝ) (h : ∀ i, f i = (g i : EReal)) :
    ∑ i, f i = ((∑ i, g i : ℝ) : EReal) := (Finset.sum_congr rfl fun i _ => h i).trans (coe_sum _ _).symm

theorem coe_ite (p : Prop) [Decidable p] (x : ℝ) : (if p then (x : EReal) else 0) = ((if p then x else 0 : ℝ) : EReal) := by
  split <;> rfl

/-- A sum with a term of minus infinity is minus infinity. -/
theorem sum_bot {ι : Type} (s : Finset ι) (f : ι → EReal) (i : ι) (hi : i ∈ s) (h : f i = ⊥) : ∑ j ∈ s, f j = ⊥ := by
  classical
  rw [← Finset.add_sum_erase s f hi, h, EReal.bot_add]

/-- One key column over some rows, `p` their places. Either its log-decays `l`, scaled queries and keys are those of the
real sequences, or its log-decays are minus infinity, and the sequences' queries and keys are zero. -/
def Col {ι : Type} (l x y : ι → EReal) (a k q : ℕ → ℝ) (p : ι → ℕ) : Prop :=
  (∀ i, l i = (a (p i) : EReal) ∧ x i = (q (p i) : EReal) ∧ y i = (k (p i) : EReal)) ∨ ((∀ i, l i = ⊥) ∧ ∀ n, q n = 0 ∧ k n = 0)

/-- The same of fewer rows. -/
theorem Col.rows {ι κ : Type} {l x y : ι → EReal} {a k q : ℕ → ℝ} {p : ι → ℕ} (h : Col l x y a k q p) (f : κ → ι)
    {l' x' y' : κ → EReal} {p' : κ → ℕ} (hl : ∀ j, l' j = l (f j)) (hx : ∀ j, x' j = x (f j)) (hy : ∀ j, y' j = y (f j))
    (hp : ∀ j, p' j = p (f j)) : Col l' x' y' a k q p' := by
  rcases h with h | ⟨h, h'⟩
  · exact Or.inl fun j => ⟨by rw [hl, hp, (h _).1], by rw [hx, hp, (h _).2.1], by rw [hy, hp, (h _).2.2]⟩
  · exact Or.inr ⟨fun j => by rw [hl, h], h'⟩

/-- What is left of a decay of minus infinity. -/
theorem exp_bot_sub : Ideal.exp ((⊥ : EReal) - ⊥) = 0 := rfl

theorem exp_real (x : ℝ) : Ideal.exp (x : EReal) = (Real.exp x : EReal) := rfl

theorem log1p_zero : Ideal.log1p 0 = 0 := by
  show (if (1 + 0 : ℝ) ≤ 0 then (⊥ : EReal) else ((Real.log (1 + 0) : ℝ) : EReal)) = 0
  rw [if_neg (by norm_num)]
  simp

/-- Value column `w` of head `h`. -/
def colH (h : Fin 4) (w : Fin 128) : Fin 512 := ⟨128 * h.val + w.val, by omega⟩

/-- The log-decay of a gate logit: its log-sigmoid over sixteen. -/
def decF (l : EReal) : EReal :=
  (min l 0 - Ideal.log1p (Ideal.exp (0 - max l (-l)))) * Ideal.ofBits .f32 0x3D800000#32

/-- One head's output: `o` divided by its root mean square, scaled by `g`, times the activated gate `r`. -/
def headF (o g r : Fin 128 → EReal) (w : Fin 128) : EReal :=
  o w * Ideal.rsqrt (Ideal.div (∑ j, o j * o j) (Ideal.ofBits .f32 0x43000000#32) + Ideal.ofBits .f32 0x358637BD#32) * g w
    * (r w * Ideal.logistic (r w))

theorem lane_apply (i : Fin 128) (c : Fin 256) : k0_pay19 (ix2 i c) = BitVec.ofNat 32 (c.val / 64) := by
  pointwise [k0_pay19]
  revert c; decide +kernel

set_option maxRecDepth 4000 in
theorem mask_apply (r : Fin 512) (c : Fin 256) : maskC (ix2 r c) = if r.val / 128 = c.val / 64 then 1#1 else 0#1 := by
  have e1 : ∀ r : Fin 512, Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 128#32 0#32))
              (Scalar.extui (Scalar.cmpi CmpIPredicate.slt 128#32 0#32))))
          (IntOp.cmpi CmpIPredicate.ne (IntOp.remsi ArithUnit.vector (BitVec.ofNat 32 r.val) 128#32) 0#32))
        (IntOp.subi (IntOp.divsi ArithUnit.vector (BitVec.ofNat 32 r.val) 128#32) 1#32)
        (IntOp.divsi ArithUnit.vector (BitVec.ofNat 32 r.val) 128#32) = BitVec.ofNat 32 (r.val / 128) := by decide +kernel
  have e2 : ∀ c : Fin 256, Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 c.val) 64#32) 0#32))
        (IntOp.subi (IntOp.divsi ArithUnit.vector (BitVec.ofNat 32 c.val) 64#32) 1#32)
        (IntOp.divsi ArithUnit.vector (BitVec.ofNat 32 c.val) 64#32) = BitVec.ofNat 32 (c.val / 64) := by decide +kernel
  pointwise [maskC, k0_pay23, k0_pay20, k0_pay21, k0_pay22]
  rw [e1, e2]
  have h1 : r.val / 128 < 4 := by have := r.isLt; omega
  have h2 : c.val / 64 < 4 := by have := c.isLt; omega
  revert h1 h2
  generalize r.val / 128 = x
  generalize c.val / 64 = y
  intro h1 h2
  interval_cases x <;> interval_cases y <;> rfl

theorem sge_apply {α : Type} (i j : Fin 128) (x y : α) :
    Scalar.select (IntOp.cmpi CmpIPredicate.sge (BitVec.ofNat 32 i.val) (BitVec.ofNat 32 j.val)) x y = if j.val ≤ i.val then x else y := by
  have e : ∀ i j : Fin 128, IntOp.cmpi CmpIPredicate.sge (BitVec.ofNat 32 i.val) (BitVec.ofNat 32 j.val) = if j.val ≤ i.val then 1#1 else 0#1 := by
    decide +kernel
  rw [e]
  split <;> rfl

theorem eq_apply {α : Type} (h c : ℕ) (hh : h < 4) (hc : c < 4) (x y : α) :
    Scalar.select (IntOp.cmpi CmpIPredicate.eq (BitVec.ofNat 32 c) (BitVec.ofNat 32 h)) x y = if c = h then x else y := by
  interval_cases h <;> interval_cases c <;> rfl

theorem tri_apply (i j : Fin 128) : triC (F := Ideal) (ix2 i j) = if j.val ≤ i.val then 1 else 0 := by
  pointwise [triC, k0_pay18, k0_pay17]
  exact sge_apply i j _ _

section Block

variable {pq pk : Vec Ideal S128x256 .f32} {pv : Vec Ideal S128x512 .f32} {pg : Vec Ideal S128x128 .f32}
  {wg : Vec Ideal S128x256 .bf16} {bg : Vec Ideal S1x256 .f32} {st : Vec Ideal S512x256 .f32}

variable (pq pk pv pg wg bg) in
/-- The block's rows are rows `T … T + 127` of real sequences. -/
structure Rows (a k q : ℕ → Fin 256 → ℝ) (v : ℕ → Fin 512 → ℝ) (T : ℕ) : Prop where
  hv : ∀ i r, pv (ix2 i r) = (v (T + i.val) r : EReal)
  hc : ∀ c, Col (fun i : Fin 128 => decF (∑ e : Fin 128, pg (ix2 i e) * wg (ix2 e c) + bg (ix2 0 c)))
    (fun i => pq (ix2 i c) * Ideal.ofBits .f32 0x3E000000#32) (fun i => pk (ix2 i c))
    (fun n => a n c) (fun n => k n c) (fun n => q n c) (fun i => T + i.val)

variable {a k q : ℕ → Fin 256 → ℝ} {v : ℕ → Fin 512 → ℝ} {T : ℕ}

theorem bc_sum (i : Fin 128) (c : Fin 256) (l : Fin 128 → EReal)
    (hl : ∀ x : Fin 128, decF (∑ e : Fin 128, pg (ix2 x e) * wg (ix2 e c) + bg (ix2 0 c)) = l x) :
    bcC pg wg bg (ix2 i c) = (∑ x : Fin 128, (if x.val ≤ i.val then 1 else 0) * l x) + ∑ x : Fin 128, (if x.val ≤ i.val then 1 else 0) * (l x - l x) := by
  have ht := tri_apply
  unfold bcC
  revert ht
  generalize triC (F := Ideal) = tri
  intro ht
  pointwise [k0_pay27]
  have e : ∀ x : Fin 128, (min (∑ x_1, pg (ix2 x x_1) * wg (ix2 x_1 c) + bg (ix2 0 c)) 0 -
              Ideal.log1p (Ideal.exp (0 - FloatOps.absf (F := Ideal) (φ := .f32) (∑ x_1, pg (ix2 x x_1) * wg (ix2 x_1 c) + bg (ix2 0 c))))) *
            Ideal.ofBits FTy.f32 1031798784#32 = l x := hl
  simp only [e, ht]

/-- The block's partial sums of a column's log-decays, with its queries and keys. -/
theorem bc_apply (H : Rows pq pk pv pg wg bg a k q v T) (c : Fin 256) :
    (∀ i : Fin 128, bcC pg wg bg (ix2 i c) = ((cum a (T + i.val + 1) c - cum a T c : ℝ) : EReal)
        ∧ k0_pay25 pq (ix2 i c) = (q (T + i.val) c : EReal) ∧ pk (ix2 i c) = (k (T + i.val) c : EReal))
      ∨ ((∀ i : Fin 128, bcC pg wg bg (ix2 i c) = ⊥) ∧ ∀ n, q n c = 0 ∧ k n c = 0) := by
  rcases H.hc c with h | ⟨h, h'⟩
  · refine Or.inl fun i => ⟨?_, (h i).2.1, (h i).2.2⟩
    rw [bc_sum i c (fun x => (a (T + x.val) c : EReal)) fun x => (h x).1]
    rw [sum_real _ (fun x : Fin 128 => if x.val ≤ i.val then a (T + x.val) c else 0) (fun x => by split <;> simp),
      sum_real _ (fun _ : Fin 128 => 0) (fun x => by rw [← EReal.coe_sub]; simp), ← EReal.coe_add, cum_block]
    simp
  · refine Or.inr ⟨fun i => ?_, h'⟩
    rw [bc_sum i c (fun _ => ⊥) h, sum_bot _ _ i (Finset.mem_univ i) (by rw [if_pos le_rfl, one_mul]), EReal.bot_add]

theorem sc_apply (H : Rows pq pk pv pg wg bg a k q v T) (h : Fin 4) (i j : Fin 128) :
    scC pq pk pg wg bg (ix2 ⟨128 * h.val + i.val, by omega⟩ j)
      = ((∑ c : Fin 256, (if c.val / 64 = h.val then
        q (T + i.val) c * Real.exp ((cum a (T + i.val + 1) c - cum a T c) - (cum a (T + 63 + 1) c - cum a T c)) else 0)
          * (k (T + j.val) c * Real.exp ((cum a (T + 63 + 1) c - cum a T c) - (cum a (T + j.val + 1) c - cum a T c))) : ℝ) : EReal) := by
  have e := lane_apply
  have hb := bc_apply H
  unfold scC k0_pay30 k0_pay31 k0_pay29
  show k0_pay34 k0_pay19 (mulf (k0_pay25 pq) (exp (subf (bcC pg wg bg) (broadcastTo S128x256 (extractStridedSlice S1x256 ![63, 0] (bcC pg wg bg) slices_S128x256_o63_0_S1x256) broadcasts_S1x256_S128x256))))
    (truncf .bf16 (mulf pk (exp (subf (broadcastTo S128x256 (extractStridedSlice S1x256 ![63, 0] (bcC pg wg bg) slices_S128x256_o63_0_S1x256) broadcasts_S1x256_S128x256) (bcC pg wg bg)))) bitsLt_bf16_f32) 0#32 _ = _
  revert e hb
  generalize k0_pay19 = lane
  generalize bcC pg wg bg = bc
  generalize k0_pay25 pq = pq'
  intro e hb
  have hh := h.isLt
  have hi := i.isLt
  pointwise [k0_pay34]
  refine sum_real _ _ fun c => ?_
  have hc : c.val / 64 < 4 := by have := c.isLt; omega
  rcases hb c with hb | ⟨hb, h0⟩
  swap
  · rw [hb j, hb 63, exp_bot_sub, mul_zero, mul_zero, (h0 _).2, zero_mul, mul_zero]
    rfl
  have e63 : bc (ix2 63 c) = ((cum a (T + 63 + 1) c - cum a T c : ℝ) : EReal) := (hb 63).1
  rw [e63, (hb j).1, (hb j).2.2, ← EReal.coe_sub, exp_real, ← EReal.coe_mul]
  refine Eq.trans ?_ (EReal.coe_mul _ _).symm
  refine congrArg₂ (fun x y : EReal => x * y) ?_ rfl
  have key : ∀ (i' : Fin 128) (m : ℕ) (hm : m < 4), i' = i → m = h.val →
      Scalar.select (IntOp.cmpi CmpIPredicate.eq (lane (ix2 i' c)) (BitVec.ofNat 32 m))
        (pq' (ix2 i' c) * Ideal.exp (bc (ix2 i' c) - ((cum a (T + 63 + 1) c - cum a T c : ℝ) : EReal))) 0
      = ((if c.val / 64 = h.val then
        q (T + i.val) c * Real.exp ((cum a (T + i.val + 1) c - cum a T c) - (cum a (T + 63 + 1) c - cum a T c)) else 0 : ℝ) : EReal) := by
    intro i' m hm e1 e2
    subst e1 e2
    rw [e, eq_apply _ _ hh hc, (hb _).2.1, (hb _).1, ← EReal.coe_sub, exp_real, ← EReal.coe_mul, coe_ite]
  split
  · rename_i h1
    exact key _ 0 (by omega) (Fin.ext (by dsimp only; omega)) (by omega)
  · split
    · exact key _ 1 (by omega) (Fin.ext (by dsimp only; omega)) (by omega)
    · split
      · exact key _ 2 (by omega) (Fin.ext (by dsimp only; omega)) (by omega)
      · exact key _ 3 (by omega) (Fin.ext (by dsimp only; omega)) (by omega)

theorem in_apply (H : Rows pq pk pv pg wg bg a k q v T) (hst : ∀ r c, st (ix2 r c) = (stR a k v T r c : EReal))
    (i : Fin 128) (r : Fin 512) :
    inC pq pg wg bg st (ix2 i r)
      = ((∑ c : Fin 256, (q (T + i.val) c * Real.exp (cum a (T + i.val + 1) c - cum a T c)) * stR a k v T r c : ℝ) : EReal) := by
  have hb := bc_apply H
  unfold inC k0_pay32
  show k0_pay35 (truncf .bf16 (mulf (k0_pay25 pq) (exp (bcC pg wg bg))) bitsLt_bf16_f32) st _ = _
  revert hb
  generalize bcC pg wg bg = bc
  generalize k0_pay25 pq = pq'
  intro hb
  pointwise [k0_pay35]
  refine sum_real _ _ fun c => ?_
  rcases hb c with hb | ⟨hb, h0⟩
  swap
  · rw [hb i, (h0 _).1, show Ideal.exp (⊥ : EReal) = 0 from rfl, mul_zero, zero_mul, zero_mul, zero_mul]
    rfl
  rw [(hb i).2.1, (hb i).1, hst, exp_real, ← EReal.coe_mul, ← EReal.coe_mul]

/-- The next state is the state of the longer past. -/
theorem st_apply (H : Rows pq pk pv pg wg bg a k q v T) (hst : ∀ r c, st (ix2 r c) = (stR a k v T r c : EReal))
    (r : Fin 512) (c : Fin 256) : stC pk pv pg wg bg st (ix2 r c) = (stR a k v (T + 128) r c : EReal) := by
  have hb := bc_apply H
  have hm := mask_apply
  unfold stC k0_pay33 k0_pay28
  show k0_pay36 maskC _ (extractStridedSlice S1x256 ![127, 0] (bcC pg wg bg) slices_S128x256_o127_0_S1x256)
    (truncf .bf16 (mulf pk (exp (subf (broadcastTo S128x256 (extractStridedSlice S1x256 ![127, 0] (bcC pg wg bg) slices_S128x256_o127_0_S1x256) broadcasts_S1x256_S128x256) (bcC pg wg bg)))) bitsLt_bf16_f32) st _ = _
  revert hb hm
  generalize bcC pg wg bg = bc
  generalize maskC = mask
  intro hb hm
  rw [← st_step]
  pointwise [k0_pay36, k0_pay26]
  rcases hb c with hb | ⟨hb, h0⟩
  swap
  · rw [hb 127, hm, hst, sum_real _ (fun _ : Fin 128 => 0) (fun j => by rw [hb j, exp_bot_sub, mul_zero, mul_zero]; rfl)]
    have e : stR a k v T r c = 0 := by
      unfold stR
      split
      · exact Finset.sum_eq_zero fun s _ => by rw [(h0 s).2]; ring
      · rfl
    have e' : ∀ s, k s c = 0 := fun s => (h0 s).2
    simp only [e, e', show Ideal.exp (⊥ : EReal) = 0 from rfl, mul_zero, zero_mul, Finset.sum_const_zero, ite_self, add_zero, EReal.coe_zero, zero_add]
    split <;> rfl
  have e127 : bc (ix2 127 c) = ((cum a (T + 128) c - cum a T c : ℝ) : EReal) := (hb 127).1
  rw [e127, hst, exp_real, hm,
    sum_real _ (fun j : Fin 128 => v (T + j.val) r * (k (T + j.val) c
          * Real.exp ((cum a (T + 128) c - cum a T c) - (cum a (T + j.val + 1) c - cum a T c)))) (fun j => by
      rw [H.hv, (hb j).2.2, (hb j).1, ← EReal.coe_sub, exp_real, ← EReal.coe_mul, ← EReal.coe_mul]), EReal.coe_add, EReal.coe_mul]
  refine congrArg₂ (fun x y : EReal => x + y) rfl ?_
  split <;> rfl

/-- Scores times values plus the state's part: the causal sum over the past. -/
theorem att_apply (H : Rows pq pk pv pg wg bg a k q v T) (hst : ∀ r c, st (ix2 r c) = (stR a k v T r c : EReal))
    (h : Fin 4) (i w : Fin 128) (sc : FVec Ideal S512x128 .f32) (hsc : sc = scC pq pk pg wg bg) (inn : FVec Ideal S128x512 .f32)
    (hin : inn = inC pq pg wg bg st) (n n' : ℕ) (hn : n = 128 * h.val + i.val) (hn' : n' = 128 * h.val + w.val)
    (h1 : n < 512) (h2 : n' < 512) :
    (∑ j : Fin 128, Scalar.select (IntOp.cmpi CmpIPredicate.sge (BitVec.ofNat 32 i.val) (BitVec.ofNat 32 j.val))
        (sc (ix2 ⟨n, h1⟩ j) * pv (ix2 j ⟨n', h2⟩)) 0) + inn (ix2 i ⟨n', h2⟩)
      = (attR a k q v (T + i.val) (colH h w) : EReal) := by
  subst hsc hin hn hn'
  unfold colH
  have hw := w.isLt
  rw [← att_block a k q v T i ⟨128 * h.val + w.val, by omega⟩ (fun c => cum a (T + 63 + 1) c - cum a T c), in_apply H hst, EReal.coe_add]
  refine congrArg₂ (fun x y : EReal => x + y) (sum_real _ _ fun j => ?_) rfl
  rw [sge_apply, sc_apply H h i j, H.hv, ← EReal.coe_mul, coe_ite]
  have e : (128 * h.val + w.val) / 128 = h.val := by omega
  simp only [e, ite_mul, zero_mul]

/-- The heads' outputs. -/
theorem hd0_apply (H : Rows pq pk pv pg wg bg a k q v T) (hst : ∀ r c, st (ix2 r c) = (stR a k v T r c : EReal))
    (pr : Vec Ideal S128x512 .f32) (gg : Vec Ideal S1x128 .f32) (i w : Fin 128) :
    hd0 pq pk pv pr pg wg bg gg st (ix2 i w)
      = headF (fun w => (attR a k q v (T + i.val) (colH 0 w) : EReal)) (fun w => gg (ix2 0 w)) (fun w => pr (ix2 i (colH 0 w))) w := by
  have key := att_apply H hst 0 i
  unfold hd0
  generalize hsc : scC pq pk pg wg bg = sc
  generalize hin : inC pq pg wg bg st = inn
  have hi := i.isLt
  pointwise [k0_pay56, k0_pay17, k0_pay24, k0_pay26]
  have key' := fun w : Fin 128 => key w sc hsc.symm inn hin.symm (0 + i.val) (0 + w.val) rfl rfl (by omega) (by have := w.isLt; omega)
  have hc : ∀ w : Fin 128, colH 0 w = ⟨0 + w.val, by have := w.isLt; omega⟩ := fun w => rfl
  simp only [Nat.zero_add] at key' hc
  unfold headF
  simp only [key']
  simp only [hc]

theorem hd1_apply (H : Rows pq pk pv pg wg bg a k q v T) (hst : ∀ r c, st (ix2 r c) = (stR a k v T r c : EReal))
    (pr : Vec Ideal S128x512 .f32) (gg : Vec Ideal S1x128 .f32) (i w : Fin 128) :
    hd1 pq pk pv pr pg wg bg gg st (ix2 i w)
      = headF (fun w => (attR a k q v (T + i.val) (colH 1 w) : EReal)) (fun w => gg (ix2 0 w)) (fun w => pr (ix2 i (colH 1 w))) w := by
  have key := att_apply H hst 1 i
  unfold hd1
  generalize hsc : scC pq pk pg wg bg = sc
  generalize hin : inC pq pg wg bg st = inn
  have hi := i.isLt
  pointwise [k0_pay40, k0_pay17, k0_pay24, k0_pay26]
  have key' := fun w : Fin 128 => key w sc hsc.symm inn hin.symm (128 + i.val) (128 + w.val) rfl rfl (by omega) (by have := w.isLt; omega)
  have hc : ∀ w : Fin 128, colH 1 w = ⟨128 + w.val, by have := w.isLt; omega⟩ := fun w => rfl
  unfold headF
  simp only [key']
  simp only [hc]

theorem hd2_apply (H : Rows pq pk pv pg wg bg a k q v T) (hst : ∀ r c, st (ix2 r c) = (stR a k v T r c : EReal))
    (pr : Vec Ideal S128x512 .f32) (gg : Vec Ideal S1x128 .f32) (i w : Fin 128) :
    hd2 pq pk pv pr pg wg bg gg st (ix2 i w)
      = headF (fun w => (attR a k q v (T + i.val) (colH 2 w) : EReal)) (fun w => gg (ix2 0 w)) (fun w => pr (ix2 i (colH 2 w))) w := by
  have key := att_apply H hst 2 i
  unfold hd2
  generalize hsc : scC pq pk pg wg bg = sc
  generalize hin : inC pq pg wg bg st = inn
  have hi := i.isLt
  pointwise [k0_pay41, k0_pay17, k0_pay24, k0_pay26]
  have key' := fun w : Fin 128 => key w sc hsc.symm inn hin.symm (256 + i.val) (256 + w.val) rfl rfl (by omega) (by have := w.isLt; omega)
  have hc : ∀ w : Fin 128, colH 2 w = ⟨256 + w.val, by have := w.isLt; omega⟩ := fun w => rfl
  unfold headF
  simp only [key']
  simp only [hc]

theorem hd3_apply (H : Rows pq pk pv pg wg bg a k q v T) (hst : ∀ r c, st (ix2 r c) = (stR a k v T r c : EReal))
    (pr : Vec Ideal S128x512 .f32) (gg : Vec Ideal S1x128 .f32) (i w : Fin 128) :
    hd3 pq pk pv pr pg wg bg gg st (ix2 i w)
      = headF (fun w => (attR a k q v (T + i.val) (colH 3 w) : EReal)) (fun w => gg (ix2 0 w)) (fun w => pr (ix2 i (colH 3 w))) w := by
  have key := att_apply H hst 3 i
  unfold hd3
  generalize hsc : scC pq pk pg wg bg = sc
  generalize hin : inC pq pg wg bg st = inn
  have hi := i.isLt
  pointwise [k0_pay61, k0_pay17, k0_pay24, k0_pay26]
  have key' := fun w : Fin 128 => key w sc hsc.symm inn hin.symm (384 + i.val) (384 + w.val) rfl rfl (by omega) (by have := w.isLt; omega)
  have hc : ∀ w : Fin 128, colH 3 w = ⟨384 + w.val, by have := w.isLt; omega⟩ := fun w => rfl
  unfold headF
  simp only [key']
  simp only [hc]

end Block

end Cert.MixIdeal.Hand

end
-- ==== Proof.MixSpec.lean ====
/-
  The token mixer as one formula of its arguments. The rows are normalised and projected; four groups of columns are
  averaged over the last 2, 4, 8 and 16 rows; four heads are a decayed causal sum; both are projected back, normalised
  and added to the input.
-/
module

public import proofs.«01_k».proof.Proof.FfnMath
public import proofs.«01_k».proof.Proof.MixMath

@[expose] public section

noncomputable section

open Idealize.ShloMosaic Idealize.ShloMosaic.TcCoe
open Idealize.ShloMosaic.Pointwise

namespace Cert.MixIdeal.Hand

open Cert.FfnIdeal.Hand (rnorm)

/-- `f 0 + f 1 + … + f n`, added in that order. -/
def psum (f : ℕ → EReal) : ℕ → EReal
  | 0 => f 0
  | n + 1 => psum f n + f (n + 1)

/-- A pooled column: the mean of the last rows less the row itself, mixed by `wp` and scaled. `f d i` is column `d`
    of `i` rows ago; `n + 1` rows are summed and `lim` bounds how many the mean counts. -/
def poolF (f : Fin 128 → ℕ → EReal) (n : ℕ) (lim pos : EReal) (wp : Fin 128 → EReal) (sc : EReal) : EReal :=
  (∑ d : Fin 128, (Ideal.div (psum (f d) n) (min pos lim) - f d 0) * wp d) * sc

/-- How many rows before its own each group's mean takes. -/
def wid : Fin 4 → ℕ := ![1, 3, 7, 15]

/-- The most rows each group's mean counts. -/
def wlim : Fin 4 → EReal :=
  ![Ideal.ofBits .f32 0x40000000#32, Ideal.ofBits .f32 0x40800000#32, Ideal.ofBits .f32 0x41000000#32, Ideal.ofBits .f32 0x41800000#32]

/-- The number of rows up to row `s`. -/
def posS (s : ℕ) : EReal := ((((s + 1 : ℕ) : ℝ)) : EReal)

section Spec

variable (X : (⟨3, ![4, 4096, 1024]⟩ : Shape).Idx → EReal) (G1 : (⟨1, ![1024]⟩ : Shape).Idx → EReal)
  (W : (⟨2, ![1024, 2064]⟩ : Shape).Idx → EReal) (WP : (⟨3, ![4, 128, 128]⟩ : Shape).Idx → EReal)
  (PS : (⟨1, ![512]⟩ : Shape).Idx → EReal) (WG : (⟨2, ![16, 256]⟩ : Shape).Idx → EReal)
  (BG : (⟨1, ![256]⟩ : Shape).Idx → EReal) (GG : (⟨1, ![128]⟩ : Shape).Idx → EReal)
  (WO : (⟨2, ![1024, 1024]⟩ : Shape).Idx → EReal) (G2 : (⟨1, ![1024]⟩ : Shape).Idx → EReal)
  (a k q : Fin 4 → ℕ → Fin 256 → ℝ) (v : Fin 4 → ℕ → Fin 512 → ℝ)

/-- The normalised input. -/
def hS (b : Fin 4) (s : Fin 4096) (i : Fin 1024) : EReal := rnorm (fun i => X (ix3 b s i)) (fun i => G1 (ix1 i)) i

/-- The projection onto weight column `c`. -/
def pS (b : Fin 4) (s : Fin 4096) (c : Fin 2064) : EReal := ∑ i : Fin 1024, hS X G1 b s i * W (ix2 i c)

/-- The decay gate's logit. -/
def lgS (b : Fin 4) (s : Fin 4096) (c : Fin 256) : EReal :=
  (∑ e : Fin 16, pS X G1 W b s ⟨1536 + e.val, by omega⟩ * WG (ix2 e c)) + BG (ix1 c)

/-- Pooled column `c`'s sequence in batch `b`, sixteen zeros before it. -/
def uS (b : Fin 4) (c : Fin 512) (n : ℕ) : EReal :=
  if h : 16 ≤ n ∧ n < 4112 then pS X G1 W b ⟨n - 16, by omega⟩ ⟨c.val, by omega⟩ else 0

/-- Column `w` of pooled group `g`. -/
def poolS (b : Fin 4) (s : Fin 4096) (g : Fin 4) (w : Fin 128) : EReal :=
  poolF (fun d i => uS X G1 W b (colH g d) (s.val + 16 - i)) (wid g) (wlim g) (posS s.val)
    (fun d => WP (ix3 g d w)) (PS (ix1 (colH g w)))

/-- Column `w` of head `h`, over the real sequences of decays, keys, queries and values. -/
def headS (b : Fin 4) (s : Fin 4096) (h : Fin 4) (w : Fin 128) : EReal :=
  headF (fun w => ((attR (a b) (k b) (q b) (v b) s.val (colH h w) : ℝ) : EReal)) (fun w => GG (ix1 w))
    (fun w => pS X G1 W b s ⟨1552 + (colH h w).val, by have := (colH h w).isLt; omega⟩) w

/-- The pooled columns, then the heads. -/
def yS (b : Fin 4) (s : Fin 4096) (c : Fin 1024) : EReal :=
  if h : c.val < 512 then poolS X G1 W WP PS b s ⟨c.val / 128, by omega⟩ ⟨c.val % 128, by omega⟩
  else headS X G1 W GG a k q v b s ⟨(c.val - 512) / 128, by omega⟩ ⟨c.val % 128, by omega⟩

/-- The result. -/
def outS (b : Fin 4) (s : Fin 4096) (d : Fin 1024) : EReal :=
  X (ix3 b s d) + rnorm (fun d => ∑ c : Fin 1024, yS X G1 W WP PS GG a k q v b s c * WO (ix2 c d)) (fun d => G2 (ix1 d)) d

/-- The real sequences are the decays, keys, scaled queries and values of the projections; a column whose decays are
minus infinity has keys and queries of zero instead. -/
structure Seqs : Prop where
  hv : ∀ b (s : Fin 4096) (c : Fin 512), pS X G1 W b s ⟨1024 + c.val, by omega⟩ = (v b s.val c : EReal)
  hc : ∀ b (c : Fin 256), Col (fun s : Fin 4096 => decF (lgS X G1 W WG BG b s c))
    (fun s => pS X G1 W b s ⟨512 + c.val, by omega⟩ * Ideal.ofBits .f32 0x3E000000#32) (fun s => pS X G1 W b s ⟨768 + c.val, by omega⟩)
    (fun n => a b n c) (fun n => k b n c) (fun n => q b n c) (fun s => s.val)

end Spec

end Cert.MixIdeal.Hand

end
-- ==== Proof.MixRef.lean ====
/-
  The reference's token mixer, read as the formula.
-/
module

public import proofs.«01_k».proof.Proof.MixSpec
public import proofs.«01_k».proof.Proof.Gen.MixRefIdeal.Run
public import proofs.«01_k».proof.Proof.Gen.MixRefIdeal.Read
public import Idealize.ShloMosaic.Lib.IdealHost

@[expose] public section

noncomputable section

open Idealize.ShloMosaic Idealize.ShloMosaic.TcCoe
open Idealize.ShloMosaic.Pointwise

namespace Cert.MixIdeal.Hand

open Cert.FfnIdeal.Hand (rnorm)

theorem foldl_add {ι : Type} (l : List ι) (g : ι → EReal) (r : EReal) :
    l.foldl (fun r n => r + g n) r = r + (l.map g).sum := by
  induction l generalizing r with
  | nil => simp
  | cons x l ih => simp [ih, add_assoc]

theorem finRange_sum (n : ℕ) (g : Fin n → EReal) : ((List.finRange n).map g).sum = ∑ i, g i := by
  rw [List.sum_ofFn.symm]
  congr 1
  exact (List.ofFn_eq_map).symm

theorem shift_sum (f : ℕ → EReal) (N j : ℕ) (hj : j < N) :
    (∑ i ∈ Finset.range N, if N - 1 ≤ j + i then f (j + i - (N - 1)) else 0) = ∑ i ∈ Finset.range (j + 1), f i := by
  rw [← Finset.sum_filter]
  refine Finset.sum_nbij' (fun i => j + i - (N - 1)) (fun i => i + (N - 1) - j) ?_ ?_ ?_ ?_ ?_
  all_goals intro i hi; simp only [Finset.mem_filter, Finset.mem_range] at hi ⊢; first | omega | rfl | skip

/-- Positions of a window that is one line long are the line's places. -/
def lineE : (⟨4, ![1, 4096, 1, 1]⟩ : Shape).Idx ≃ Fin 4096 where
  toFun w := w 1
  invFun i := ix4 0 i 0 0
  left_inv w := by
    rw [eq_ix4 w]
    have w0 : w 0 = (0 : Fin 1) := Subsingleton.elim (α := Fin 1) _ _
    have w2 : w 2 = (0 : Fin 1) := Subsingleton.elim (α := Fin 1) _ _
    have w3 : w 3 = (0 : Fin 1) := Subsingleton.elim (α := Fin 1) _ _
    rw [w0, w2, w3]
    rfl
  right_inv i := rfl

/-- A running sum along axis 1, written as a window sum. -/
theorem cumsum4 {A C D : ℕ} (x : (⟨4, ![A, 4096, C, D]⟩ : Shape).Idx → EReal)
    (h : (⟨4, ![A, 4096, C, D]⟩ : Shape).ReduceWindows ![1, 4096, 1, 1] ![1, 1, 1, 1] ![0, 4095, 0, 0] ![0, 0, 0, 0]
      ⟨4, ![A, 4096, C, D]⟩) (b : Fin A) (j : Fin 4096) (c : Fin C) (d : Fin D) (f : ℕ → EReal)
    (hf : ∀ i : Fin 4096, x (ix4 b i c d) = f i.val) :
    Ideal.hostReduceWindowAdd ![1, 4096, 1, 1] ![1, 1, 1, 1] ![0, 4095, 0, 0] ![0, 0, 0, 0] h x 0 (ix4 b j c d)
      = ∑ i ∈ Finset.range (j.val + 1), f i := by
  unfold Ideal.hostReduceWindowAdd Host.reduceWindow
  dsimp only
  rw [foldl_add, zero_add, finRange_sum]
  rw [← shift_sum f 4096 j.val j.isLt]
  rw [← Fin.sum_univ_eq_sum_range (fun i => if 4096 - 1 ≤ j.val + i then f (j.val + i - (4096 - 1)) else 0) 4096]
  refine Fintype.sum_equiv ((Shape.rowMajor _).symm.trans lineE) _ _ ?_
  intro n
  have w0 : ((Shape.rowMajor (⟨4, ![1, 4096, 1, 1]⟩ : Shape)).symm n 0).val = 0 := by have := ((Shape.rowMajor (⟨4, ![1, 4096, 1, 1]⟩ : Shape)).symm n 0).isLt; change _ < 1 at this; omega
  have w2 : ((Shape.rowMajor (⟨4, ![1, 4096, 1, 1]⟩ : Shape)).symm n 2).val = 0 := by have := ((Shape.rowMajor (⟨4, ![1, 4096, 1, 1]⟩ : Shape)).symm n 2).isLt; change _ < 1 at this; omega
  have w3 : ((Shape.rowMajor (⟨4, ![1, 4096, 1, 1]⟩ : Shape)).symm n 3).val = 0 := by have := ((Shape.rowMajor (⟨4, ![1, 4096, 1, 1]⟩ : Shape)).symm n 3).isLt; change _ < 1 at this; omega
  have w1 := ((Shape.rowMajor (⟨4, ![1, 4096, 1, 1]⟩ : Shape)).symm n 1).isLt
  change _ < 4096 at w1
  have hj := j.isLt
  have hb := b.isLt
  have hc := c.isLt
  have hd := d.isLt
  show _ = if 4096 - 1 ≤ j.val + ((Shape.rowMajor (⟨4, ![1, 4096, 1, 1]⟩ : Shape)).symm n 1).val then f (j.val + ((Shape.rowMajor (⟨4, ![1, 4096, 1, 1]⟩ : Shape)).symm n 1).val - (4096 - 1)) else 0
  by_cases hp : 4096 - 1 ≤ j.val + ((Shape.rowMajor (⟨4, ![1, 4096, 1, 1]⟩ : Shape)).symm n 1).val
  · rw [if_pos hp, dif_pos]
    · rw [← hf ⟨j.val + ((Shape.rowMajor (⟨4, ![1, 4096, 1, 1]⟩ : Shape)).symm n 1).val - (4096 - 1), by omega⟩]
      refine congrArg x (funext fun a => Fin.ext ?_)
      match a with
      | ⟨0, _⟩ => show b.val * 1 + ((Shape.rowMajor (⟨4, ![1, 4096, 1, 1]⟩ : Shape)).symm n 0).val - 0 = b.val; omega
      | ⟨1, _⟩ => show j.val * 1 + ((Shape.rowMajor (⟨4, ![1, 4096, 1, 1]⟩ : Shape)).symm n 1).val - 4095 = j.val + ((Shape.rowMajor (⟨4, ![1, 4096, 1, 1]⟩ : Shape)).symm n 1).val - (4096 - 1); omega
      | ⟨2, _⟩ => show c.val * 1 + ((Shape.rowMajor (⟨4, ![1, 4096, 1, 1]⟩ : Shape)).symm n 2).val - 0 = c.val; omega
      | ⟨3, _⟩ => show d.val * 1 + ((Shape.rowMajor (⟨4, ![1, 4096, 1, 1]⟩ : Shape)).symm n 3).val - 0 = d.val; omega
    · intro a
      match a with
      | ⟨0, _⟩ => show 0 ≤ b.val * 1 + ((Shape.rowMajor (⟨4, ![1, 4096, 1, 1]⟩ : Shape)).symm n 0).val ∧ b.val * 1 + ((Shape.rowMajor (⟨4, ![1, 4096, 1, 1]⟩ : Shape)).symm n 0).val - 0 < A; omega
      | ⟨1, _⟩ => show 4095 ≤ j.val * 1 + ((Shape.rowMajor (⟨4, ![1, 4096, 1, 1]⟩ : Shape)).symm n 1).val ∧ j.val * 1 + ((Shape.rowMajor (⟨4, ![1, 4096, 1, 1]⟩ : Shape)).symm n 1).val - 4095 < 4096; omega
      | ⟨2, _⟩ => show 0 ≤ c.val * 1 + ((Shape.rowMajor (⟨4, ![1, 4096, 1, 1]⟩ : Shape)).symm n 2).val ∧ c.val * 1 + ((Shape.rowMajor (⟨4, ![1, 4096, 1, 1]⟩ : Shape)).symm n 2).val - 0 < C; omega
      | ⟨3, _⟩ => show 0 ≤ d.val * 1 + ((Shape.rowMajor (⟨4, ![1, 4096, 1, 1]⟩ : Shape)).symm n 3).val ∧ d.val * 1 + ((Shape.rowMajor (⟨4, ![1, 4096, 1, 1]⟩ : Shape)).symm n 3).val - 0 < D; omega
  · rw [if_neg hp, dif_neg]
    intro hall
    have := (hall 1).1
    change 4095 ≤ j.val * 1 + ((Shape.rowMajor (⟨4, ![1, 4096, 1, 1]⟩ : Shape)).symm n 1).val at this
    omega

/-- The reference's log-decay of a real logit. -/
theorem dec_ref_real (l : ℝ) (z : EReal) (hz : z = (l : EReal)) :
    Ideal.div (-(Scalar.select (Ideal.cmp .une (-z - 0) (-z - 0)) (-z + 0)
      (max (-z) 0 + Ideal.log1p (Ideal.exp (-(max (-z - 0) (-(-z - 0)))))))) (Ideal.ofBits .f32 0x41800000#32) = decF z := by
  subst hz
  have h16 : Ideal.ofBits .f32 0x41800000#32 = ((16 : ℝ) : EReal) := by simp [Ideal.ofBits, Ideal.ieee, -EReal.coe_mul]; norm_num
  have h116 : Ideal.ofBits .f32 0x3D800000#32 = ((1 / 16 : ℝ) : EReal) := by simp [Ideal.ofBits, Ideal.ieee, -EReal.coe_mul]; norm_num
  have hne : Ideal.cmp .une (-(l : EReal) - 0) (-(l : EReal) - 0) = 0#1 := by
    unfold Ideal.cmp
    simp
  unfold decF
  rw [hne, h16, h116, Ideal.div_coe (by norm_num : (16 : ℝ) ≠ 0)]
  have hs : ∀ {α : Type} (x y : α), Scalar.select 0#1 x y = y := fun x y => rfl
  rw [hs, sub_zero, zero_sub, neg_neg, max_comm (-(l : EReal)) (l : EReal)]
  refine congrArg (· * _) ?_
  set e := Ideal.log1p (Ideal.exp (-(max (l : EReal) (-(l : EReal))))) with he
  have hm : max (-(l : EReal)) 0 = -(min (l : EReal) 0) := by
    have h1 : (0 : EReal) = ((0 : ℝ) : EReal) := rfl
    rw [h1, ← EReal.coe_neg, ← EReal.coe_strictMono.monotone.map_max, ← EReal.coe_strictMono.monotone.map_min, ← EReal.coe_neg]
    congr 1
    rcases le_total l 0 with hl | hl
    · rw [max_eq_left (by linarith), min_eq_left hl]
    · rw [max_eq_right (by linarith), min_eq_right hl, neg_zero]
  rw [hm]
  have hmr : min (l : EReal) 0 = ((min l 0 : ℝ) : EReal) := (EReal.coe_strictMono.monotone.map_min (a := l) (b := 0)).symm
  rw [hmr, ← EReal.coe_neg, EReal.neg_add (Or.inl (EReal.coe_ne_bot _)) (Or.inl (EReal.coe_ne_top _)), EReal.coe_neg, neg_neg]

/-- The reference's log-decay of any logit. -/
theorem dec_ref (z : EReal) :
    Ideal.div (-(Scalar.select (Ideal.cmp .une (-z - 0) (-z - 0)) (-z + 0)
      (max (-z) 0 + Ideal.log1p (Ideal.exp (-(max (-z - 0) (-(-z - 0)))))))) (Ideal.ofBits .f32 0x41800000#32) = decF z := by
  have h16 : Ideal.ofBits .f32 0x41800000#32 = ((16 : ℝ) : EReal) := by simp [Ideal.ofBits, Ideal.ieee, -EReal.coe_mul]; norm_num
  have h116 : Ideal.ofBits .f32 0x3D800000#32 = ((1 / 16 : ℝ) : EReal) := by simp [Ideal.ofBits, Ideal.ieee, -EReal.coe_mul]; norm_num
  have hs : ∀ {α : Type} (x y : α), Scalar.select 0#1 x y = y := fun x y => rfl
  have hne : ∀ w : EReal, Ideal.cmp .une w w = 0#1 := fun w => by unfold Ideal.cmp; simp
  have he : Ideal.exp (⊥ : EReal) = 0 := rfl
  induction z with
  | coe l => exact dec_ref_real l _ rfl
  | top =>
    unfold decF
    rw [hne, hs, h16, h116, Ideal.div_coe (by norm_num : (16 : ℝ) ≠ 0)]
    simp [he, log1p_zero]
  | bot =>
    unfold decF
    rw [hne, hs, h16, h116, Ideal.div_coe (by norm_num : (16 : ℝ) ≠ 0)]
    simp [he, log1p_zero]

theorem toInt_word (n : ℕ) (h : n < 4096) : (BitVec.ofNat 32 n).toInt = (n : ℤ) := by
  rw [BitVec.toInt_eq_toNat_bmod, BitVec.toNat_ofNat, Int.bmod_def]
  omega

theorem sge_word {α : Type} (t s : Fin 4096) (x y : α) :
    Scalar.select (IntOp.cmpi .sge (BitVec.ofNat 32 t.val) (BitVec.ofNat 32 s.val)) x y = if s.val ≤ t.val then x else y := by
  have e : IntOp.cmpi .sge (BitVec.ofNat 32 t.val) (BitVec.ofNat 32 s.val) = BitVec.ofBool (decide (s.val ≤ t.val)) := by
    unfold IntOp.cmpi
    simp only [BitVec.sle, toInt_word _ t.isLt, toInt_word _ s.isLt, Nat.cast_le]
  rw [e]
  by_cases h : s.val ≤ t.val <;> simp [h, Scalar.select]

section Ref

open Cert.MixRefIdeal Cert.MixRefIdeal.Read

variable (X : (⟨S4x4096x1024, .f32⟩ : BufTy).Contents (Elt Ideal)) (G1 : (⟨S1024, .f32⟩ : BufTy).Contents (Elt Ideal))
  (W : (⟨S1024x2064, .f32⟩ : BufTy).Contents (Elt Ideal)) (WP : (⟨S4x128x128, .f32⟩ : BufTy).Contents (Elt Ideal))
  (PS : (⟨S512, .f32⟩ : BufTy).Contents (Elt Ideal)) (WG : (⟨S16x256, .f32⟩ : BufTy).Contents (Elt Ideal))
  (BG : (⟨S256, .f32⟩ : BufTy).Contents (Elt Ideal)) (GG : (⟨S128, .f32⟩ : BufTy).Contents (Elt Ideal))
  (WO : (⟨S1024x1024, .f32⟩ : BufTy).Contents (Elt Ideal)) (G2 : (⟨S1024, .f32⟩ : BufTy).Contents (Elt Ideal))
  {a k q : Fin 4 → ℕ → Fin 256 → ℝ} {v : Fin 4 → ℕ → Fin 512 → ℝ}

theorem ref_h (b : Fin 4) (s : Fin 4096) (i : Fin 1024) : val_main_v12 (F := Ideal) X G1 (ix3 b s i) = hS X G1 b s i := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem ref_p (b : Fin 4) (s : Fin 4096) (c : Fin 2064) : val_main_v13 (F := Ideal) X G1 W (ix3 b s c) = pS X G1 W b s c := by
  unfold val_main_v13 pS
  have e := ref_h X G1
  revert e
  generalize val_main_v12 (F := Ideal) X G1 = y
  intro e
  simp only [← e]
  pointwise []

theorem ref_lg (b : Fin 4) (s : Fin 4096) (c : Fin 256) :
    val_main_v23 (F := Ideal) X G1 W WG BG (ix3 b s c) = lgS X G1 W WG BG b s c := by
  unfold lgS
  simp only [← ref_p]
  unfold val_main_v23 val_main_v20 val_main_v18
  generalize val_main_v13 (F := Ideal) X G1 W = y
  pointwise [val_main_v22, val_main_v21]

theorem ref_a (b : Fin 4) (s : Fin 4096) (c : Fin 256) :
    val_main_v26 (F := Ideal) X G1 W WG BG (ix3 b s c) = decF (lgS X G1 W WG BG b s c) := by
  rw [← dec_ref, ← ref_lg]
  unfold val_main_v26 val_main_v24 val_main_call0_v1 val_main_call0_call0_v4 val_main_call0_call0_v6 val_main_call0_call0_v11
    val_main_call0_call0_v1 val_main_call0_call0_v10 val_main_call0_call0_v9 val_main_call0_call0_v8 val_main_call0_call0_v7
    val_main_call0_call0_v3 val_main_call0_v0
  generalize val_main_v23 (F := Ideal) X G1 W WG BG = y
  pointwise [val_main_v25, val_main_cst_2, val_main_call0_call0_v0, val_main_call0_call0_cst, val_main_call0_call0_v2, val_main_call0_call0_v5]
  rfl

theorem ref_cum_sum (b : Fin 4) (s : Fin 4096) (h : Fin 4) (d : Fin 64) (f : ℕ → EReal)
    (hf : ∀ i : Fin 4096, decF (lgS X G1 W WG BG b i ⟨64 * h.val + d.val, by omega⟩) = f i.val) :
    val_main_v33 (F := Ideal) X G1 W WG BG (ix4 b s h d) = ∑ i ∈ Finset.range (s.val + 1), f i := by
  unfold val_main_v33
  have e : ∀ i : Fin 4096, val_main_v32 (F := Ideal) X G1 W WG BG (ix4 b i h d) = f i.val := by
    intro i
    rw [← hf, ← ref_a X G1 W WG BG]
    unfold val_main_v32
    generalize val_main_v26 (F := Ideal) X G1 W WG BG = y
    pointwise []
    exact congrArg y (congrArg (ix3 b i) (Fin.ext (by dsimp only; omega)))
  have hz : val_main_call1_call0_v0 (F := Ideal) (Shape.Idx.first Cert.MixRefIdeal.Gen.h_S_) = 0 := by
    pointwise [val_main_call1_call0_v0, val_main_call1_call0_cst]
  unfold Host.reduceWindowAdd
  rw [hz]
  exact cumsum4 _ _ b s h d f e

/-- One column's part of a score. -/
theorem ref_term (H : Seqs X G1 W WG BG a k q v) (b : Fin 4) (t s : Fin 4096) (h : Fin 4) (d : Fin 64) :
    pS X G1 W b t ⟨512 + (64 * h.val + d.val), by omega⟩ * Ideal.ofBits .f32 0x3E000000#32
        * pS X G1 W b s ⟨768 + (64 * h.val + d.val), by omega⟩
        * Ideal.exp (val_main_v33 (F := Ideal) X G1 W WG BG (ix4 b t h d) - val_main_v33 (F := Ideal) X G1 W WG BG (ix4 b s h d))
      = ((q b t.val ⟨64 * h.val + d.val, by omega⟩ * k b s.val ⟨64 * h.val + d.val, by omega⟩
        * Real.exp (cum (a b) (t.val + 1) ⟨64 * h.val + d.val, by omega⟩ - cum (a b) (s.val + 1) ⟨64 * h.val + d.val, by omega⟩) : ℝ) : EReal) := by
  rcases H.hc b ⟨64 * h.val + d.val, by omega⟩ with hc | ⟨hc, h0⟩
  · have e : ∀ s : Fin 4096, val_main_v33 (F := Ideal) X G1 W WG BG (ix4 b s h d) = (cum (a b) (s.val + 1) ⟨64 * h.val + d.val, by omega⟩ : EReal) := fun s => by
      unfold cum
      rw [coe_sum]
      exact ref_cum_sum X G1 W WG BG b s h d (fun i => (a b i ⟨64 * h.val + d.val, by omega⟩ : EReal)) fun i => (hc i).1
    have eq := (hc t).2.1
    have ek := (hc s).2.2
    dsimp only at eq ek
    rw [e, e, eq, ek, ← EReal.coe_sub, exp_real, ← EReal.coe_mul, ← EReal.coe_mul]
  · have e : ∀ s : Fin 4096, val_main_v33 (F := Ideal) X G1 W WG BG (ix4 b s h d) = ⊥ := fun s => by
      rw [ref_cum_sum X G1 W WG BG b s h d (fun _ => ⊥) hc]
      exact sum_bot _ _ 0 (Finset.mem_range.mpr (by omega)) rfl
    have hq := (h0 t.val).1
    dsimp only at hq
    rw [e, e, exp_bot_sub, mul_zero, hq, zero_mul, zero_mul]
    rfl

set_option maxRecDepth 16384 in
theorem ref_sc (H : Seqs X G1 W WG BG a k q v) (b : Fin 4) (t s : Fin 4096) (h : Fin 4) :
    val_main_v54 (F := Ideal) X G1 W WG BG (ix4 b t s h)
      = ((if s.val ≤ t.val then ∑ d : Fin 64, q b t.val ⟨64 * h.val + d.val, by omega⟩ * k b s.val ⟨64 * h.val + d.val, by omega⟩
        * Real.exp (cum (a b) (t.val + 1) ⟨64 * h.val + d.val, by omega⟩ - cum (a b) (s.val + 1) ⟨64 * h.val + d.val, by omega⟩) else 0 : ℝ) : EReal) := by
  unfold val_main_v54 val_main_v46 val_main_v45 val_main_v44 val_main_v38 val_main_v37 val_main_v36 val_main_v35 val_main_v34
    val_main_v43 val_main_v42 val_main_v41 val_main_v40 val_main_v39
  have e := ref_term X G1 W WG BG H b t s h
  revert e
  generalize val_main_v33 (F := Ideal) X G1 W WG BG = y
  intro e
  have hq : ∀ (s : Fin 4096) (d : Fin 64), val_main_v29 (F := Ideal) X G1 W (ix4 b s h d)
      = pS X G1 W b s ⟨512 + (64 * h.val + d.val), by omega⟩ * Ideal.ofBits .f32 0x3E000000#32 := by
    intro s d
    rw [← ref_p]
    unfold val_main_v29 val_main_v27 val_main_v15
    generalize val_main_v13 (F := Ideal) X G1 W = y
    pointwise [val_main_v28, val_main_cst_3]
    exact congrArg (fun n => y (ix3 b s n) * _) (Fin.ext (by dsimp only; omega))
  have hk : ∀ (s : Fin 4096) (d : Fin 64), val_main_v30 (F := Ideal) X G1 W (ix4 b s h d)
      = pS X G1 W b s ⟨768 + (64 * h.val + d.val), by omega⟩ := by
    intro s d
    rw [← ref_p]
    unfold val_main_v30 val_main_v16
    generalize val_main_v13 (F := Ideal) X G1 W = y
    pointwise []
    exact congrArg (fun n => y (ix3 b s n)) (Fin.ext (by dsimp only; omega))
  revert hq hk
  generalize val_main_v29 (F := Ideal) X G1 W = yq
  generalize val_main_v30 (F := Ideal) X G1 W = yk
  intro hq hk
  pointwise [val_main_call2_v1, val_main_call2_v2, val_main_call2_v0, val_main_cst_5, val_main_v53, val_main_v52, val_main_v51, val_main_v50,
    val_main_v49, val_main_v48, val_main_v47, val_main_cst_4]
  simp only [hq, hk, e]
  rw [sge_word t s]
  have hz : (id (constant (F := Ideal) Cert.MixRefIdeal.S_ .f32 0#32) ix0 : EReal) = 0 := by
    show Ideal.ofBits .f32 0#32 = 0
    exact Ideal.ofBits_zero_f32
  rw [hz, ← coe_ite]
  by_cases hts : s.val ≤ t.val
  · rw [if_pos hts, if_pos hts, coe_sum]
  · rw [if_neg hts, if_neg hts]

theorem ref_att (H : Seqs X G1 W WG BG a k q v) (b : Fin 4) (t : Fin 4096) (h : Fin 4) (w : Fin 128) :
    val_main_v60 (F := Ideal) X G1 W WG BG (ix4 b t h w) = ((attR (a b) (k b) (q b) (v b) t.val (colH h w) : ℝ) : EReal) := by
  rw [← att_whole (a b) (k b) (q b) (v b) t h w (colH h w) rfl]
  unfold val_main_v60 val_main_v59 val_main_v58 val_main_v57 val_main_v56 val_main_v55
  have e := ref_sc X G1 W WG BG H
  revert e
  generalize val_main_v54 (F := Ideal) X G1 W WG BG = y
  intro e
  have hv : ∀ (s : Fin 4096), val_main_v31 (F := Ideal) X G1 W (ix4 b s h w) = (v b s.val (colH h w) : EReal) := by
    intro s
    rw [← H.hv, ← ref_p]
    unfold val_main_v31 val_main_v17
    generalize val_main_v13 (F := Ideal) X G1 W = y
    pointwise []
    exact congrArg (fun n => y (ix3 b s n)) (Fin.ext (by unfold colH; dsimp only; omega))
  revert hv
  generalize val_main_v31 (F := Ideal) X G1 W = yv
  intro hv
  pointwise [val_main_cst_6]
  simp only [hv, e]
  rw [coe_sum]
  rfl

theorem ref_head (H : Seqs X G1 W WG BG a k q v) (b : Fin 4) (t : Fin 4096) (h : Fin 4) (w : Fin 128) :
    val_main_v76 (F := Ideal) X G1 W WG BG GG (ix4 b t h w) = headS X G1 W GG a k q v b t h w := by
  unfold headS
  simp only [← ref_att X G1 W WG BG H, ← ref_p]
  unfold val_main_v76 val_main_v75 val_main_v74 val_main_call3_v5 val_main_call3_v3 val_main_call3_v1 val_main_call3_v0 val_main_v74
    val_main_v73 val_main_v70 val_main_v69 val_main_v68 val_main_v67 val_main_v65 val_main_v63 val_main_v62 val_main_v61 val_main_v19
  generalize val_main_v60 (F := Ideal) X G1 W WG BG = y
  generalize val_main_v13 (F := Ideal) X G1 W = z
  pointwise [val_main_v72, val_main_v71, val_main_cst_7, val_main_cst_8, val_main_v64, val_main_cst_9, val_main_v66, val_main_call3_cst, val_main_call3_v2, val_main_call3_cst_0, val_main_call3_v4]
  unfold headF Ideal.logistic
  have hn : (⟨1552 + (h.val * 128 + w.val), by omega⟩ : Fin 2064) = ⟨1552 + (colH h w).val, by have := (colH h w).isLt; omega⟩ :=
    Fin.ext (by unfold colH; dsimp only; omega)
  simp only [hn]

theorem ref_u (b : Fin 4) (n : Fin 4112) (c : Fin 512) :
    val_main_v81 (F := Ideal) X G1 W (ix3 b n c) = uS X G1 W b c n.val := by
  unfold val_main_v81 val_main_v14 uS
  have e := ref_p X G1 W
  revert e
  generalize val_main_v13 (F := Ideal) X G1 W = y
  intro e
  have hz : FloatOps.sitofp (F := Ideal) .f32 (0#32) = (0 : EReal) := by
    show (((0#32 : BitVec 32).toInt : ℝ) : EReal) = 0
    simp
  pointwise [val_main_call4_v0, val_main_c]
  rw [hz]
  have hn := n.isLt
  split
  · rename_i h
    rw [dif_pos (by omega)]
    exact e _ _ _
  · rename_i h
    rw [dif_neg (by omega)]

theorem ref_pos (s : Fin 4096) : val_main_v80 (F := Ideal) (ix2 s 0) = posS s.val := by
  pointwise [val_main_v80, val_main_v79, val_main_v78, val_main_v77, val_main_cst_10]
  show 1 + (((BitVec.ofNat 32 s.val).toInt : ℝ) : EReal) = posS s.val
  rw [toInt_word s.val s.isLt]
  unfold posS
  rw [show (1 : EReal) = ((1 : ℝ) : EReal) from rfl, ← EReal.coe_add]
  congr 1
  push_cast
  ring

theorem ref_u0 (b : Fin 4) (s : Fin 4096) (c : Fin 512) :
    val_main_v14 (F := Ideal) X G1 W (ix3 b s c) = uS X G1 W b c (s.val + 16) := by
  have hs := s.isLt
  unfold val_main_v14 uS
  rw [dif_pos (by omega), ← ref_p]
  generalize val_main_v13 (F := Ideal) X G1 W = y
  pointwise []
  exact congrArg (fun n => y (ix3 b n _)) (Fin.ext (by dsimp only; omega))

set_option maxRecDepth 16384 in
theorem ref_pool0 (b : Fin 4) (s : Fin 4096) (w : Fin 128) :
    val_main_v94 (F := Ideal) X G1 W WP (ix3 b s w) * PS (ix1 (colH 0 w)) = poolS X G1 W WP PS b s 0 w := by
  have e := ref_u X G1 W
  have e0 := ref_u0 X G1 W
  have hpos := ref_pos s
  unfold poolS
  unfold val_main_v94 val_main_v91 val_main_v89 val_main_v88 val_main_v87 val_main_v86 val_main_v84 val_main_v83 val_main_v82 val_main_v90
  revert e e0 hpos
  generalize val_main_v81 (F := Ideal) X G1 W = y
  generalize val_main_v14 (F := Ideal) X G1 W = y0
  generalize val_main_v80 (F := Ideal) = ps
  intro e e0 hpos
  pointwise [val_main_v93, val_main_v92, val_main_v85, val_main_cst_11]
  simp only [e, e0, hpos]
  have hc : ∀ x : Fin 128, (⟨x.val, by have := x.isLt; omega⟩ : Fin 512) = colH 0 x := fun x => Fin.ext (by show x.val = 128 * 0 + x.val; omega)
  simp only [hc]
  show _ = (∑ d : Fin 128, (Ideal.div (psum (fun i => uS X G1 W b (colH 0 d) (s.val + 16 - i)) 1) (min (posS s.val) (Ideal.ofBits .f32 0x40000000#32))
    - uS X G1 W b (colH 0 d) (s.val + 16 - 0)) * WP (ix3 0 d w)) * PS (ix1 (colH 0 w))
  simp only [psum, Nat.sub_zero, Nat.zero_add, Nat.reduceAdd, show s.val + 16 - 1 = 15 + s.val by omega]

set_option maxRecDepth 16384 in
theorem ref_pool1 (b : Fin 4) (s : Fin 4096) (w : Fin 128) :
    val_main_v111 (F := Ideal) X G1 W WP (ix3 b s w) * PS (ix1 (colH 1 w)) = poolS X G1 W WP PS b s 1 w := by
  have e := ref_u X G1 W
  have e0 := ref_u0 X G1 W
  have hpos := ref_pos s
  unfold poolS
  unfold val_main_v111 val_main_v108 val_main_v106 val_main_v105 val_main_v104 val_main_v103 val_main_v101 val_main_v100 val_main_v99 val_main_v98 val_main_v97 val_main_v96 val_main_v95 val_main_v107
  revert e e0 hpos
  generalize val_main_v81 (F := Ideal) X G1 W = y
  generalize val_main_v14 (F := Ideal) X G1 W = y0
  generalize val_main_v80 (F := Ideal) = ps
  intro e e0 hpos
  pointwise [val_main_v110, val_main_v109, val_main_v102, val_main_cst_12]
  simp only [e, e0, hpos]
  have hc : ∀ x : Fin 128, (⟨128 + x.val, by have := x.isLt; omega⟩ : Fin 512) = colH 1 x := fun x => rfl
  simp only [hc]
  show _ = (∑ d : Fin 128, (Ideal.div (psum (fun i => uS X G1 W b (colH 1 d) (s.val + 16 - i)) 3) (min (posS s.val) (Ideal.ofBits .f32 0x40800000#32))
    - uS X G1 W b (colH 1 d) (s.val + 16 - 0)) * WP (ix3 1 d w)) * PS (ix1 (colH 1 w))
  simp only [psum, Nat.sub_zero, Nat.zero_add, Nat.reduceAdd, show s.val + 16 - 1 = 15 + s.val by omega, show s.val + 16 - 2 = 14 + s.val by omega, show s.val + 16 - 3 = 13 + s.val by omega]

set_option maxRecDepth 16384 in
theorem ref_pool2 (b : Fin 4) (s : Fin 4096) (w : Fin 128) :
    val_main_v136 (F := Ideal) X G1 W WP (ix3 b s w) * PS (ix1 (colH 2 w)) = poolS X G1 W WP PS b s 2 w := by
  have e := ref_u X G1 W
  have e0 := ref_u0 X G1 W
  have hpos := ref_pos s
  unfold poolS
  unfold val_main_v136 val_main_v133 val_main_v131 val_main_v130 val_main_v129 val_main_v128 val_main_v126 val_main_v125 val_main_v124 val_main_v123 val_main_v122 val_main_v121 val_main_v120 val_main_v119 val_main_v118 val_main_v117 val_main_v116 val_main_v115 val_main_v114 val_main_v113 val_main_v112 val_main_v132
  revert e e0 hpos
  generalize val_main_v81 (F := Ideal) X G1 W = y
  generalize val_main_v14 (F := Ideal) X G1 W = y0
  generalize val_main_v80 (F := Ideal) = ps
  intro e e0 hpos
  pointwise [val_main_v135, val_main_v134, val_main_v127, val_main_cst_13]
  simp only [e, e0, hpos]
  have hc : ∀ x : Fin 128, (⟨256 + x.val, by have := x.isLt; omega⟩ : Fin 512) = colH 2 x := fun x => rfl
  simp only [hc]
  show _ = (∑ d : Fin 128, (Ideal.div (psum (fun i => uS X G1 W b (colH 2 d) (s.val + 16 - i)) 7) (min (posS s.val) (Ideal.ofBits .f32 0x41000000#32))
    - uS X G1 W b (colH 2 d) (s.val + 16 - 0)) * WP (ix3 2 d w)) * PS (ix1 (colH 2 w))
  simp only [psum, Nat.sub_zero, Nat.zero_add, Nat.reduceAdd, show s.val + 16 - 1 = 15 + s.val by omega, show s.val + 16 - 2 = 14 + s.val by omega, show s.val + 16 - 3 = 13 + s.val by omega, show s.val + 16 - 4 = 12 + s.val by omega, show s.val + 16 - 5 = 11 + s.val by omega, show s.val + 16 - 6 = 10 + s.val by omega, show s.val + 16 - 7 = 9 + s.val by omega]

set_option maxRecDepth 16384 in
theorem ref_pool3 (b : Fin 4) (s : Fin 4096) (w : Fin 128) :
    val_main_v177 (F := Ideal) X G1 W WP (ix3 b s w) * PS (ix1 (colH 3 w)) = poolS X G1 W WP PS b s 3 w := by
  have e := ref_u X G1 W
  have e0 := ref_u0 X G1 W
  have hpos := ref_pos s
  unfold poolS
  unfold val_main_v177 val_main_v174 val_main_v172 val_main_v171 val_main_v170 val_main_v169 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v173
  revert e e0 hpos
  generalize val_main_v81 (F := Ideal) X G1 W = y
  generalize val_main_v14 (F := Ideal) X G1 W = y0
  generalize val_main_v80 (F := Ideal) = ps
  intro e e0 hpos
  pointwise [val_main_v176, val_main_v175, val_main_v168, val_main_cst_14]
  simp only [e, e0, hpos]
  have hc : ∀ x : Fin 128, (⟨384 + x.val, by have := x.isLt; omega⟩ : Fin 512) = colH 3 x := fun x => rfl
  simp only [hc]
  show _ = (∑ d : Fin 128, (Ideal.div (psum (fun i => uS X G1 W b (colH 3 d) (s.val + 16 - i)) 15) (min (posS s.val) (Ideal.ofBits .f32 0x41800000#32))
    - uS X G1 W b (colH 3 d) (s.val + 16 - 0)) * WP (ix3 3 d w)) * PS (ix1 (colH 3 w))
  simp only [psum, Nat.sub_zero, Nat.zero_add, Nat.reduceAdd, show s.val + 16 - 1 = 15 + s.val by omega, show s.val + 16 - 2 = 14 + s.val by omega, show s.val + 16 - 3 = 13 + s.val by omega, show s.val + 16 - 4 = 12 + s.val by omega, show s.val + 16 - 5 = 11 + s.val by omega, show s.val + 16 - 6 = 10 + s.val by omega, show s.val + 16 - 7 = 9 + s.val by omega, show s.val + 16 - 8 = 8 + s.val by omega, show s.val + 16 - 9 = 7 + s.val by omega, show s.val + 16 - 10 = 6 + s.val by omega, show s.val + 16 - 11 = 5 + s.val by omega, show s.val + 16 - 12 = 4 + s.val by omega, show s.val + 16 - 13 = 3 + s.val by omega, show s.val + 16 - 14 = 2 + s.val by omega, show s.val + 16 - 15 = 1 + s.val by omega]

theorem ref_y (H : Seqs X G1 W WG BG a k q v) (b : Fin 4) (s : Fin 4096) (c : Fin 1024) :
    val_main_v183 (F := Ideal) X G1 W WP PS WG BG GG (ix3 b s c) = yS X G1 W WP PS GG a k q v b s c := by
  unfold val_main_v183 val_main_v182 val_main_v181 val_main_v178
  have e0 := ref_pool0 X G1 W WP PS b s
  have e1 := ref_pool1 X G1 W WP PS b s
  have e2 := ref_pool2 X G1 W WP PS b s
  have e3 := ref_pool3 X G1 W WP PS b s
  have eh := ref_head X G1 W WG BG GG H b s
  revert e0 e1 e2 e3 eh
  generalize val_main_v94 (F := Ideal) X G1 W WP = y0
  generalize val_main_v111 (F := Ideal) X G1 W WP = y1
  generalize val_main_v136 (F := Ideal) X G1 W WP = y2
  generalize val_main_v177 (F := Ideal) X G1 W WP = y3
  generalize val_main_v76 (F := Ideal) X G1 W WG BG GG = yh
  intro e0 e1 e2 e3 eh
  unfold yS
  pointwise [val_main_v180, val_main_v179]
  have hc := c.isLt
  by_cases h : c.val < 512
  · rw [dif_pos h, dif_pos h]
    by_cases h1 : c.val < 128
    · rw [dif_pos h1]
      exact ((congrArg (fun n => _ * PS (ix1 n)) (Fin.ext (by show c.val = 128 * 0 + c.val; omega))).trans (e0 ⟨c.val, h1⟩)).trans
        (congrArg₂ (poolS X G1 W WP PS b s) (Fin.ext (by show 0 = c.val / 128; omega)) (Fin.ext (by show c.val = c.val % 128; omega)))
    rw [dif_neg h1]
    by_cases h2 : c.val - 128 < 128
    · rw [dif_pos h2]
      exact ((congrArg (fun n => _ * PS (ix1 n)) (Fin.ext (by show c.val = 128 * 1 + (c.val - 128); omega))).trans (e1 ⟨c.val - 128, h2⟩)).trans
        (congrArg₂ (poolS X G1 W WP PS b s) (Fin.ext (by show 1 = c.val / 128; omega)) (Fin.ext (by show c.val - 128 = c.val % 128; omega)))
    rw [dif_neg h2]
    by_cases h3 : c.val - 128 - 128 < 128
    · rw [dif_pos h3]
      exact ((congrArg (fun n => _ * PS (ix1 n)) (Fin.ext (by show c.val = 128 * 2 + (c.val - 128 - 128); omega))).trans (e2 ⟨c.val - 128 - 128, h3⟩)).trans
        (congrArg₂ (poolS X G1 W WP PS b s) (Fin.ext (by show 2 = c.val / 128; omega)) (Fin.ext (by show c.val - 128 - 128 = c.val % 128; omega)))
    rw [dif_neg h3]
    exact ((congrArg (fun n => _ * PS (ix1 n)) (Fin.ext (by show c.val = 128 * 3 + (c.val - 128 - 128 - 128); omega))).trans
      (e3 ⟨c.val - 128 - 128 - 128, by omega⟩)).trans
      (congrArg₂ (poolS X G1 W WP PS b s) (Fin.ext (by show 3 = c.val / 128; omega)) (Fin.ext (by show c.val - 128 - 128 - 128 = c.val % 128; omega)))
  · rw [dif_neg h, dif_neg h, eh]
    exact congrArg (headS X G1 W GG a k q v b s _) (Fin.ext (by show (c.val - 512) % 128 = c.val % 128; omega))

theorem ref_o (H : Seqs X G1 W WG BG a k q v) (b : Fin 4) (s : Fin 4096) (d : Fin 1024) :
    val_main_v184 (F := Ideal) X G1 W WP PS WG BG GG WO (ix3 b s d) = ∑ c : Fin 1024, yS X G1 W WP PS GG a k q v b s c * WO (ix2 c d) := by
  unfold val_main_v184
  have e := ref_y X G1 W WP PS WG BG GG H
  revert e
  generalize val_main_v183 (F := Ideal) X G1 W WP PS WG BG GG = y
  intro e
  simp only [← e]
  pointwise []

theorem ref_out (H : Seqs X G1 W WG BG a k q v) (b : Fin 4) (s : Fin 4096) (d : Fin 1024) :
    val_main_v198 (F := Ideal) X G1 W WP PS WG BG GG WO G2 (ix3 b s d) = outS X G1 W WP PS GG WO G2 a k q v b s d := by
  have e := ref_o X G1 W WP PS WG BG GG WO H
  unfold outS
  simp only [← e]
  unfold val_main_v198 val_main_v197 val_main_v194 val_main_v193 val_main_v192 val_main_v191 val_main_v189 val_main_v187 val_main_v186 val_main_v185
  generalize val_main_v184 (F := Ideal) X G1 W WP PS WG BG GG WO = y
  pointwise [val_main_v196, val_main_v195, val_main_v190, val_main_v188, val_main_cst_15, val_main_cst_16, val_main_cst_17]
  rfl

end Ref

end Cert.MixIdeal.Hand

end
-- ==== Proof.MixFinite.lean ====
/-
  Under the precondition every projection the heads take is a real number, and so is every decay of a column whose bias
  is not minus infinity: the real sequences that the closed form of the heads is over exist.
-/
module

public import proofs.«01_k».proof.Defs
public import proofs.«01_k».proof.Proof.MixSpec
public import proofs.«01_k».proof.Proof.Gen.Pre_finite_mixing
public import Idealize.ShloMosaic.Lib.ReduceAll

@[expose] public section

noncomputable section

open Idealize.ShloMosaic Idealize.ShloMosaic.TcCoe
open Idealize.ShloMosaic.Pointwise

namespace Cert.MixIdeal.Hand

open Cert.FfnIdeal.Hand (rnorm)

/-- `x` is a real number. -/
def IsR (x : EReal) : Prop := ∃ r : ℝ, x = (r : EReal)

theorem IsR.add {x y : EReal} : IsR x → IsR y → IsR (x + y) := fun ⟨a, ha⟩ ⟨b, hb⟩ => ⟨a + b, by rw [ha, hb]; rfl⟩
theorem IsR.sub {x y : EReal} : IsR x → IsR y → IsR (x - y) := fun ⟨a, ha⟩ ⟨b, hb⟩ => ⟨a - b, by rw [ha, hb]; rfl⟩
theorem IsR.mul {x y : EReal} : IsR x → IsR y → IsR (x * y) := fun ⟨a, ha⟩ ⟨b, hb⟩ => ⟨a * b, by rw [ha, hb]; exact (EReal.coe_mul a b).symm⟩
theorem IsR.sum {n : ℕ} {f : Fin n → EReal} (h : ∀ i, IsR (f i)) : IsR (∑ i, f i) := by
  choose g hg using h
  exact ⟨∑ i, g i, sum_real f g hg⟩

theorem mul_self_pos_or (x : EReal) : x * x = ⊤ ∨ ∃ r : ℝ, x = (r : EReal) := by
  induction x with
  | bot => exact Or.inl rfl
  | top => exact Or.inl rfl
  | coe r => exact Or.inr ⟨r, rfl⟩

theorem mul_self_ne_bot (x : EReal) : x * x ≠ ⊥ := by
  rcases mul_self_pos_or x with h | ⟨r, rfl⟩
  · rw [h]; exact top_ne_bot
  · rw [← EReal.coe_mul]; exact EReal.coe_ne_bot _

theorem sum_ne_bot {ι : Type} (s : Finset ι) (f : ι → EReal) (h : ∀ i, f i ≠ ⊥) : ∑ i ∈ s, f i ≠ ⊥ := by
  classical
  induction s using Finset.induction_on with
  | empty => simp
  | insert a s ha ih =>
    rw [Finset.sum_insert ha]
    exact fun hb => (EReal.add_eq_bot_iff.mp hb).elim (h a) ih

/-- A row, normalised by a row of reals, is a row of reals. Where the row is real, the mean square plus a positive
constant is positive; where it has an infinity, the mean square is infinite and everything is divided away. -/
theorem rnorm_isR {v g : Fin 1024 → EReal} (hg : ∀ k, IsR (g k)) (k : Fin 1024) : IsR (rnorm v g k) := by
  have h1 : Ideal.ofBits .f32 0x44800000#32 = ((1024 : ℝ) : EReal) := by simp [Ideal.ofBits, Ideal.ieee, -EReal.coe_mul]; norm_num
  obtain ⟨e, he, h2⟩ : ∃ e : ℝ, 0 < e ∧ Ideal.ofBits .f32 0x358637BD#32 = (e : EReal) :=
    ⟨(8796093 : ℝ) * 2 ^ (-43 : ℤ), by positivity, by simp [Ideal.ofBits, Ideal.ieee, -EReal.coe_mul]⟩
  refine IsR.mul (y := g k) ?_ (hg k)
  by_cases hv : ∀ k, IsR (v k)
  · choose w hw using hv
    have hs : (∑ j, v j * v j) = ((∑ j, w j * w j : ℝ) : EReal) := sum_real _ _ fun j => by rw [hw j]; exact (EReal.coe_mul _ _).symm
    have hpos : 0 < (∑ j, w j * w j) * (1 / 1024) + e :=
      add_pos_of_nonneg_of_pos (mul_nonneg (Finset.sum_nonneg fun j _ => mul_self_nonneg _) (by norm_num)) he
    refine ((hw k) ▸ ⟨w k, rfl⟩ : IsR (v k)).mul ?_
    rw [hs, h1, h2, Ideal.div_coe (by norm_num), ← EReal.coe_mul, ← EReal.coe_add, Ideal.rsqrt_coe, if_neg (not_lt.mpr hpos.le), if_neg hpos.ne']
    exact ⟨_, rfl⟩
  · obtain ⟨n, hn⟩ := not_forall.mp hv
    have hs : (∑ j, v j * v j) = ⊤ := by
      rw [← Finset.add_sum_erase _ _ (Finset.mem_univ n), (mul_self_pos_or (v n)).resolve_right hn]
      exact EReal.top_add_of_ne_bot (sum_ne_bot _ _ fun j => mul_self_ne_bot _)
    rw [hs, h1, h2, Ideal.div_coe (by norm_num), EReal.top_mul_coe_of_pos (by norm_num), EReal.top_add_coe,
      show Ideal.rsqrt (⊤ : EReal) = 0 from rfl, mul_zero]
    exact ⟨0, rfl⟩

/-- The decay of a real logit is real. -/
theorem decF_isR {l : EReal} (h : IsR l) : IsR (decF l) := by
  obtain ⟨x, rfl⟩ := h
  have h1 : Ideal.ofBits .f32 0x3D800000#32 = ((1 / 16 : ℝ) : EReal) := by simp [Ideal.ofBits, Ideal.ieee, -EReal.coe_mul]; norm_num
  have h2 : min (x : EReal) 0 = ((min x 0 : ℝ) : EReal) := (EReal.coe_strictMono.monotone.map_min (a := x) (b := 0)).symm
  have h3 : 0 - max (x : EReal) (-(x : EReal)) = ((0 - max x (-x) : ℝ) : EReal) := by
    rw [show max (x : EReal) (-(x : EReal)) = ((max x (-x) : ℝ) : EReal) from (EReal.coe_strictMono.monotone.map_max (a := x) (b := -x)).symm]
    rfl
  unfold decF
  rw [h1, h2, h3, exp_real]
  have h4 : Ideal.log1p ((Real.exp (0 - max x (-x)) : ℝ) : EReal) = ((Real.log (1 + Real.exp (0 - max x (-x))) : ℝ) : EReal) := by
    show Ideal.log ((1 + Real.exp (0 - max x (-x)) : ℝ) : EReal) = _
    show (if (1 + Real.exp (0 - max x (-x)) : ℝ) ≤ 0 then (⊥ : EReal) else _) = _
    rw [if_neg (not_le.mpr (by positivity))]
  rw [h4]
  exact (IsR.sub ⟨_, rfl⟩ ⟨_, rfl⟩).mul ⟨_, rfl⟩

theorem decF_top : IsR (decF ⊤) := by
  refine ⟨0, ?_⟩
  unfold decF
  simp [show Ideal.exp (⊥ : EReal) = 0 from rfl, log1p_zero]

theorem decF_bot : decF ⊥ = ⊥ := by
  have h1 : Ideal.ofBits .f32 0x3D800000#32 = ((1 / 16 : ℝ) : EReal) := by simp [Ideal.ofBits, Ideal.ieee, -EReal.coe_mul]; norm_num
  unfold decF
  rw [h1]
  simp [show Ideal.exp (⊥ : EReal) = 0 from rfl, log1p_zero, EReal.bot_mul_coe_of_pos]

section Seq

variable (X : (⟨3, ![4, 4096, 1024]⟩ : Shape).Idx → EReal) (G1 : (⟨1, ![1024]⟩ : Shape).Idx → EReal)
  (W : (⟨2, ![1024, 2064]⟩ : Shape).Idx → EReal) (WG : (⟨2, ![16, 256]⟩ : Shape).Idx → EReal)
  (BG : (⟨1, ![256]⟩ : Shape).Idx → EReal)

/-- The scales and weights the projections and the gate read are real. -/
structure Reals : Prop where
  hG1 : ∀ i, IsR (G1 i)
  hW : ∀ i, IsR (W i)
  hWG : ∀ i, IsR (WG i)

/-- A real sequence from values at the places below 4096. -/
def seqR {n : ℕ} (f : Fin 4096 → Fin n → EReal) (s : ℕ) (c : Fin n) : ℝ := if h : s < 4096 then (f ⟨s, h⟩ c).toReal else 0

theorem seqR_eq {n : ℕ} (f : Fin 4096 → Fin n → EReal) (s : Fin 4096) (c : Fin n) (h : IsR (f s c)) : f s c = (seqR f s.val c : EReal) := by
  unfold seqR
  rw [dif_pos s.isLt]
  obtain ⟨r, hr⟩ := h
  show f s c = ((f s c).toReal : EReal)
  rw [hr, EReal.toReal_coe]

open Classical in
/-- A sequence with zeros in the columns whose bias is minus infinity. -/
def offR (f : ℕ → Fin 256 → ℝ) (s : ℕ) (c : Fin 256) : ℝ := if BG (ix1 c) = ⊥ then 0 else f s c

/-- The decays, keys, scaled queries and values. -/
def aR (b : Fin 4) : ℕ → Fin 256 → ℝ := seqR fun s c => decF (lgS X G1 W WG BG b s c)
def kR (b : Fin 4) : ℕ → Fin 256 → ℝ := offR BG (seqR fun s c => pS X G1 W b s ⟨768 + c.val, by omega⟩)
def qR (b : Fin 4) : ℕ → Fin 256 → ℝ := offR BG (seqR fun s c => pS X G1 W b s ⟨512 + c.val, by omega⟩ * Ideal.ofBits .f32 0x3E000000#32)
def vR (b : Fin 4) : ℕ → Fin 512 → ℝ := seqR fun s c => pS X G1 W b s ⟨1024 + c.val, by omega⟩

variable {X G1 W WG BG}

theorem pS_isR (H : Reals G1 W WG) (b : Fin 4) (s : Fin 4096) (c : Fin 2064) : IsR (pS X G1 W b s c) :=
  IsR.sum fun i => (rnorm_isR (fun _ => H.hG1 _) i).mul (H.hW _)

/-- A column's decays are real, unless its bias is minus infinity. -/
theorem dec_isR (H : Reals G1 W WG) (b : Fin 4) (s : Fin 4096) (c : Fin 256) (h : BG (ix1 c) ≠ ⊥) : IsR (decF (lgS X G1 W WG BG b s c)) := by
  obtain ⟨r, hr⟩ : IsR (∑ e : Fin 16, pS X G1 W b s ⟨1536 + e.val, by omega⟩ * WG (ix2 e c)) := IsR.sum fun _ => (pS_isR H b s _).mul (H.hWG _)
  unfold lgS
  rw [hr]
  revert h
  generalize BG (ix1 c) = z
  intro h
  induction z with
  | bot => exact absurd rfl h
  | top => rw [EReal.coe_add_top]; exact decF_top
  | coe x => exact decF_isR ⟨r + x, rfl⟩

/-- Real scales and weights make real sequences. -/
theorem seqs (H : Reals G1 W WG) : Seqs X G1 W WG BG (aR X G1 W WG BG) (kR X G1 W BG) (qR X G1 W BG) (vR X G1 W) where
  hv b s c := seqR_eq (fun s (c : Fin 512) => pS X G1 W b s ⟨1024 + c.val, by omega⟩) s c (pS_isR H b s _)
  hc b c := by
    by_cases h : BG (ix1 c) = ⊥
    · refine Or.inr ⟨fun s => ?_, fun n => ⟨if_pos h, if_pos h⟩⟩
      dsimp only
      unfold lgS
      rw [h, EReal.add_bot, decF_bot]
    · refine Or.inl fun s => ⟨?_, ?_, ?_⟩
      · exact seqR_eq (fun s (c : Fin 256) => decF (lgS X G1 W WG BG b s c)) s c (dec_isR H b s c h)
      · exact (seqR_eq (fun s (c : Fin 256) => pS X G1 W b s ⟨512 + c.val, by omega⟩ * Ideal.ofBits .f32 0x3E000000#32) s c
          ((pS_isR H b s _).mul ⟨1 / 8, by simp [Ideal.ofBits, Ideal.ieee, -EReal.coe_mul]; norm_num⟩)).trans (congrArg _ (if_neg h).symm)
      · exact (seqR_eq (fun s (c : Fin 256) => pS X G1 W b s ⟨768 + c.val, by omega⟩) s c (pS_isR H b s _)).trans (congrArg _ (if_neg h).symm)

end Seq

/-- A number whose size is below infinity is real. -/
theorem isR_of_lt {x : EReal} (h : Ideal.cmp .olt (max x (-x)) (Ideal.ofBits .f32 0x7F800000#32) = 1#1) : IsR x := by
  have ht : Ideal.ofBits .f32 0x7F800000#32 = ⊤ := by simp [Ideal.ofBits, Ideal.ieee]
  rw [ht] at h
  have hlt : max x (-x) < ⊤ := by
    by_contra hn
    revert h
    show BitVec.ofBool (decide (max x (-x) < ⊤)) = 1#1 → False
    rw [decide_eq_false hn]
    decide
  induction x with
  | bot => exact absurd hlt (by simp)
  | top => exact absurd hlt (by simp)
  | coe r => exact ⟨r, rfl⟩

open Cert.Pre_finite_mixing in
set_option maxRecDepth 16384 in
/-- The precondition says the arguments are real. -/
theorem reals_of_pre (a0 : FVec Ideal S4x4096x1024 .f32) (a1 : FVec Ideal S1024 .f32) (a2 : FVec Ideal S1024x2064 .f32)
    (a3 : FVec Ideal S4x128x128 .f32) (a4 : FVec Ideal S512 .f32) (a5 : FVec Ideal S16x256 .f32) (a6 : FVec Ideal S256 .f32)
    (a7 : FVec Ideal S128 .f32) (a8 : FVec Ideal S1024x1024 .f32) (a9 : FVec Ideal S1024 .f32)
    (h : @Cert.Pre_finite_mixing.fn Cert.Pre_finite_mixing.Gen.facts Ideal _ a0 a1 a2 a3 a4 a5 a6 a7 a8 a9 = fun _ => 1#1) :
    Reals a1 a2 a5 := by
  have h' := congrFun h finZeroElim
  obtain ⟨h1, e5⟩ := IntOp.andi_eq_one.1 h'
  obtain ⟨e1, e2⟩ := IntOp.andi_eq_one.1 h1
  exact ⟨fun i => isR_of_lt (Host.reduce_andi_all _ _ _ _ _ e1 i), fun i => isR_of_lt (Host.reduce_andi_all _ _ _ _ _ e2 i),
    fun i => isR_of_lt (Host.reduce_andi_all _ _ _ _ _ e5 i)⟩

end Cert.MixIdeal.Hand

end
-- ==== Proof.MixPool.lean ====
/-
  The token mixer's projection, its four pooled groups and its last normalisation, element by element.
-/
module

public import proofs.«01_k».proof.Proof.MixSpec
public import Idealize.ShloMosaic.Lib.Pointwise

@[expose] public section

noncomputable section

open Idealize.ShloMosaic Idealize.ShloMosaic.TcCoe
open Idealize.ShloMosaic.Pointwise

namespace Cert.MixIdeal.Hand

open Cert.MixIdeal Cert.MixIdeal.Gen
open Cert.FfnIdeal.Hand (rnorm)

theorem pos_apply (i : grid0.Coords) (r : Fin 256) (z : Fin 1) :
    k0_pay8 (F := Ideal) (k0_pay7 i) 1#32 (ix2 r z) = posS (256 * (i 1).val + r.val) := by
  pointwise [k0_pay8, k0_pay7]
  have h : ∀ (a : Fin 16) (r : Fin 256), (IntOp.addi (IntOp.addi (Scalar.muli (BitVec.ofNat 32 a.val) 256#32) (BitVec.ofNat 32 r.val)) 1#32).toInt
      = ((256 * a.val + r.val + 1 : ℕ) : ℤ) := by decide +kernel
  have h' := h (i 1) r
  show (((IntOp.addi (IntOp.addi (Scalar.muli (BitVec.ofNat 32 (i 1).val) 256#32) (BitVec.ofNat 32 r.val)) 1#32).toInt : ℝ) : EReal) = _
  rw [h']
  unfold posS
  push_cast
  rfl

/-- A row's projection onto packed weight column `c`. -/
theorem proj_apply (x0 : Vec Ideal S1x256x1024 .f32) (x1 : Vec Ideal S1x1024 .f32) (x2 : Vec Ideal S1024x2176 .bf16)
    (r : Fin 256) (c : Fin 2176) :
    k0_pay5 x0 x1 x2 (ix2 r c)
      = ∑ j : Fin 1024, rnorm (fun j => x0 (ix3 0 r j)) (fun j => x1 (ix2 0 j)) j * x2 (ix2 j c) := by
  unfold rnorm
  pointwise [k0_pay5, k0_pay4]

theorem last_apply (x0 : Vec Ideal S1x256x1024 .f32) (y : Vec Ideal S256x1024 .bf16) (x8 : Vec Ideal S1024x1024 .bf16)
    (x9 : Vec Ideal S1x1024 .f32) (z : Fin 1) (r : Fin 256) (d : Fin 1024) :
    k0_pay1 (k0_pay4 x0) (k0_pay62 y x8) (k0_pay63 x9) (k0_pay64 y x8) k0_pay65 (ix3 z r d)
      = x0 (ix3 0 r d) + rnorm (fun d => ∑ c : Fin 1024, y (ix2 r c) * x8 (ix2 c d)) (fun d => x9 (ix2 0 d)) d := by
  unfold rnorm
  pointwise [k0_pay1, k0_pay62, k0_pay63, k0_pay64, k0_pay65, k0_pay4]

section Pool

variable (U : Fin 512 → ℕ → EReal)

/-- The 256 rows of group `g`'s columns, `j` rows back. -/
def sh (g : Fin 4) (j : ℕ) : Vec Ideal S256x128 .f32 := fun x => U (colH g (x 1)) ((x 0).val + 16 - j)

variable (i : grid0.Coords) (w : Vec Ideal S1x128x128 .bf16) (s : Vec Ideal S1x128 .f32) (r : Fin 256) (c : Fin 128)

theorem pool0_apply : k0_pay9 (k0_pay7 i) 1#32 (sh U 0 0) (sh U 0 1) w s (ix2 r c)
    = poolF (fun d n => U (colH 0 d) (r.val + 16 - n)) (wid 0) (wlim 0) (posS (256 * (i 1).val + r.val))
        (fun d => w (ix3 0 d c)) (s (ix2 0 c)) := by
  have e := pos_apply i r
  unfold k0_pay9
  revert e; generalize k0_pay8 (F := Ideal) (k0_pay7 i) 1#32 = p; intro e
  pointwise
  simp only [e]
  rfl

theorem pool1_apply : k0_pay11 (k0_pay10 (k0_pay7 i) 1#32 (sh U 1 0) (sh U 1 1) (sh U 1 2) (sh U 1 3)) w s (ix2 r c)
    = poolF (fun d n => U (colH 1 d) (r.val + 16 - n)) (wid 1) (wlim 1) (posS (256 * (i 1).val + r.val))
        (fun d => w (ix3 0 d c)) (s (ix2 0 c)) := by
  have e := pos_apply i r
  unfold k0_pay11 k0_pay10
  revert e; generalize k0_pay8 (F := Ideal) (k0_pay7 i) 1#32 = p; intro e
  pointwise
  simp only [e]
  rfl

theorem pool2_apply : k0_pay13 (k0_pay12 (k0_pay8 (k0_pay7 i) 1#32) (sh U 2 0) (sh U 2 1) (sh U 2 2) (sh U 2 3) (sh U 2 4) (sh U 2 5) (sh U 2 6) (sh U 2 7)) w s (ix2 r c)
    = poolF (fun d n => U (colH 2 d) (r.val + 16 - n)) (wid 2) (wlim 2) (posS (256 * (i 1).val + r.val))
        (fun d => w (ix3 0 d c)) (s (ix2 0 c)) := by
  have e := pos_apply i r
  unfold k0_pay13 k0_pay12
  revert e; generalize k0_pay8 (F := Ideal) (k0_pay7 i) 1#32 = p; intro e
  pointwise
  simp only [e]
  rfl

theorem pool3_apply : k0_pay15 (k0_pay8 (k0_pay7 i) 1#32) (sh U 3 0)
      (k0_pay14 (sh U 3 0) (sh U 3 1) (sh U 3 2) (sh U 3 3) (sh U 3 4) (sh U 3 5) (sh U 3 6) (sh U 3 7) (sh U 3 8) (sh U 3 9) (sh U 3 10))
      (sh U 3 11) (sh U 3 12) (sh U 3 13) (sh U 3 14) (sh U 3 15) w s (ix2 r c)
    = poolF (fun d n => U (colH 3 d) (r.val + 16 - n)) (wid 3) (wlim 3) (posS (256 * (i 1).val + r.val))
        (fun d => w (ix3 0 d c)) (s (ix2 0 c)) := by
  have e := pos_apply i r
  unfold k0_pay15 k0_pay14
  revert e; generalize k0_pay8 (F := Ideal) (k0_pay7 i) 1#32 = p; intro e
  pointwise
  simp only [e]
  rfl

end Pool

end Cert.MixIdeal.Hand

end
-- ==== Proof.MixBlockA.lean ====
/-
  One grid point of the token mixer: what its body leaves in the output block, in the sixteen carried rows and in the
  carried state, read as values. The 1024 columns the last projection reads are written in twelve pieces, four pooled
  groups and two times four heads; each is a block of one function `yL`, so the read is that function.
-/
module

public import proofs.«01_k».proof.Proof.MixPool
public import proofs.«01_k».proof.Proof.FfnBlock
public import proofs.«01_k».proof.Proof.Gen.MixIdeal.Frame
public import Idealize.ShloMosaic.Lib.Pipeline.Value
public import Idealize.ShloMosaic.Lib.Pipeline.ReadBack
public import Idealize.ShloMosaic.Lib.Pipeline.ValueKit.Tiles
public import Idealize.ShloMosaic.Lib.WritesUnit
public import Idealize.ShloMosaic.Lib.Tactic

@[expose] public section

noncomputable section

open Idealize.ShloMosaic Idealize.ShloMosaic.TcCoe
open Idealize.ShloMosaic.Pointwise

namespace Cert.MixIdeal.Hand

open Cert.MixIdeal Cert.MixIdeal.Gen
open Cert.FfnIdeal.Hand (hz2 hz3 canon_pieces)

/-- A rectangle of a matrix, read at an entry. -/
theorem ld2 {e : EltTy} {M N m n : ℕ} (X : (⟨2, ![M, N]⟩ : Shape).Idx → Elt Ideal e) (o o' : ℕ)
    (inb : ∀ a, (![o, o'] : Fin 2 → ℕ) a + (![m, n] : Fin 2 → ℕ) a ≤ (⟨2, ![M, N]⟩ : Shape).size a)
    (r : Fin m) (q : Fin n) (a : Fin M) (b : Fin N) (ha : a.val = o + r.val) (hb : b.val = o' + q.val) :
    View.ld X (Rect.unit (s := ⟨2, ![M, N]⟩) ![o, o'] ![m, n] inb) (ix2 r q) = X (ix2 a b) := by
  refine congrArg X (funext fun d => Fin.ext ?_)
  rw [Rect.idx_unit_val]
  match d with
  | ⟨0, _⟩ => exact ha.symm
  | ⟨1, _⟩ => exact hb.symm

/-- Where a store's entry lies in a matrix. -/
theorem emb2 {M N m n : ℕ} (o o' : ℕ)
    (inb : ∀ a, (![o, o'] : Fin 2 → ℕ) a + (![m, n] : Fin 2 → ℕ) a ≤ (⟨2, ![M, N]⟩ : Shape).size a)
    (r : Fin m) (q : Fin n) (a : Fin M) (b : Fin N) (ha : a.val = o + r.val) (hb : b.val = o' + q.val) :
    (Rect.unit (s := ⟨2, ![M, N]⟩) ![o, o'] ![m, n] inb).emb (ix2 r q) = ix2 a b := by
  funext d
  refine Fin.ext ((Rect.idx_unit_val _ _ _ _ d).trans ?_)
  match d with
  | ⟨0, _⟩ => exact ha.symm
  | ⟨1, _⟩ => exact hb.symm

section Fold

variable (pq pk : Vec Ideal S128x256 .f32) (pv pr : Vec Ideal S128x512 .f32) (pg : Vec Ideal S128x128 .f32)
  (wg : Vec Ideal S128x256 .bf16) (bg : Vec Ideal S1x256 .f32) (gg : Vec Ideal S1x128 .f32) (st : Vec Ideal S512x256 .f32)

/-! The pieces of an attention block, each named where the body has it. -/

theorem fold_tri : k0_pay18 (F := Ideal) k0_pay17 (FloatOps.ofBits .f32 0x3F800000#32) = triC := rfl
theorem fold_mask : k0_pay23 (iota .tc S512x256 32 [0] iota_S512x256_d0_w32) k0_pay20 k0_pay21 k0_pay22 = maskC := rfl
theorem fold_sc : k0_pay34 k0_pay19 (k0_pay30 triC (k0_pay25 pq) pg wg bg) (k0_pay31 triC pk pg wg bg) 0#32 = scC pq pk pg wg bg := rfl
theorem fold_in : k0_pay35 (k0_pay32 triC (k0_pay25 pq) pg wg bg) st = inC pq pg wg bg st := rfl
theorem fold_st : k0_pay36 maskC (k0_pay26 pv) (k0_pay28 triC pg wg bg) (k0_pay33 triC pk pg wg bg) st = stC pk pv pg wg bg st := rfl
theorem fold_pv : k0_pay46 (F := Ideal) pv = k0_pay26 pv := rfl
theorem fold_hd0 : k0_pay56 k0_pay17 (k0_pay24 gg) (k0_pay26 pv) pr (scC pq pk pg wg bg) (inC pq pg wg bg st) = hd0 pq pk pv pr pg wg bg gg st := rfl
theorem fold_hd1 : k0_pay40 k0_pay17 (k0_pay24 gg) (k0_pay26 pv) pr (scC pq pk pg wg bg) (inC pq pg wg bg st) = hd1 pq pk pv pr pg wg bg gg st := rfl
theorem fold_hd2 : k0_pay41 k0_pay17 (k0_pay24 gg) (k0_pay26 pv) pr (scC pq pk pg wg bg) (inC pq pg wg bg st) = hd2 pq pk pv pr pg wg bg gg st := rfl
theorem fold_hd3 : k0_pay61 k0_pay17 (k0_pay24 gg) (k0_pay26 pv) pr (scC pq pk pg wg bg) (inC pq pg wg bg st) = hd3 pq pk pv pr pg wg bg gg st := rfl
theorem fold_st1 : k0_pay55 maskC (k0_pay26 pv) (k0_pay51 triC (k0_pay48 pg wg bg) (k0_pay49 pg wg bg))
      (k0_pay52 triC pk (k0_pay48 pg wg bg) (k0_pay49 pg wg bg)) st (constant S512x256 .f32 0x00000000#32)
    = stC pk pv pg wg bg st := rfl

end Fold

section Values

variable (pj : Vec Ideal S256x2176 .f32) (x3 : Vec Ideal S4x128x128 .bf16) (x4 : Vec Ideal S1x512 .f32)
  (x5 : Vec Ideal S128x256 .bf16) (x6 : Vec Ideal S1x256 .f32) (x7 : Vec Ideal S1x128 .f32)
  (U : Fin 512 → ℕ → EReal) (a k q : ℕ → Fin 256 → ℝ) (v : ℕ → Fin 512 → ℝ) (T : ℕ)

/-- A block's projections are rows `T … T + 255` of the real sequences, and rows 16 to 271 of the pooled ones. -/
structure Blk : Prop where
  hu : ∀ (r : Fin 256) (c : Fin 512), pj (ix2 r ⟨c.val, by omega⟩) = U c (16 + r.val)
  hv : ∀ (r : Fin 256) (c : Fin 512), pj (ix2 r ⟨1024 + c.val, by omega⟩) = (v (T + r.val) c : EReal)
  hc : ∀ c : Fin 256, Col (fun r : Fin 256 => decF ((∑ e : Fin 128, pj (ix2 r ⟨2048 + e.val, by omega⟩) * x5 (ix2 e c)) + x6 (ix2 0 c)))
    (fun r => pj (ix2 r ⟨512 + c.val, by omega⟩) * Ideal.ofBits .f32 0x3E000000#32) (fun r => pj (ix2 r ⟨768 + c.val, by omega⟩))
    (fun n => a n c) (fun n => k n c) (fun n => q n c) (fun r => T + r.val)

/-- What the last projection reads at row `r`: the pooled columns, then the heads; `n` is the block's first row. -/
def yL (n : ℕ) : S256x1024.Idx → EReal := fun j =>
  if h : (j 1).val < 512 then
    poolF (fun d m => U (colH ⟨(j 1).val / 128, by omega⟩ d) ((j 0).val + 16 - m)) (wid ⟨(j 1).val / 128, by omega⟩)
      (wlim ⟨(j 1).val / 128, by omega⟩) (posS (n + (j 0).val)) (fun d => x3 (ix3 ⟨(j 1).val / 128, by omega⟩ d ⟨(j 1).val % 128, by omega⟩))
      (x4 (ix2 0 (colH ⟨(j 1).val / 128, by omega⟩ ⟨(j 1).val % 128, by omega⟩)))
  else
    headF (fun w => ((attR a k q v (T + (j 0).val) (colH ⟨((j 1).val - 512) / 128, by have := (j 1).isLt; dsimp at this; omega⟩ w) : ℝ) : EReal))
      (fun w => x7 (ix2 0 w))
      (fun w => pj (ix2 (j 0) ⟨1536 + (colH ⟨((j 1).val - 512) / 128, by have := (j 1).isLt; dsimp at this; omega⟩ w).val, by
        have := (colH ⟨((j 1).val - 512) / 128, by have := (j 1).isLt; dsimp at this; omega⟩ w).isLt; omega⟩))
      ⟨(j 1).val % 128, by omega⟩

variable {pj x5 x6 U a k q v T}

theorem yL_pool (n : ℕ) (r : Fin 256) (g : Fin 4) (w : Fin 128) (c : Fin 1024) (hc : c.val = 128 * g.val + w.val) :
    yL pj x3 x4 x7 U a k q v T n (ix2 r c)
      = poolF (fun d m => U (colH g d) (r.val + 16 - m)) (wid g) (wlim g) (posS (n + r.val)) (fun d => x3 (ix3 g d w)) (x4 (ix2 0 (colH g w))) := by
  have hg := g.isLt
  have hw := w.isLt
  have e1 : c.val / 128 = g.val := by omega
  have e2 : c.val % 128 = w.val := by omega
  unfold yL
  rw [dif_pos (show ((ix2 r c : S256x1024.Idx) 1).val < 512 from (show c.val < 512 by omega))]
  show poolF (fun d m => U (colH ⟨c.val / 128, _⟩ d) (r.val + 16 - m)) (wid ⟨c.val / 128, _⟩) (wlim ⟨c.val / 128, _⟩) (posS (n + r.val))
    (fun d => x3 (ix3 ⟨c.val / 128, _⟩ d ⟨c.val % 128, _⟩)) (x4 (ix2 0 (colH ⟨c.val / 128, _⟩ ⟨c.val % 128, _⟩))) = _
  simp only [e1, e2]

theorem yL_head (n : ℕ) (r : Fin 256) (h : Fin 4) (w : Fin 128) (c : Fin 1024) (hc : c.val = 512 + 128 * h.val + w.val) :
    yL pj x3 x4 x7 U a k q v T n (ix2 r c)
      = headF (fun w => ((attR a k q v (T + r.val) (colH h w) : ℝ) : EReal)) (fun w => x7 (ix2 0 w))
          (fun w => pj (ix2 r ⟨1536 + (colH h w).val, by have := (colH h w).isLt; omega⟩)) w := by
  have hg := h.isLt
  have hw := w.isLt
  have e1 : (c.val - 512) / 128 = h.val := by omega
  have e2 : c.val % 128 = w.val := by omega
  unfold yL
  rw [dif_neg (show ¬((ix2 r c : S256x1024.Idx) 1).val < 512 from (show ¬c.val < 512 by omega))]
  show headF (fun w => ((attR a k q v (T + r.val) (colH ⟨(c.val - 512) / 128, _⟩ w) : ℝ) : EReal)) _
    (fun w => pj (ix2 r ⟨1536 + (colH ⟨(c.val - 512) / 128, _⟩ w).val, _⟩)) ⟨c.val % 128, _⟩ = _
  simp only [e1, e2]

/-- The rows one attention block reads. -/
theorem rows_of (H : Blk pj x5 x6 U a k q v T) (o T' : ℕ) (ho : o + 128 ≤ 256) (hT : T' = T + o)
    (i1 : ∀ a, (![o, 512] : Fin 2 → ℕ) a + (![128, 256] : Fin 2 → ℕ) a ≤ S256x2176.size a)
    (i2 : ∀ a, (![o, 768] : Fin 2 → ℕ) a + (![128, 256] : Fin 2 → ℕ) a ≤ S256x2176.size a)
    (i3 : ∀ a, (![o, 1024] : Fin 2 → ℕ) a + (![128, 512] : Fin 2 → ℕ) a ≤ S256x2176.size a)
    (i4 : ∀ a, (![o, 2048] : Fin 2 → ℕ) a + (![128, 128] : Fin 2 → ℕ) a ≤ S256x2176.size a) :
    Rows (View.ld pj (Rect.unit (s := S256x2176) ![o, 512] ![128, 256] i1)) (View.ld pj (Rect.unit (s := S256x2176) ![o, 768] ![128, 256] i2))
      (View.ld pj (Rect.unit (s := S256x2176) ![o, 1024] ![128, 512] i3)) (View.ld pj (Rect.unit (s := S256x2176) ![o, 2048] ![128, 128] i4))
      x5 x6 a k q v T' := by
  subst hT
  constructor
  · intro i c
    rw [Nat.add_assoc]
    exact (ld2 pj o 1024 i3 i c ⟨o + i.val, by omega⟩ ⟨1024 + c.val, by omega⟩ rfl rfl).trans (H.hv ⟨o + i.val, by omega⟩ c)
  · intro c
    refine (H.hc c).rows (fun i : Fin 128 => ⟨o + i.val, by omega⟩) (fun i => ?_) (fun i => ?_) (fun i => ?_) (fun i => Nat.add_assoc _ _ _)
    · exact congrArg (fun s => decF (s + _)) (Finset.sum_congr rfl fun e _ => congrArg (· * _)
        (ld2 pj o 2048 i4 i e ⟨o + i.val, by omega⟩ ⟨2048 + e.val, by omega⟩ rfl rfl))
    · exact congrArg (· * _) (ld2 pj o 512 i1 i c ⟨o + i.val, by omega⟩ ⟨512 + c.val, by omega⟩ rfl rfl)
    · exact ld2 pj o 768 i2 i c ⟨o + i.val, by omega⟩ ⟨768 + c.val, by omega⟩ rfl rfl

/-- A head's output is a block of `yL`. -/
theorem head_piece (n : ℕ) (h : Fin 4) (o o' T' : ℕ) (ho : o + 128 ≤ 256) (ho' : o' = 512 + 128 * h.val) (hT : T' = T + o)
    (i1 : ∀ a, (![o, 1536] : Fin 2 → ℕ) a + (![128, 512] : Fin 2 → ℕ) a ≤ S256x2176.size a)
    (i2 : ∀ a, (![o, o'] : Fin 2 → ℕ) a + (![128, 128] : Fin 2 → ℕ) a ≤ S256x1024.size a) (X : S128x128.Idx → EReal)
    (e : ∀ i w, X (ix2 i w) = headF (fun w => ((attR a k q v (T' + i.val) (colH h w) : ℝ) : EReal)) (fun w => x7 (ix2 0 w))
      (fun w => View.ld (e' := .f32) (Val := Elt Ideal) pj (Rect.unit (s := S256x2176) ![o, 1536] ![128, 512] i1) (ix2 i (colH h w))) w) (x : S128x128.Idx) :
    X x = yL pj x3 x4 x7 U a k q v T n ((Rect.unit (s := S256x1024) ![o, o'] ![128, 128] i2).emb x) := by
  subst ho' hT
  obtain ⟨i, w, rfl⟩ : ∃ (i : Fin 128) (w : Fin 128), x = ix2 i w := ⟨x 0, x 1, (ix2_eta x).symm⟩
  have hi := i.isLt
  have hw := w.isLt
  have hh := h.isLt
  rw [emb2 o _ i2 i w ⟨o + i.val, by omega⟩ ⟨512 + 128 * h.val + w.val, by omega⟩ rfl rfl, e,
    yL_head x3 x4 x7 n _ h w _ rfl]
  have e1 : ∀ w : Fin 128, View.ld (e' := .f32) (Val := Elt Ideal) pj (Rect.unit (s := S256x2176) ![o, 1536] ![128, 512] i1) (ix2 i (colH h w))
      = pj (ix2 ⟨o + i.val, by omega⟩ ⟨1536 + (colH h w).val, by have := (colH h w).isLt; omega⟩) := fun w =>
    ld2 pj o 1536 i1 i (colH h w) ⟨o + i.val, by omega⟩ ⟨1536 + (colH h w).val, _⟩ rfl rfl
  simp only [e1, Nat.add_assoc]

/-- A pooled group is a block of `yL`. -/
theorem pool_piece (n : ℕ) (g : Fin 4) (o' : ℕ) (ho' : o' = 128 * g.val)
    (i1 : ∀ a, (![g.val, 0, 0] : Fin 3 → ℕ) a + (![1, 128, 128] : Fin 3 → ℕ) a ≤ S4x128x128.size a)
    (i2 : ∀ a, (![0, o'] : Fin 2 → ℕ) a + (![1, 128] : Fin 2 → ℕ) a ≤ S1x512.size a)
    (i3 : ∀ a, (![0, o'] : Fin 2 → ℕ) a + (![256, 128] : Fin 2 → ℕ) a ≤ S256x1024.size a) (X : S256x128.Idx → EReal)
    (e : ∀ r c, X (ix2 r c) = poolF (fun d m => U (colH g d) (r.val + 16 - m)) (wid g) (wlim g) (posS (n + r.val))
      (fun d => View.ld (e' := .bf16) (Val := Elt Ideal) x3 (Rect.unit (s := S4x128x128) ![g.val, 0, 0] ![1, 128, 128] i1) (ix3 0 d c))
      (View.ld (e' := .f32) (Val := Elt Ideal) x4 (Rect.unit (s := S1x512) ![0, o'] ![1, 128] i2) (ix2 0 c))) (x : S256x128.Idx) :
    X x = yL pj x3 x4 x7 U a k q v T n ((Rect.unit (s := S256x1024) ![0, o'] ![256, 128] i3).emb x) := by
  subst ho'
  obtain ⟨i, w, rfl⟩ : ∃ (i : Fin 256) (w : Fin 128), x = ix2 i w := ⟨x 0, x 1, (ix2_eta x).symm⟩
  have hw := w.isLt
  have hg := g.isLt
  rw [emb2 0 _ i3 i w i ⟨128 * g.val + w.val, by omega⟩ (Nat.zero_add _).symm rfl, e, yL_pool x3 x4 x7 n _ g w _ rfl]
  refine congr (congrArg _ (funext fun d => congrArg x3 (funext fun b => Fin.ext ?_))) (ld2 x4 0 _ i2 0 w 0 (colH g w) rfl rfl)
  rw [Rect.idx_unit_val]
  match b with
  | ⟨0, _⟩ => exact Nat.add_zero _
  | ⟨1, _⟩ => exact Nat.zero_add _
  | ⟨2, _⟩ => exact Nat.zero_add _

/-- The pooled columns' buffer: sixteen carried rows, then the block's. -/
def uG (U : Fin 512 → ℕ → EReal) : S272x512.Idx → EReal := fun x => U (x 1) (x 0).val

/-- The block's own rows of that buffer. -/
theorem u_piece (H : Blk pj x5 x6 U a k q v T) (i1 : ∀ a, (![0, 0] : Fin 2 → ℕ) a + (![256, 512] : Fin 2 → ℕ) a ≤ S256x2176.size a)
    (i2 : ∀ a, (![16, 0] : Fin 2 → ℕ) a + (![256, 512] : Fin 2 → ℕ) a ≤ S272x512.size a) (x : S256x512.Idx) :
    k0_pay6 (View.ld pj (Rect.unit (s := S256x2176) ![0, 0] ![256, 512] i1)) x
      = uG U ((Rect.unit (s := S272x512) ![16, 0] ![256, 512] i2).emb x) := by
  obtain ⟨r, c, rfl⟩ : ∃ (r : Fin 256) (c : Fin 512), x = ix2 r c := ⟨x 0, x 1, (ix2_eta x).symm⟩
  have hr := r.isLt
  rw [emb2 16 0 i2 r c ⟨16 + r.val, by omega⟩ c rfl (Nat.zero_add _).symm]
  refine Eq.trans ?_ ((ld2 pj 0 0 i1 r c r ⟨c.val, by omega⟩ (Nat.zero_add _).symm (Nat.zero_add _).symm).trans (H.hu r c))
  pointwise [k0_pay6]

/-- A read of that buffer, `j` rows back, of group `g`. -/
theorem sh_of (W : S272x512.Idx → EReal) (o o' j : ℕ) (g : Fin 4) (ho : o + j = 16) (ho' : o' = 128 * g.val)
    (inb : ∀ a, (![o, o'] : Fin 2 → ℕ) a + (![256, 128] : Fin 2 → ℕ) a ≤ S272x512.size a)
    (hW : ∀ (r : Fin 272) (c : Fin 512), o ≤ r.val → W (ix2 r c) = uG U (ix2 r c)) :
    View.ld (e' := .f32) (Val := Elt Ideal) W (Rect.unit (s := S272x512) ![o, o'] ![256, 128] inb) = sh U g j := by
  subst ho'
  funext x
  obtain ⟨r, w, rfl⟩ : ∃ (r : Fin 256) (w : Fin 128), x = ix2 r w := ⟨x 0, x 1, (ix2_eta x).symm⟩
  have hr := r.isLt
  refine (ld2 (e := .f32) W o _ inb r w ⟨o + r.val, by omega⟩ (colH g w) rfl rfl).trans ((hW _ _ (Nat.le_add_right _ _)).trans ?_)
  show U (colH g w) (o + r.val) = U (colH g w) (r.val + 16 - j)
  congr 1
  omega

/-- The buffer after the first point's stores: zeros, then the block's rows. -/
theorem ext_A (H : Blk pj x5 x6 U a k q v T) (hz : ∀ c n, n < 16 → U c n = 0)
    (i1 : ∀ a, (![0, 0] : Fin 2 → ℕ) a + (![256, 512] : Fin 2 → ℕ) a ≤ S256x2176.size a)
    (i2 : ∀ a, (![16, 0] : Fin 2 → ℕ) a + (![256, 512] : Fin 2 → ℕ) a ≤ S272x512.size a)
    (i3 : ∀ a, (![0, 0] : Fin 2 → ℕ) a + (![16, 512] : Fin 2 → ℕ) a ≤ S272x512.size a) :
    View.canon (Val := Elt Ideal) (s := S272x512) (e := .f32) [⟨Rect.unit ![16, 0] ![256, 512] i2, k0_pay6 (View.ld pj (Rect.unit (s := S256x2176) ![0, 0] ![256, 512] i1))⟩,
      ⟨Rect.unit ![0, 0] ![16, 512] i3, k0_pay2 (F := Ideal)⟩] = uG U := by
  funext y
  refine canon_pieces (s := S272x512) (e := .f32) (uG U) _ ?_ y ?_
  · simp only [View.PiecesOf, and_true]
    refine ⟨fun x => u_piece H i1 i2 x, fun x => ?_⟩
    obtain ⟨r, c, rfl⟩ : ∃ (r : Fin 16) (c : Fin 512), x = ix2 r c := ⟨x 0, x 1, (ix2_eta x).symm⟩
    have hr := r.isLt
    rw [emb2 0 0 i3 r c ⟨r.val, by omega⟩ c (Nat.zero_add _).symm (Nat.zero_add _).symm]
    refine Eq.trans ?_ (hz c r.val hr).symm
    pointwise [k0_pay2]
  · exact View.cover_of_tiledBy _ ![16, 512] (by sl_kernel_rfl) y

/-- The block's rows, read after their store alone. -/
theorem ext_16 (H : Blk pj x5 x6 U a k q v T) (L : List (View.Piece (Elt Ideal) S272x512 .f32))
    (i1 : ∀ a, (![0, 0] : Fin 2 → ℕ) a + (![256, 512] : Fin 2 → ℕ) a ≤ S256x2176.size a)
    (i2 : ∀ a, (![16, 0] : Fin 2 → ℕ) a + (![256, 512] : Fin 2 → ℕ) a ≤ S272x512.size a) (r : Fin 272) (c : Fin 512) (hr : 16 ≤ r.val) :
    View.canon (Val := Elt Ideal) (s := S272x512) (e := .f32) (⟨Rect.unit ![16, 0] ![256, 512] i2, k0_pay6 (View.ld pj (Rect.unit (s := S256x2176) ![0, 0] ![256, 512] i1))⟩ :: L) (ix2 r c)
      = uG U (ix2 r c) := by
  have e := emb2 16 0 i2 (⟨r.val - 16, by omega⟩ : Fin 256) c r c (by dsimp; omega) (Nat.zero_add _).symm
  rw [← e]
  exact (View.canon_cons_emb _ _ _ _).trans (u_piece H i1 i2 _)

/-- The buffer after a later point's store over the carried rows. -/
theorem ext_B (H : Blk pj x5 x6 U a k q v T) {arg14 : Memref sig .tc .vmem S272x512 .f32} (harg14 : arg14.IsWhole) (xs1 : Vec Ideal S272x512 .f32)
    (hx : ∀ (r : Fin 272) (c : Fin 512), r.val < 16 → xs1 (ix2 r c) = U c r.val)
    (i1 : ∀ a, (![0, 0] : Fin 2 → ℕ) a + (![256, 512] : Fin 2 → ℕ) a ≤ S256x2176.size a)
    (i2 : ∀ a, (![16, 0] : Fin 2 → ℕ) a + (![256, 512] : Fin 2 → ℕ) a ≤ S272x512.size a) (r : Fin 272) (c : Fin 512) :
    View.read (Elt Ideal) arg14.view (arg14.view.writes (Elt Ideal) (harg14.unread xs1)
      [⟨Rect.unit ![16, 0] ![256, 512] i2, k0_pay6 (View.ld pj (Rect.unit (s := S256x2176) ![0, 0] ![256, 512] i1))⟩]) (ix2 r c) = uG U (ix2 r c) := by
  by_cases hr : r.val < 16
  · refine (View.read_writes_cons_unit_of_not_mem _ _ i2 _ _ _ rfl (0 : Fin 2) (Or.inl hr)).trans ?_
    rw [View.writes_nil, harg14.read_unread]
    exact hx r c hr
  · refine (View.read_writes_cons_unit_of_mem _ _ i2 _ _ _ (ix2 (⟨r.val - 16, by omega⟩ : Fin 256) c) rfl ?_).trans ?_
    · intro b
      match b with
      | ⟨0, _⟩ => show r.val = 16 + (r.val - 16); omega
      | ⟨1, _⟩ => exact (Nat.zero_add _).symm
    · refine (u_piece H i1 i2 _).trans (congrArg (uG U) ?_)
      exact emb2 16 0 i2 (⟨r.val - 16, by omega⟩ : Fin 256) c r c (by dsimp; omega) (Nat.zero_add _).symm

end Values

end Cert.MixIdeal.Hand

end
-- ==== Proof.MixBlock.lean ====
/-
  What one grid point of the token mixer leaves in the output block, in the sixteen carried rows and in the carried
  state: the stores of its body, each recognised as a block of one function.
-/
module

public import proofs.«01_k».proof.Proof.MixBlockA
public import proofs.«01_k».proof.Proof.FfnBlock
public import proofs.«01_k».proof.Proof.Gen.MixIdeal.Frame
public import Idealize.ShloMosaic.Lib.Pipeline.Value
public import Idealize.ShloMosaic.Lib.Pipeline.ReadBack
public import Idealize.ShloMosaic.Lib.Pipeline.ValueKit.Tiles
public import Idealize.ShloMosaic.Lib.WritesUnit
public import Idealize.ShloMosaic.Lib.Tactic

@[expose] public section

noncomputable section

open Idealize.ShloMosaic Idealize.ShloMosaic.TcCoe
open Idealize.ShloMosaic.Pointwise

namespace Cert.MixIdeal.Hand

open Cert.MixIdeal Cert.MixIdeal.Gen
open Cert.FfnIdeal.Hand (hz2 hz3 canon_pieces)

set_option maxRecDepth 16384 in
set_option maxHeartbeats 2000000 in
/-- The first point: the output block is the input block plus the normalised projection of `yL`. -/
theorem out_A (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x2176 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x256x1024 .f32) (harg12 : arg12.IsWhole) (arg13 : Memref sig .tc .vmem S256x2176 .f32) (harg13 : arg13.IsWhole) (arg14 : Memref sig .tc .vmem S272x512 .f32) (harg14 : arg14.IsWhole) (arg15 : Memref sig .tc .vmem S512x256 .f32) (harg15 : arg15.IsWhole) (arg16 : Memref sig .tc .vmem S256x1024 .bf16) (harg16 : arg16.IsWhole) (hc0 : cond0_0 i) (x0 : Vec Ideal S1x256x1024 .f32) (x1 : Vec Ideal S1x1024 .f32) (x2 : Vec Ideal S1024x2176 .bf16) (x3 : Vec Ideal S4x128x128 .bf16) (x4 : Vec Ideal S1x512 .f32) (x5 : Vec Ideal S128x256 .bf16) (x6 : Vec Ideal S1x256 .f32) (x7 : Vec Ideal S1x128 .f32) (x8 : Vec Ideal S1024x1024 .bf16) (x9 : Vec Ideal S1x1024 .f32)
    (U : Fin 512 → ℕ → EReal) (a k q : ℕ → Fin 256 → ℝ) (v : ℕ → Fin 512 → ℝ) (T : ℕ) (H : Blk (k0_pay5 x0 x1 x2) x5 x6 U a k q v T)
    (hz : ∀ c n, n < 16 → U c n = 0)
    (hst : ∀ r c, (k0_pay3 (F := Ideal)) (ix2 r c) = ((stR a k v T r c : ℝ) : EReal)) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
      = k0_pay1 (k0_pay4 x0) (k0_pay62 (yL (k0_pay5 x0 x1 x2) x3 x4 x7 U a k q v T (256 * (i 1).val)) x8) (k0_pay63 x9) (k0_pay64 (yL (k0_pay5 x0 x1 x2) x3 x4 x7 U a k q v T (256 * (i 1).val)) x8) k0_pay65 := by
  have R0 := rows_of H 0 T (by norm_num) rfl inb_S256x2176_S128x256_0_512 inb_S256x2176_S128x256_0_768 inb_S256x2176_S128x512_0_1024 inb_S256x2176_S128x128_0_2048
  have R1 := rows_of H 128 (T + 128) (by norm_num) rfl inb_S256x2176_S128x256_128_512 inb_S256x2176_S128x256_128_768 inb_S256x2176_S128x512_128_1024 inb_S256x2176_S128x128_128_2048
  have hst1 := st_apply R0 hst
  have rd : ∀ (o o' j : ℕ) (g : Fin 4) (ho : o + j = 16) (ho' : o' = 128 * g.val) (inb : ∀ a, (![o, o'] : Fin 2 → ℕ) a + (![256, 128] : Fin 2 → ℕ) a ≤ S272x512.size a), arg14.view.readCov (Val := Elt Ideal) [⟨Rect.unit (s := S272x512) ![16, 0] ![256, 512] inb_S272x512_S256x512_16_0, k0_pay6 (F := Ideal) (View.ld (k0_pay5 x0 x1 x2) (Rect.unit (s := S256x2176) ![0, 0] ![256, 512] inb_S256x2176_S256x512_0_0))⟩, ⟨Rect.unit (s := S272x512) ![0, 0] ![16, 512] inb_S272x512_S16x512_0_0, k0_pay2 (F := Ideal)⟩] (Rect.unit (s := S272x512) ![o, o'] ![256, 128] inb).toLoadRect = sh U g j := by
    intro o o' j g ho ho' inb
    rw [View.readCov_eq_canon', ext_A H hz]
    exact sh_of (uG U) o o' j g ho ho' inb (fun _ _ _ => rfl)
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  sl_unfold_words
  rw [View.canon_unit_zero (S := S1x256x1024) hz3]
  simp (disch := decide) only [↓ View.readCov_skip, ↓ View.readCov_fill]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x256x1024) hz3, View.ld_unit_zero (S := S1x1024) hz2, View.ld_unit_zero (S := S1024x2176) hz2, View.ld_unit_zero (S := S128x256) hz2, View.ld_unit_zero (S := S1x256) hz2, View.ld_unit_zero (S := S1x128) hz2, View.ld_unit_zero (S := S512x256) hz2, View.ld_unit_zero (S := S1024x1024) hz2]
  simp only [fold_tri, fold_mask, fold_pv, fold_sc, fold_in, fold_st, second_sc, second_in, fold_st1, fold_hd0, fold_hd1, fold_hd2, fold_hd3, first0, first3, second1, second2]
  refine congrArg (fun a => k0_pay1 (k0_pay4 x0) (k0_pay62 a x8) (k0_pay63 x9) (k0_pay64 a x8) k0_pay65) ?_
  rw [View.readCov_eq_canon']
  funext j
  simp only [rd 16 0 0 0 rfl rfl inb_S272x512_S256x128_16_0, rd 15 0 1 0 rfl rfl inb_S272x512_S256x128_15_0, rd 16 128 0 1 rfl rfl inb_S272x512_S256x128_16_128, rd 15 128 1 1 rfl rfl inb_S272x512_S256x128_15_128, rd 14 128 2 1 rfl rfl inb_S272x512_S256x128_14_128, rd 13 128 3 1 rfl rfl inb_S272x512_S256x128_13_128, rd 16 256 0 2 rfl rfl inb_S272x512_S256x128_16_256, rd 15 256 1 2 rfl rfl inb_S272x512_S256x128_15_256, rd 14 256 2 2 rfl rfl inb_S272x512_S256x128_14_256, rd 13 256 3 2 rfl rfl inb_S272x512_S256x128_13_256, rd 12 256 4 2 rfl rfl inb_S272x512_S256x128_12_256, rd 11 256 5 2 rfl rfl inb_S272x512_S256x128_11_256, rd 10 256 6 2 rfl rfl inb_S272x512_S256x128_10_256, rd 9 256 7 2 rfl rfl inb_S272x512_S256x128_9_256, rd 16 384 0 3 rfl rfl inb_S272x512_S256x128_16_384, rd 15 384 1 3 rfl rfl inb_S272x512_S256x128_15_384, rd 14 384 2 3 rfl rfl inb_S272x512_S256x128_14_384, rd 13 384 3 3 rfl rfl inb_S272x512_S256x128_13_384, rd 12 384 4 3 rfl rfl inb_S272x512_S256x128_12_384, rd 11 384 5 3 rfl rfl inb_S272x512_S256x128_11_384, rd 10 384 6 3 rfl rfl inb_S272x512_S256x128_10_384, rd 9 384 7 3 rfl rfl inb_S272x512_S256x128_9_384, rd 8 384 8 3 rfl rfl inb_S272x512_S256x128_8_384, rd 7 384 9 3 rfl rfl inb_S272x512_S256x128_7_384, rd 6 384 10 3 rfl rfl inb_S272x512_S256x128_6_384, rd 5 384 11 3 rfl rfl inb_S272x512_S256x128_5_384, rd 4 384 12 3 rfl rfl inb_S272x512_S256x128_4_384, rd 3 384 13 3 rfl rfl inb_S272x512_S256x128_3_384, rd 2 384 14 3 rfl rfl inb_S272x512_S256x128_2_384, rd 1 384 15 3 rfl rfl inb_S272x512_S256x128_1_384]
  refine (canon_pieces (yL (k0_pay5 x0 x1 x2) x3 x4 x7 U a k q v T (256 * (i 1).val)) _ ?_ _ ?_).trans (congrArg _ (funext fun a => Fin.ext ?_))
  · simp only [View.PiecesOf, and_true]
    exact ⟨fun x => (head_piece x3 x4 x7 _ 3 128 896 (T + 128) (by norm_num) rfl rfl inb_S256x2176_S128x512_128_1536 _ _ (hd3_apply R1 hst1 (View.ld (k0_pay5 x0 x1 x2) (Rect.unit (s := S256x2176) ![128, 1536] ![128, 512] inb_S256x2176_S128x512_128_1536)) x7) x), fun x => (head_piece x3 x4 x7 _ 2 128 768 (T + 128) (by norm_num) rfl rfl inb_S256x2176_S128x512_128_1536 _ _ (hd2_apply R1 hst1 (View.ld (k0_pay5 x0 x1 x2) (Rect.unit (s := S256x2176) ![128, 1536] ![128, 512] inb_S256x2176_S128x512_128_1536)) x7) x), fun x => (head_piece x3 x4 x7 _ 1 128 640 (T + 128) (by norm_num) rfl rfl inb_S256x2176_S128x512_128_1536 _ _ (hd1_apply R1 hst1 (View.ld (k0_pay5 x0 x1 x2) (Rect.unit (s := S256x2176) ![128, 1536] ![128, 512] inb_S256x2176_S128x512_128_1536)) x7) x), fun x => (head_piece x3 x4 x7 _ 0 128 512 (T + 128) (by norm_num) rfl rfl inb_S256x2176_S128x512_128_1536 _ _ (hd0_apply R1 hst1 (View.ld (k0_pay5 x0 x1 x2) (Rect.unit (s := S256x2176) ![128, 1536] ![128, 512] inb_S256x2176_S128x512_128_1536)) x7) x), fun x => (head_piece x3 x4 x7 _ 3 0 896 T (by norm_num) rfl rfl inb_S256x2176_S128x512_0_1536 _ _ (hd3_apply R0 hst (View.ld (k0_pay5 x0 x1 x2) (Rect.unit (s := S256x2176) ![0, 1536] ![128, 512] inb_S256x2176_S128x512_0_1536)) x7) x), fun x => (head_piece x3 x4 x7 _ 2 0 768 T (by norm_num) rfl rfl inb_S256x2176_S128x512_0_1536 _ _ (hd2_apply R0 hst (View.ld (k0_pay5 x0 x1 x2) (Rect.unit (s := S256x2176) ![0, 1536] ![128, 512] inb_S256x2176_S128x512_0_1536)) x7) x), fun x => (head_piece x3 x4 x7 _ 1 0 640 T (by norm_num) rfl rfl inb_S256x2176_S128x512_0_1536 _ _ (hd1_apply R0 hst (View.ld (k0_pay5 x0 x1 x2) (Rect.unit (s := S256x2176) ![0, 1536] ![128, 512] inb_S256x2176_S128x512_0_1536)) x7) x), fun x => (head_piece x3 x4 x7 _ 0 0 512 T (by norm_num) rfl rfl inb_S256x2176_S128x512_0_1536 _ _ (hd0_apply R0 hst (View.ld (k0_pay5 x0 x1 x2) (Rect.unit (s := S256x2176) ![0, 1536] ![128, 512] inb_S256x2176_S128x512_0_1536)) x7) x), fun x => pool_piece x3 x4 x7 _ 3 384 rfl inb_S4x128x128_S1x128x128_3_0_0 inb_S1x512_S1x128_0_384 _ _ (pool3_apply U i _ _) x, fun x => pool_piece x3 x4 x7 _ 2 256 rfl inb_S4x128x128_S1x128x128_2_0_0 inb_S1x512_S1x128_0_256 _ _ (pool2_apply U i _ _) x, fun x => pool_piece x3 x4 x7 _ 1 128 rfl inb_S4x128x128_S1x128x128_1_0_0 inb_S1x512_S1x128_0_128 _ _ (pool1_apply U i _ _) x, fun x => pool_piece x3 x4 x7 _ 0 0 rfl inb_S4x128x128_S1x128x128_0_0_0 inb_S1x512_S1x128_0_0 _ _ (pool0_apply U i _ _) x⟩
  · exact View.cover_of_tiledBy _ ![128, 128] (by sl_kernel_rfl) _
  · match a with
    | ⟨0, _⟩ => show 0 + 1 * (j 0).val = (j 0).val; omega
    | ⟨1, _⟩ => show 0 + 1 * (j 1).val = (j 1).val; omega

set_option maxRecDepth 16384 in
set_option maxHeartbeats 2000000 in
/-- The first point: the sixteen carried rows it leaves are the last of its own. -/
theorem souta_A (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x2176 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x256x1024 .f32) (harg12 : arg12.IsWhole) (arg13 : Memref sig .tc .vmem S256x2176 .f32) (harg13 : arg13.IsWhole) (arg14 : Memref sig .tc .vmem S272x512 .f32) (harg14 : arg14.IsWhole) (arg15 : Memref sig .tc .vmem S512x256 .f32) (harg15 : arg15.IsWhole) (arg16 : Memref sig .tc .vmem S256x1024 .bf16) (harg16 : arg16.IsWhole) (hc0 : cond0_0 i) (x0 : Vec Ideal S1x256x1024 .f32) (x1 : Vec Ideal S1x1024 .f32) (x2 : Vec Ideal S1024x2176 .bf16) (x3 : Vec Ideal S4x128x128 .bf16) (x4 : Vec Ideal S1x512 .f32) (x5 : Vec Ideal S128x256 .bf16) (x6 : Vec Ideal S1x256 .f32) (x7 : Vec Ideal S1x128 .f32) (x8 : Vec Ideal S1024x1024 .bf16) (x9 : Vec Ideal S1x1024 .f32)
    (U : Fin 512 → ℕ → EReal) (a k q : ℕ → Fin 256 → ℝ) (v : ℕ → Fin 512 → ℝ) (T : ℕ) (H : Blk (k0_pay5 x0 x1 x2) x5 x6 U a k q v T) (r : Fin 272) (c' : Fin 512) (hr : r.val < 16) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix2 r c') = U c' (256 + r.val) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  sl_unfold_words
  simp (disch := decide) only [↓ View.readCov_skip, ↓ View.readCov_fill]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x256x1024) hz3, View.ld_unit_zero (S := S1x1024) hz2, View.ld_unit_zero (S := S1024x2176) hz2, View.ld_unit_zero (S := S128x256) hz2, View.ld_unit_zero (S := S1x256) hz2, View.ld_unit_zero (S := S1x128) hz2, View.ld_unit_zero (S := S512x256) hz2, View.ld_unit_zero (S := S1024x1024) hz2]
  rw [← emb2 0 0 inb_S272x512_S16x512_0_0 (⟨r.val, hr⟩ : Fin 16) c' r c' (Nat.zero_add _).symm (Nat.zero_add _).symm]
  refine (View.canon_cons_emb _ _ _ _).trans ?_
  have e : ∀ X : Vec Ideal S16x512 .f32, k0_pay16 X (ix2 (⟨r.val, hr⟩ : Fin 16) c') = X (ix2 ⟨r.val, hr⟩ c') := fun X => by pointwise [k0_pay16]
  rw [e, View.readCov_eq_canon']
  refine (congrArg (View.canon _) ?_).trans (ext_16 H _ _ _ ⟨256 + r.val, by omega⟩ c' (show 16 ≤ 256 + r.val by omega))
  funext d
  refine Fin.ext ((Rect.idx_unit_val _ _ _ _ d).trans ?_)
  match d with
  | ⟨0, _⟩ => rfl
  | ⟨1, _⟩ => exact Nat.zero_add _

set_option maxRecDepth 16384 in
set_option maxHeartbeats 2000000 in
/-- The first point: the state it leaves is the state 256 rows on. -/
theorem soutb_A (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x2176 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x256x1024 .f32) (harg12 : arg12.IsWhole) (arg13 : Memref sig .tc .vmem S256x2176 .f32) (harg13 : arg13.IsWhole) (arg14 : Memref sig .tc .vmem S272x512 .f32) (harg14 : arg14.IsWhole) (arg15 : Memref sig .tc .vmem S512x256 .f32) (harg15 : arg15.IsWhole) (arg16 : Memref sig .tc .vmem S256x1024 .bf16) (harg16 : arg16.IsWhole) (hc0 : cond0_0 i) (x0 : Vec Ideal S1x256x1024 .f32) (x1 : Vec Ideal S1x1024 .f32) (x2 : Vec Ideal S1024x2176 .bf16) (x3 : Vec Ideal S4x128x128 .bf16) (x4 : Vec Ideal S1x512 .f32) (x5 : Vec Ideal S128x256 .bf16) (x6 : Vec Ideal S1x256 .f32) (x7 : Vec Ideal S1x128 .f32) (x8 : Vec Ideal S1024x1024 .bf16) (x9 : Vec Ideal S1x1024 .f32)
    (U : Fin 512 → ℕ → EReal) (a k q : ℕ → Fin 256 → ℝ) (v : ℕ → Fin 512 → ℝ) (T : ℕ) (H : Blk (k0_pay5 x0 x1 x2) x5 x6 U a k q v T)
    (hst : ∀ r c, (k0_pay3 (F := Ideal)) (ix2 r c) = ((stR a k v T r c : ℝ) : EReal)) (r : Fin 512) (c' : Fin 256) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix2 r c') = ((stR a k v (T + 256) r c' : ℝ) : EReal) := by
  have R0 := rows_of H 0 T (by norm_num) rfl inb_S256x2176_S128x256_0_512 inb_S256x2176_S128x256_0_768 inb_S256x2176_S128x512_0_1024 inb_S256x2176_S128x128_0_2048
  have R1 := rows_of H 128 (T + 128) (by norm_num) rfl inb_S256x2176_S128x256_128_512 inb_S256x2176_S128x256_128_768 inb_S256x2176_S128x512_128_1024 inb_S256x2176_S128x128_128_2048
  have hst1 := st_apply R0 hst
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  sl_unfold_words
  simp (disch := decide) only [↓ View.readCov_skip, ↓ View.readCov_fill]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x256x1024) hz3, View.ld_unit_zero (S := S1x1024) hz2, View.ld_unit_zero (S := S1024x2176) hz2, View.ld_unit_zero (S := S128x256) hz2, View.ld_unit_zero (S := S1x256) hz2, View.ld_unit_zero (S := S1x128) hz2, View.ld_unit_zero (S := S512x256) hz2, View.ld_unit_zero (S := S1024x1024) hz2]
  simp only [fold_tri, fold_mask, fold_pv, fold_st, fold_st1]
  rw [← emb2 0 0 inb_S512x256_S512x256_0_0 r c' r c' (Nat.zero_add _).symm (Nat.zero_add _).symm]
  refine (View.canon_cons_emb _ _ _ _).trans ?_
  rw [show T + 256 = T + 128 + 128 from rfl]
  exact st_apply R1 hst1 r c'

set_option maxRecDepth 16384 in
set_option maxHeartbeats 2000000 in
/-- A later point: the output block is the input block plus the normalised projection of `yL`. -/
theorem out_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x2176 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x256x1024 .f32) (harg12 : arg12.IsWhole) (arg13 : Memref sig .tc .vmem S256x2176 .f32) (harg13 : arg13.IsWhole) (arg14 : Memref sig .tc .vmem S272x512 .f32) (harg14 : arg14.IsWhole) (arg15 : Memref sig .tc .vmem S512x256 .f32) (harg15 : arg15.IsWhole) (arg16 : Memref sig .tc .vmem S256x1024 .bf16) (harg16 : arg16.IsWhole) (hc0 : ¬cond0_0 i) (x0 : Vec Ideal S1x256x1024 .f32) (x1 : Vec Ideal S1x1024 .f32) (x2 : Vec Ideal S1024x2176 .bf16) (x3 : Vec Ideal S4x128x128 .bf16) (x4 : Vec Ideal S1x512 .f32) (x5 : Vec Ideal S128x256 .bf16) (x6 : Vec Ideal S1x256 .f32) (x7 : Vec Ideal S1x128 .f32) (x8 : Vec Ideal S1024x1024 .bf16) (x9 : Vec Ideal S1x1024 .f32) (xs1 : Vec Ideal S272x512 .f32) (xs2 : Vec Ideal S512x256 .f32)
    (U : Fin 512 → ℕ → EReal) (a k q : ℕ → Fin 256 → ℝ) (v : ℕ → Fin 512 → ℝ) (T : ℕ) (H : Blk (k0_pay5 x0 x1 x2) x5 x6 U a k q v T)
    (hx : ∀ (r : Fin 272) (c : Fin 512), r.val < 16 → xs1 (ix2 r c) = U c r.val)
    (hst : ∀ r c, xs2 (ix2 r c) = ((stR a k v T r c : ℝ) : EReal)) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs1 xs2
      = k0_pay1 (k0_pay4 x0) (k0_pay62 (yL (k0_pay5 x0 x1 x2) x3 x4 x7 U a k q v T (256 * (i 1).val)) x8) (k0_pay63 x9) (k0_pay64 (yL (k0_pay5 x0 x1 x2) x3 x4 x7 U a k q v T (256 * (i 1).val)) x8) k0_pay65 := by
  have R0 := rows_of H 0 T (by norm_num) rfl inb_S256x2176_S128x256_0_512 inb_S256x2176_S128x256_0_768 inb_S256x2176_S128x512_0_1024 inb_S256x2176_S128x128_0_2048
  have R1 := rows_of H 128 (T + 128) (by norm_num) rfl inb_S256x2176_S128x256_128_512 inb_S256x2176_S128x256_128_768 inb_S256x2176_S128x512_128_1024 inb_S256x2176_S128x128_128_2048
  have hst1 := st_apply R0 hst
  have rd16 : ∀ (o' : ℕ) (g : Fin 4) (ho' : o' = 128 * g.val) (inb : ∀ a, (![16, o'] : Fin 2 → ℕ) a + (![256, 128] : Fin 2 → ℕ) a ≤ S272x512.size a), arg14.view.readCov (Val := Elt Ideal) [⟨Rect.unit (s := S272x512) ![16, 0] ![256, 512] inb_S272x512_S256x512_16_0, k0_pay6 (F := Ideal) (View.ld (k0_pay5 x0 x1 x2) (Rect.unit (s := S256x2176) ![0, 0] ![256, 512] inb_S256x2176_S256x512_0_0))⟩] (Rect.unit (s := S272x512) ![16, o'] ![256, 128] inb).toLoadRect = sh U g 0 := by
    intro o' g ho' inb
    rw [View.readCov_eq_canon']
    exact sh_of _ 16 o' 0 g rfl ho' inb (ext_16 H [] _ _)
  have rd : ∀ (o o' j : ℕ) (g : Fin 4) (ho : o + j = 16) (ho' : o' = 128 * g.val) (inb : ∀ a, (![o, o'] : Fin 2 → ℕ) a + (![256, 128] : Fin 2 → ℕ) a ≤ S272x512.size a), View.ld (View.read (Elt Ideal) arg14.view (arg14.view.writes (Elt Ideal) (harg14.unread xs1) [⟨Rect.unit (s := S272x512) ![16, 0] ![256, 512] inb_S272x512_S256x512_16_0, k0_pay6 (F := Ideal) (View.ld (k0_pay5 x0 x1 x2) (Rect.unit (s := S256x2176) ![0, 0] ![256, 512] inb_S256x2176_S256x512_0_0))⟩])) (Rect.unit (s := S272x512) ![o, o'] ![256, 128] inb) = sh U g j := by
    intro o o' j g ho ho' inb
    exact sh_of _ o o' j g ho ho' inb (fun r c _ => ext_B H harg14 xs1 hx _ _ r c)
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs1 xs2)]
  unfold kernelRun0_B
  dsimp only
  sl_unfold_words
  rw [View.canon_unit_zero (S := S1x256x1024) hz3]
  simp (disch := decide) only [↓ View.readCov_skip, ↓ View.readCov_fill]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S1x256x1024) hz3, View.ld_unit_zero (S := S1x1024) hz2, View.ld_unit_zero (S := S1024x2176) hz2, View.ld_unit_zero (S := S128x256) hz2, View.ld_unit_zero (S := S1x256) hz2, View.ld_unit_zero (S := S1x128) hz2, View.ld_unit_zero (S := S512x256) hz2, View.ld_unit_zero (S := S1024x1024) hz2]
  simp only [fold_tri, fold_mask, fold_pv, fold_sc, fold_in, fold_st, second_sc, second_in, fold_st1, fold_hd0, fold_hd1, fold_hd2, fold_hd3, first0, first3, second1, second2]
  refine congrArg (fun a => k0_pay1 (k0_pay4 x0) (k0_pay62 a x8) (k0_pay63 x9) (k0_pay64 a x8) k0_pay65) ?_
  rw [View.readCov_eq_canon']
  funext j
  simp only [rd16 0 0 rfl inb_S272x512_S256x128_16_0, rd 15 0 1 0 rfl rfl inb_S272x512_S256x128_15_0, rd16 128 1 rfl inb_S272x512_S256x128_16_128, rd 15 128 1 1 rfl rfl inb_S272x512_S256x128_15_128, rd 14 128 2 1 rfl rfl inb_S272x512_S256x128_14_128, rd 13 128 3 1 rfl rfl inb_S272x512_S256x128_13_128, rd16 256 2 rfl inb_S272x512_S256x128_16_256, rd 15 256 1 2 rfl rfl inb_S272x512_S256x128_15_256, rd 14 256 2 2 rfl rfl inb_S272x512_S256x128_14_256, rd 13 256 3 2 rfl rfl inb_S272x512_S256x128_13_256, rd 12 256 4 2 rfl rfl inb_S272x512_S256x128_12_256, rd 11 256 5 2 rfl rfl inb_S272x512_S256x128_11_256, rd 10 256 6 2 rfl rfl inb_S272x512_S256x128_10_256, rd 9 256 7 2 rfl rfl inb_S272x512_S256x128_9_256, rd16 384 3 rfl inb_S272x512_S256x128_16_384, rd 15 384 1 3 rfl rfl inb_S272x512_S256x128_15_384, rd 14 384 2 3 rfl rfl inb_S272x512_S256x128_14_384, rd 13 384 3 3 rfl rfl inb_S272x512_S256x128_13_384, rd 12 384 4 3 rfl rfl inb_S272x512_S256x128_12_384, rd 11 384 5 3 rfl rfl inb_S272x512_S256x128_11_384, rd 10 384 6 3 rfl rfl inb_S272x512_S256x128_10_384, rd 9 384 7 3 rfl rfl inb_S272x512_S256x128_9_384, rd 8 384 8 3 rfl rfl inb_S272x512_S256x128_8_384, rd 7 384 9 3 rfl rfl inb_S272x512_S256x128_7_384, rd 6 384 10 3 rfl rfl inb_S272x512_S256x128_6_384, rd 5 384 11 3 rfl rfl inb_S272x512_S256x128_5_384, rd 4 384 12 3 rfl rfl inb_S272x512_S256x128_4_384, rd 3 384 13 3 rfl rfl inb_S272x512_S256x128_3_384, rd 2 384 14 3 rfl rfl inb_S272x512_S256x128_2_384, rd 1 384 15 3 rfl rfl inb_S272x512_S256x128_1_384]
  refine (canon_pieces (yL (k0_pay5 x0 x1 x2) x3 x4 x7 U a k q v T (256 * (i 1).val)) _ ?_ _ ?_).trans (congrArg _ (funext fun a => Fin.ext ?_))
  · simp only [View.PiecesOf, and_true]
    exact ⟨fun x => (head_piece x3 x4 x7 _ 3 128 896 (T + 128) (by norm_num) rfl rfl inb_S256x2176_S128x512_128_1536 _ _ (hd3_apply R1 hst1 (View.ld (k0_pay5 x0 x1 x2) (Rect.unit (s := S256x2176) ![128, 1536] ![128, 512] inb_S256x2176_S128x512_128_1536)) x7) x), fun x => (head_piece x3 x4 x7 _ 2 128 768 (T + 128) (by norm_num) rfl rfl inb_S256x2176_S128x512_128_1536 _ _ (hd2_apply R1 hst1 (View.ld (k0_pay5 x0 x1 x2) (Rect.unit (s := S256x2176) ![128, 1536] ![128, 512] inb_S256x2176_S128x512_128_1536)) x7) x), fun x => (head_piece x3 x4 x7 _ 1 128 640 (T + 128) (by norm_num) rfl rfl inb_S256x2176_S128x512_128_1536 _ _ (hd1_apply R1 hst1 (View.ld (k0_pay5 x0 x1 x2) (Rect.unit (s := S256x2176) ![128, 1536] ![128, 512] inb_S256x2176_S128x512_128_1536)) x7) x), fun x => (head_piece x3 x4 x7 _ 0 128 512 (T + 128) (by norm_num) rfl rfl inb_S256x2176_S128x512_128_1536 _ _ (hd0_apply R1 hst1 (View.ld (k0_pay5 x0 x1 x2) (Rect.unit (s := S256x2176) ![128, 1536] ![128, 512] inb_S256x2176_S128x512_128_1536)) x7) x), fun x => (head_piece x3 x4 x7 _ 3 0 896 T (by norm_num) rfl rfl inb_S256x2176_S128x512_0_1536 _ _ (hd3_apply R0 hst (View.ld (k0_pay5 x0 x1 x2) (Rect.unit (s := S256x2176) ![0, 1536] ![128, 512] inb_S256x2176_S128x512_0_1536)) x7) x), fun x => (head_piece x3 x4 x7 _ 2 0 768 T (by norm_num) rfl rfl inb_S256x2176_S128x512_0_1536 _ _ (hd2_apply R0 hst (View.ld (k0_pay5 x0 x1 x2) (Rect.unit (s := S256x2176) ![0, 1536] ![128, 512] inb_S256x2176_S128x512_0_1536)) x7) x), fun x => (head_piece x3 x4 x7 _ 1 0 640 T (by norm_num) rfl rfl inb_S256x2176_S128x512_0_1536 _ _ (hd1_apply R0 hst (View.ld (k0_pay5 x0 x1 x2) (Rect.unit (s := S256x2176) ![0, 1536] ![128, 512] inb_S256x2176_S128x512_0_1536)) x7) x), fun x => (head_piece x3 x4 x7 _ 0 0 512 T (by norm_num) rfl rfl inb_S256x2176_S128x512_0_1536 _ _ (hd0_apply R0 hst (View.ld (k0_pay5 x0 x1 x2) (Rect.unit (s := S256x2176) ![0, 1536] ![128, 512] inb_S256x2176_S128x512_0_1536)) x7) x), fun x => pool_piece x3 x4 x7 _ 3 384 rfl inb_S4x128x128_S1x128x128_3_0_0 inb_S1x512_S1x128_0_384 _ _ (pool3_apply U i _ _) x, fun x => pool_piece x3 x4 x7 _ 2 256 rfl inb_S4x128x128_S1x128x128_2_0_0 inb_S1x512_S1x128_0_256 _ _ (pool2_apply U i _ _) x, fun x => pool_piece x3 x4 x7 _ 1 128 rfl inb_S4x128x128_S1x128x128_1_0_0 inb_S1x512_S1x128_0_128 _ _ (pool1_apply U i _ _) x, fun x => pool_piece x3 x4 x7 _ 0 0 rfl inb_S4x128x128_S1x128x128_0_0_0 inb_S1x512_S1x128_0_0 _ _ (pool0_apply U i _ _) x⟩
  · exact View.cover_of_tiledBy _ ![128, 128] (by sl_kernel_rfl) _
  · match a with
    | ⟨0, _⟩ => show 0 + 1 * (j 0).val = (j 0).val; omega
    | ⟨1, _⟩ => show 0 + 1 * (j 1).val = (j 1).val; omega

set_option maxRecDepth 16384 in
set_option maxHeartbeats 2000000 in
/-- A later point: the sixteen carried rows it leaves are the last of its own. -/
theorem souta_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x2176 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x256x1024 .f32) (harg12 : arg12.IsWhole) (arg13 : Memref sig .tc .vmem S256x2176 .f32) (harg13 : arg13.IsWhole) (arg14 : Memref sig .tc .vmem S272x512 .f32) (harg14 : arg14.IsWhole) (arg15 : Memref sig .tc .vmem S512x256 .f32) (harg15 : arg15.IsWhole) (arg16 : Memref sig .tc .vmem S256x1024 .bf16) (harg16 : arg16.IsWhole) (hc0 : ¬cond0_0 i) (x0 : Vec Ideal S1x256x1024 .f32) (x1 : Vec Ideal S1x1024 .f32) (x2 : Vec Ideal S1024x2176 .bf16) (x3 : Vec Ideal S4x128x128 .bf16) (x4 : Vec Ideal S1x512 .f32) (x5 : Vec Ideal S128x256 .bf16) (x6 : Vec Ideal S1x256 .f32) (x7 : Vec Ideal S1x128 .f32) (x8 : Vec Ideal S1024x1024 .bf16) (x9 : Vec Ideal S1x1024 .f32) (xs1 : Vec Ideal S272x512 .f32) (xs2 : Vec Ideal S512x256 .f32)
    (U : Fin 512 → ℕ → EReal) (a k q : ℕ → Fin 256 → ℝ) (v : ℕ → Fin 512 → ℝ) (T : ℕ) (H : Blk (k0_pay5 x0 x1 x2) x5 x6 U a k q v T) (r : Fin 272) (c' : Fin 512) (hr : r.val < 16) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs1 xs2 (ix2 r c') = U c' (256 + r.val) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs1 xs2)]
  unfold kernelRun0_B
  dsimp only
  sl_unfold_words
  simp (disch := decide) only [↓ View.readCov_skip, ↓ View.readCov_fill]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S1x256x1024) hz3, View.ld_unit_zero (S := S1x1024) hz2, View.ld_unit_zero (S := S1024x2176) hz2, View.ld_unit_zero (S := S128x256) hz2, View.ld_unit_zero (S := S1x256) hz2, View.ld_unit_zero (S := S1x128) hz2, View.ld_unit_zero (S := S512x256) hz2, View.ld_unit_zero (S := S1024x1024) hz2]
  rw [← emb2 0 0 inb_S272x512_S16x512_0_0 (⟨r.val, hr⟩ : Fin 16) c' r c' (Nat.zero_add _).symm (Nat.zero_add _).symm]
  refine (View.canon_cons_emb _ _ _ _).trans ?_
  have e : ∀ X : Vec Ideal S16x512 .f32, k0_pay16 X (ix2 (⟨r.val, hr⟩ : Fin 16) c') = X (ix2 ⟨r.val, hr⟩ c') := fun X => by pointwise [k0_pay16]
  rw [e, View.readCov_eq_canon']
  refine (congrArg (View.canon _) ?_).trans (ext_16 H _ _ _ ⟨256 + r.val, by omega⟩ c' (show 16 ≤ 256 + r.val by omega))
  funext d
  refine Fin.ext ((Rect.idx_unit_val _ _ _ _ d).trans ?_)
  match d with
  | ⟨0, _⟩ => rfl
  | ⟨1, _⟩ => exact Nat.zero_add _

set_option maxRecDepth 16384 in
set_option maxHeartbeats 2000000 in
/-- A later point: the state it leaves is the state 256 rows on. -/
theorem soutb_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x2176 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x256x1024 .f32) (harg12 : arg12.IsWhole) (arg13 : Memref sig .tc .vmem S256x2176 .f32) (harg13 : arg13.IsWhole) (arg14 : Memref sig .tc .vmem S272x512 .f32) (harg14 : arg14.IsWhole) (arg15 : Memref sig .tc .vmem S512x256 .f32) (harg15 : arg15.IsWhole) (arg16 : Memref sig .tc .vmem S256x1024 .bf16) (harg16 : arg16.IsWhole) (hc0 : ¬cond0_0 i) (x0 : Vec Ideal S1x256x1024 .f32) (x1 : Vec Ideal S1x1024 .f32) (x2 : Vec Ideal S1024x2176 .bf16) (x3 : Vec Ideal S4x128x128 .bf16) (x4 : Vec Ideal S1x512 .f32) (x5 : Vec Ideal S128x256 .bf16) (x6 : Vec Ideal S1x256 .f32) (x7 : Vec Ideal S1x128 .f32) (x8 : Vec Ideal S1024x1024 .bf16) (x9 : Vec Ideal S1x1024 .f32) (xs1 : Vec Ideal S272x512 .f32) (xs2 : Vec Ideal S512x256 .f32)
    (U : Fin 512 → ℕ → EReal) (a k q : ℕ → Fin 256 → ℝ) (v : ℕ → Fin 512 → ℝ) (T : ℕ) (H : Blk (k0_pay5 x0 x1 x2) x5 x6 U a k q v T)
    (hst : ∀ r c, xs2 (ix2 r c) = ((stR a k v T r c : ℝ) : EReal)) (r : Fin 512) (c' : Fin 256) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs1 xs2 (ix2 r c') = ((stR a k v (T + 256) r c' : ℝ) : EReal) := by
  have R0 := rows_of H 0 T (by norm_num) rfl inb_S256x2176_S128x256_0_512 inb_S256x2176_S128x256_0_768 inb_S256x2176_S128x512_0_1024 inb_S256x2176_S128x128_0_2048
  have R1 := rows_of H 128 (T + 128) (by norm_num) rfl inb_S256x2176_S128x256_128_512 inb_S256x2176_S128x256_128_768 inb_S256x2176_S128x512_128_1024 inb_S256x2176_S128x128_128_2048
  have hst1 := st_apply R0 hst
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs1 xs2)]
  unfold kernelRun0_B
  dsimp only
  sl_unfold_words
  simp (disch := decide) only [↓ View.readCov_skip, ↓ View.readCov_fill]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S1x256x1024) hz3, View.ld_unit_zero (S := S1x1024) hz2, View.ld_unit_zero (S := S1024x2176) hz2, View.ld_unit_zero (S := S128x256) hz2, View.ld_unit_zero (S := S1x256) hz2, View.ld_unit_zero (S := S1x128) hz2, View.ld_unit_zero (S := S512x256) hz2, View.ld_unit_zero (S := S1024x1024) hz2]
  simp only [fold_tri, fold_mask, fold_pv, fold_st, fold_st1]
  rw [← emb2 0 0 inb_S512x256_S512x256_0_0 r c' r c' (Nat.zero_add _).symm (Nat.zero_add _).symm]
  refine (View.canon_cons_emb _ _ _ _).trans ?_
  rw [show T + 256 = T + 128 + 128 from rfl]
  exact st_apply R1 hst1 r c'

end Cert.MixIdeal.Hand

end
-- ==== Proof.MixWin.lean ====
/-
  What the token mixer's windows stage at a grid point, read back to the arguments: the host lines before the call pack
  the projection weights (the gate's sixteen columns moved last and padded to a tile) and pad the gate's second factor
  with zero rows.
-/
module

public import proofs.«01_k».proof.Defs
public import proofs.«01_k».proof.Proof.MixBlock
public import proofs.«01_k».proof.Proof.MixSpec
public import proofs.«01_k».proof.Proof.Gen.MixIdeal.Frame
public import proofs.«01_k».proof.Proof.Gen.MixIdeal.Value
public import Idealize.ShloMosaic.Lib.StableHlo.Run
public import Idealize.ShloMosaic.Lib.Tactic

@[expose] public section

noncomputable section

open Idealize.ShloMosaic Idealize.ShloMosaic.TcCoe Idealize.SL.Sem
open Idealize.ShloMosaic.Pointwise

namespace Cert.MixIdeal.Hand

open Cert.MixIdeal Cert.MixIdeal.Gen

variable (m : (ℓ : Loc nD τ sig) → Buf (Elt Ideal) ℓ)

/-- The arguments a core is launched with. -/
abbrev aX (c : Dev nD) : (⟨3, ![4, 4096, 1024]⟩ : Shape).Idx → EReal := m ((c : Thread nD τ).loc main_arg0)
abbrev aG1 (c : Dev nD) : (⟨1, ![1024]⟩ : Shape).Idx → EReal := m ((c : Thread nD τ).loc main_arg1)
abbrev aW (c : Dev nD) : (⟨2, ![1024, 2064]⟩ : Shape).Idx → EReal := m ((c : Thread nD τ).loc main_arg2)
abbrev aWP (c : Dev nD) : (⟨3, ![4, 128, 128]⟩ : Shape).Idx → EReal := m ((c : Thread nD τ).loc main_arg3)
abbrev aPS (c : Dev nD) : (⟨1, ![512]⟩ : Shape).Idx → EReal := m ((c : Thread nD τ).loc main_arg4)
abbrev aWG (c : Dev nD) : (⟨2, ![16, 256]⟩ : Shape).Idx → EReal := m ((c : Thread nD τ).loc main_arg5)
abbrev aBG (c : Dev nD) : (⟨1, ![256]⟩ : Shape).Idx → EReal := m ((c : Thread nD τ).loc main_arg6)
abbrev aGG (c : Dev nD) : (⟨1, ![128]⟩ : Shape).Idx → EReal := m ((c : Thread nD τ).loc main_arg7)
abbrev aWO (c : Dev nD) : (⟨2, ![1024, 1024]⟩ : Shape).Idx → EReal := m ((c : Thread nD τ).loc main_arg8)
abbrev aG2 (c : Dev nD) : (⟨1, ![1024]⟩ : Shape).Idx → EReal := m ((c : Thread nD τ).loc main_arg9)

/-! ## What the host lines before the call leave -/

set_option maxRecDepth 16384 in
theorem host_v2 (c : Dev nD) (k : Fin 1024) : (V m c main_v2 : Vec Ideal S1x1024 .f32) (ix2 0 k) = aG1 m c (ix1 k) := by
  have e : V m c main_v2 = shapeCast S1x1024 (m ((c : Thread nD τ).loc main_arg1)) shapeCasts_S1024_S1x1024 := by
    show StableHlo.after (List.flatten [hostOps0, hostOps0_1, hostOps0_2, hostOps0_3, hostOps0_4]) _ (Proc.devRef .tc main_v2) = _
    simp only [List.flatten_cons, List.flatten_nil, List.append_nil, List.cons_append, List.nil_append]
    after_results
    rfl
  rw [e]
  pointwise []

set_option maxRecDepth 16384 in
theorem host_v10 (c : Dev nD) (k : Fin 512) : (V m c main_v10 : Vec Ideal S1x512 .f32) (ix2 0 k) = aPS m c (ix1 k) := by
  have e : V m c main_v10 = shapeCast S1x512 (m ((c : Thread nD τ).loc main_arg4)) shapeCasts_S512_S1x512 := by
    show StableHlo.after (List.flatten [hostOps0, hostOps0_1, hostOps0_2, hostOps0_3, hostOps0_4]) _ (Proc.devRef .tc main_v10) = _
    simp only [List.flatten_cons, List.flatten_nil, List.append_nil, List.cons_append, List.nil_append]
    after_results
    rfl
  rw [e]
  pointwise []

set_option maxRecDepth 16384 in
theorem host_v11 (c : Dev nD) (k : Fin 256) : (V m c main_v11 : Vec Ideal S1x256 .f32) (ix2 0 k) = aBG m c (ix1 k) := by
  have e : V m c main_v11 = shapeCast S1x256 (m ((c : Thread nD τ).loc main_arg6)) shapeCasts_S256_S1x256 := by
    show StableHlo.after (List.flatten [hostOps0, hostOps0_1, hostOps0_2, hostOps0_3, hostOps0_4]) _ (Proc.devRef .tc main_v11) = _
    simp only [List.flatten_cons, List.flatten_nil, List.append_nil, List.cons_append, List.nil_append]
    after_results
    rfl
  rw [e]
  pointwise []

set_option maxRecDepth 16384 in
theorem host_v12 (c : Dev nD) (k : Fin 128) : (V m c main_v12 : Vec Ideal S1x128 .f32) (ix2 0 k) = aGG m c (ix1 k) := by
  have e : V m c main_v12 = shapeCast S1x128 (m ((c : Thread nD τ).loc main_arg7)) shapeCasts_S128_S1x128 := by
    show StableHlo.after (List.flatten [hostOps0, hostOps0_1, hostOps0_2, hostOps0_3, hostOps0_4]) _ (Proc.devRef .tc main_v12) = _
    simp only [List.flatten_cons, List.flatten_nil, List.append_nil, List.cons_append, List.nil_append]
    after_results
    rfl
  rw [e]
  pointwise []

set_option maxRecDepth 16384 in
theorem host_v14 (c : Dev nD) (k : Fin 1024) : (V m c main_v14 : Vec Ideal S1x1024 .f32) (ix2 0 k) = aG2 m c (ix1 k) := by
  have e : V m c main_v14 = shapeCast S1x1024 (m ((c : Thread nD τ).loc main_arg9)) shapeCasts_S1024_S1x1024 := by
    show StableHlo.after (List.flatten [hostOps0, hostOps0_1, hostOps0_2, hostOps0_3, hostOps0_4]) _ (Proc.devRef .tc main_v14) = _
    simp only [List.flatten_cons, List.flatten_nil, List.append_nil, List.cons_append, List.nil_append]
    after_results
    rfl
  rw [e]
  pointwise []

set_option maxRecDepth 16384 in
theorem host_v9 (c : Dev nD) (k : Fin 4) (q : Fin 128) (p : Fin 128) : (V m c main_v9 : Vec Ideal S4x128x128 .bf16) (ix3 k q p) = aWP m c (ix3 k q p) := by
  have e : (V m c main_v9 : Vec Ideal S4x128x128 .bf16) = (truncf .bf16 (m ((c : Thread nD τ).loc main_arg3) : FVec Ideal S4x128x128 .f32) bitsLt_bf16_f32 : FVec Ideal S4x128x128 .bf16) := by
    show StableHlo.after (List.flatten [hostOps0, hostOps0_1, hostOps0_2, hostOps0_3, hostOps0_4]) _ (Proc.devRef .tc main_v9) = _
    simp only [List.flatten_cons, List.flatten_nil, List.append_nil, List.cons_append, List.nil_append]
    after_results
  rw [e]
  pointwise []

set_option maxRecDepth 16384 in
theorem host_v13 (c : Dev nD) (k : Fin 1024) (q : Fin 1024) : (V m c main_v13 : Vec Ideal S1024x1024 .bf16) (ix2 k q) = aWO m c (ix2 k q) := by
  have e : (V m c main_v13 : Vec Ideal S1024x1024 .bf16) = (truncf .bf16 (m ((c : Thread nD τ).loc main_arg8) : FVec Ideal S1024x1024 .f32) bitsLt_bf16_f32 : FVec Ideal S1024x1024 .bf16) := by
    show StableHlo.after (List.flatten [hostOps0, hostOps0_1, hostOps0_2, hostOps0_3, hostOps0_4]) _ (Proc.devRef .tc main_v13) = _
    simp only [List.flatten_cons, List.flatten_nil, List.append_nil, List.cons_append, List.nil_append]
    after_results
  rw [e]
  pointwise []

theorem word_zero : (FloatOps.sitofp .f32 0#32 : Ideal .f32) = 0 := by
  show (((0#32 : BitVec 32).toInt : ℝ) : EReal) = 0
  simp

set_option maxRecDepth 16384 in
theorem pad_rows (A : FVec Ideal S16x256 .f32) (e : Fin 128) (q : Fin 256) :
    (truncf .bf16 (pad S128x256 ![0, 0] ![112, 0] ![0, 0] A (sitofp .f32 (constantI S_ 32 0#32)) pads_S16x256_S128x256_01120_000 h_S_ : FVec Ideal S128x256 .f32) bitsLt_bf16_f32 : FVec Ideal S128x256 .bf16) (ix2 e q)
      = if h : e.val < 16 then A (ix2 ⟨e.val, h⟩ q) else FloatOps.sitofp .f32 0#32 := by
  pointwise []

set_option maxRecDepth 16384 in
/-- The gate's second factor, padded with zero rows. -/
theorem host_v1 (c : Dev nD) (e : Fin 128) (q : Fin 256) :
    (V m c main_v1 : Vec Ideal S128x256 .bf16) (ix2 e q) = if h : e.val < 16 then aWG m c (ix2 ⟨e.val, h⟩ q) else 0 := by
  have e : (V m c main_v1 : Vec Ideal S128x256 .bf16) = (truncf .bf16 (pad S128x256 ![0, 0] ![112, 0] ![0, 0] (m ((c : Thread nD τ).loc main_arg5)) (sitofp .f32 (constantI S_ 32 0#32)) pads_S16x256_S128x256_01120_000 h_S_ : FVec Ideal S128x256 .f32) bitsLt_bf16_f32 : FVec Ideal S128x256 .bf16) := by
    show StableHlo.after (List.flatten [hostOps0, hostOps0_1, hostOps0_2, hostOps0_3, hostOps0_4]) _ (Proc.devRef .tc main_v1) = _
    simp only [List.flatten_cons, List.flatten_nil, List.append_nil, List.cons_append, List.nil_append]
    after_results
    rfl
  rw [e]
  exact (pad_rows _ _ _).trans (dite_congr rfl (fun _ => rfl) (fun _ => word_zero))

set_option maxRecDepth 16384 in
theorem pack_cols (A : FVec Ideal S1024x2064 .f32) (k : Fin 1024) (q : Fin 2176) :
    (truncf .bf16 (concatenate S1024x2176 1 [⟨S1024x1536, extractStridedSlice S1024x1536 ![0, 0] A slices_S1024x2064_S1024x1536_0_0⟩, ⟨S1024x512, extractStridedSlice S1024x512 ![0, 1552] A slices_S1024x2064_S1024x512_0_1552⟩, ⟨S1024x128, pad S1024x128 ![0, 0] ![0, 112] ![0, 0] (extractStridedSlice S1024x16 ![0, 1536] A slices_S1024x2064_S1024x16_0_1536) (sitofp .f32 (constantI S_ 32 0#32)) pads_S1024x16_S1024x128_000_01120 h_S_⟩] concatenates_S1024x1536_S1024x512_S1024x128_S1024x2176_d1 : FVec Ideal S1024x2176 .f32) bitsLt_bf16_f32 : FVec Ideal S1024x2176 .bf16) (ix2 k q)
      = if h : q.val < 1536 then A (ix2 k ⟨q.val, by omega⟩) else
      if h : q.val < 2048 then A (ix2 k ⟨q.val + 16, by omega⟩) else if h : q.val < 2064 then A (ix2 k ⟨q.val - 512, by omega⟩) else 0 := by
  pointwise []
  simp only [word_zero]
  by_cases h1 : q.val < 1536
  · refine (dif_pos h1).trans (Eq.trans ?_ (dif_pos h1).symm)
    rfl
  · refine (dif_neg h1).trans (Eq.trans ?_ (dif_neg h1).symm)
    by_cases h2 : q.val < 2048
    · refine (dif_pos (by omega)).trans (Eq.trans ?_ (dif_pos h2).symm)
      exact congrArg (fun j => A (ix2 k j)) (Fin.ext (show 1552 + (q.val - 1536) = q.val + 16 by omega))
    · refine (dif_neg (by omega)).trans (Eq.trans ?_ (dif_neg h2).symm)
      by_cases h3 : q.val < 2064
      · refine (dif_pos (by omega)).trans (Eq.trans ?_ (dif_pos h3).symm)
        exact congrArg (fun j => A (ix2 k j)) (Fin.ext (show 1536 + (q.val - 1536 - 512) = q.val - 512 by omega))
      · refine (dif_neg (by omega)).trans (Eq.trans ?_ (dif_neg h3).symm)
        rfl

set_option maxRecDepth 16384 in
/-- The packed projection weights. -/
theorem host_v8 (c : Dev nD) (k : Fin 1024) (q : Fin 2176) :
    (V m c main_v8 : Vec Ideal S1024x2176 .bf16) (ix2 k q) = if h : q.val < 1536 then aW m c (ix2 k ⟨q.val, by omega⟩) else
      if h : q.val < 2048 then aW m c (ix2 k ⟨q.val + 16, by omega⟩) else if h : q.val < 2064 then aW m c (ix2 k ⟨q.val - 512, by omega⟩) else 0 := by
  have e : (V m c main_v8 : Vec Ideal S1024x2176 .bf16) = (truncf .bf16 (concatenate S1024x2176 1 [⟨S1024x1536, extractStridedSlice S1024x1536 ![0, 0] (m ((c : Thread nD τ).loc main_arg2)) slices_S1024x2064_S1024x1536_0_0⟩, ⟨S1024x512, extractStridedSlice S1024x512 ![0, 1552] (m ((c : Thread nD τ).loc main_arg2)) slices_S1024x2064_S1024x512_0_1552⟩, ⟨S1024x128, pad S1024x128 ![0, 0] ![0, 112] ![0, 0] (extractStridedSlice S1024x16 ![0, 1536] (m ((c : Thread nD τ).loc main_arg2)) slices_S1024x2064_S1024x16_0_1536) (sitofp .f32 (constantI S_ 32 0#32)) pads_S1024x16_S1024x128_000_01120 h_S_⟩] concatenates_S1024x1536_S1024x512_S1024x128_S1024x2176_d1 : FVec Ideal S1024x2176 .f32) bitsLt_bf16_f32 : FVec Ideal S1024x2176 .bf16) := by
    show StableHlo.after (List.flatten [hostOps0, hostOps0_1, hostOps0_2, hostOps0_3, hostOps0_4]) _ (Proc.devRef .tc main_v8) = _
    simp only [List.flatten_cons, List.flatten_nil, List.append_nil, List.cons_append, List.nil_append]
    after_results
    dsimp only [Matrix.cons_val]
    rfl
  rw [e]
  exact pack_cols _ _ _

/-! ## What the windows stage -/

theorem idx_x : ∀ t : Fin cfg0.N, win0_0.index t 0 = t.val / 16 ∧ win0_0.index t 1 = t.val % 16 ∧ win0_0.index t 2 = 0 :=
  (by decide +kernel : ∀ t : Fin grid0.N, _)

theorem coord_one : ∀ t : Fin cfg0.N, ((grid0.coords t) 1).val = t.val % 16 :=
  (by decide +kernel : ∀ t : Fin grid0.N, _)

theorem idx_pool : ∀ t : Fin cfg0.N, win0_3.index t 0 = 0 ∧ win0_3.index t 1 = 0 ∧ win0_3.index t 2 = 0 :=
  (by decide +kernel : ∀ t : Fin grid0.N, _)

theorem idx_const : ∀ t : Fin cfg0.N, (win0_1.index t 0 = 0 ∧ win0_1.index t 1 = 0) ∧ (win0_2.index t 0 = 0 ∧ win0_2.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) :=
  (by decide +kernel : ∀ t : Fin grid0.N, _)

theorem tlt (t : Fin cfg0.N) : t.val < 64 := lt_of_lt_of_eq t.isLt N_0

/-- The batch and the place of a block's row in its sequence. -/
def bat (t : Fin cfg0.N) : Fin 4 := ⟨t.val / 16, by have := tlt t; omega⟩
def row (t : Fin cfg0.N) (r : Fin 256) : Fin 4096 := ⟨256 * (t.val % 16) + r.val, by omega⟩

theorem blk_x (c : Dev nD) (t : Fin cfg0.N) (r : Fin 256) (k : Fin 1024) :
    (iblk m c 0 t : Vec Ideal S1x256x1024 .f32) (ix3 0 r k) = aX m c (ix3 (bat t) (row t r) k) := by
  unfold iblk
  rw [View.read_apply]
  show V m c main_arg0 _ = _
  rw [V_main_arg0]
  refine congrArg (aX m c) (funext fun a => Fin.ext ?_)
  match a with
  | ⟨0, _⟩ => show win0_0.index t 0 * 1 + 1 * 0 = t.val / 16; rw [(idx_x t).1]; omega
  | ⟨1, _⟩ => show win0_0.index t 1 * 256 + 1 * r.val = 256 * (t.val % 16) + r.val; rw [(idx_x t).2.1]; omega
  | ⟨2, _⟩ => show win0_0.index t 2 * 1024 + 1 * k.val = k.val; rw [(idx_x t).2.2]; omega

theorem blk_wp (c : Dev nD) (t : Fin cfg0.N) (k : Fin 4) (q : Fin 128) (p : Fin 128) :
    (iblk m c 3 t : Vec Ideal S4x128x128 .bf16) (ix3 k q p) = aWP m c (ix3 k q p) := by
  rw [← host_v9]
  unfold iblk
  rw [View.read_apply]
  show V m c main_v9 _ = V m c main_v9 _
  refine congrArg (V m c main_v9) (funext fun a => Fin.ext ?_)
  match a with
  | ⟨0, _⟩ => show win0_3.index t 0 * 4 + 1 * k.val = k.val; rw [(idx_pool t).1]; omega
  | ⟨1, _⟩ => show win0_3.index t 1 * 128 + 1 * q.val = q.val; rw [(idx_pool t).2.1]; omega
  | ⟨2, _⟩ => show win0_3.index t 2 * 128 + 1 * p.val = p.val; rw [(idx_pool t).2.2]; omega

theorem blk_g1 (c : Dev nD) (t : Fin cfg0.N) (k : Fin 1024) :
    (iblk m c 1 t : Vec Ideal S1x1024 .f32) (ix2 0 k) = aG1 m c (ix1 k) := by
  rw [← host_v2]
  unfold iblk
  rw [View.read_apply]
  show V m c main_v2 _ = V m c main_v2 _
  refine congrArg (V m c main_v2) (funext fun a => Fin.ext ?_)
  match a with
  | ⟨0, _⟩ => show win0_1.index t 0 * 1 + 1 * 0 = 0; rw [(idx_const t).1.1]
  | ⟨1, _⟩ => show win0_1.index t 1 * 1024 + 1 * k.val = k.val; rw [(idx_const t).1.2]; omega

theorem blk_ps (c : Dev nD) (t : Fin cfg0.N) (k : Fin 512) :
    (iblk m c 4 t : Vec Ideal S1x512 .f32) (ix2 0 k) = aPS m c (ix1 k) := by
  rw [← host_v10]
  unfold iblk
  rw [View.read_apply]
  show V m c main_v10 _ = V m c main_v10 _
  refine congrArg (V m c main_v10) (funext fun a => Fin.ext ?_)
  match a with
  | ⟨0, _⟩ => show win0_4.index t 0 * 1 + 1 * 0 = 0; rw [(idx_const t).2.2.1.1]
  | ⟨1, _⟩ => show win0_4.index t 1 * 512 + 1 * k.val = k.val; rw [(idx_const t).2.2.1.2]; omega

theorem blk_bg (c : Dev nD) (t : Fin cfg0.N) (k : Fin 256) :
    (iblk m c 6 t : Vec Ideal S1x256 .f32) (ix2 0 k) = aBG m c (ix1 k) := by
  rw [← host_v11]
  unfold iblk
  rw [View.read_apply]
  show V m c main_v11 _ = V m c main_v11 _
  refine congrArg (V m c main_v11) (funext fun a => Fin.ext ?_)
  match a with
  | ⟨0, _⟩ => show win0_6.index t 0 * 1 + 1 * 0 = 0; rw [(idx_const t).2.2.2.2.1.1]
  | ⟨1, _⟩ => show win0_6.index t 1 * 256 + 1 * k.val = k.val; rw [(idx_const t).2.2.2.2.1.2]; omega

theorem blk_gg (c : Dev nD) (t : Fin cfg0.N) (k : Fin 128) :
    (iblk m c 7 t : Vec Ideal S1x128 .f32) (ix2 0 k) = aGG m c (ix1 k) := by
  rw [← host_v12]
  unfold iblk
  rw [View.read_apply]
  show V m c main_v12 _ = V m c main_v12 _
  refine congrArg (V m c main_v12) (funext fun a => Fin.ext ?_)
  match a with
  | ⟨0, _⟩ => show win0_7.index t 0 * 1 + 1 * 0 = 0; rw [(idx_const t).2.2.2.2.2.1.1]
  | ⟨1, _⟩ => show win0_7.index t 1 * 128 + 1 * k.val = k.val; rw [(idx_const t).2.2.2.2.2.1.2]; omega

theorem blk_g2 (c : Dev nD) (t : Fin cfg0.N) (k : Fin 1024) :
    (iblk m c 9 t : Vec Ideal S1x1024 .f32) (ix2 0 k) = aG2 m c (ix1 k) := by
  rw [← host_v14]
  unfold iblk
  rw [View.read_apply]
  show V m c main_v14 _ = V m c main_v14 _
  refine congrArg (V m c main_v14) (funext fun a => Fin.ext ?_)
  match a with
  | ⟨0, _⟩ => show win0_9.index t 0 * 1 + 1 * 0 = 0; rw [(idx_const t).2.2.2.2.2.2.2.1]
  | ⟨1, _⟩ => show win0_9.index t 1 * 1024 + 1 * k.val = k.val; rw [(idx_const t).2.2.2.2.2.2.2.2]; omega

theorem blk_w (c : Dev nD) (t : Fin cfg0.N) (k : Fin 1024) (q : Fin 2176) :
    (iblk m c 2 t : Vec Ideal S1024x2176 .bf16) (ix2 k q) = (V m c main_v8 : Vec Ideal S1024x2176 .bf16) (ix2 k q) := by
  unfold iblk
  rw [View.read_apply]
  show V m c main_v8 _ = V m c main_v8 _
  refine congrArg (V m c main_v8) (funext fun a => Fin.ext ?_)
  match a with
  | ⟨0, _⟩ => show win0_2.index t 0 * 1024 + 1 * k.val = k.val; rw [(idx_const t).2.1.1]; omega
  | ⟨1, _⟩ => show win0_2.index t 1 * 2176 + 1 * q.val = q.val; rw [(idx_const t).2.1.2]; omega

theorem blk_wg (c : Dev nD) (t : Fin cfg0.N) (k : Fin 128) (q : Fin 256) :
    (iblk m c 5 t : Vec Ideal S128x256 .bf16) (ix2 k q) = (V m c main_v1 : Vec Ideal S128x256 .bf16) (ix2 k q) := by
  unfold iblk
  rw [View.read_apply]
  show V m c main_v1 _ = V m c main_v1 _
  refine congrArg (V m c main_v1) (funext fun a => Fin.ext ?_)
  match a with
  | ⟨0, _⟩ => show win0_5.index t 0 * 128 + 1 * k.val = k.val; rw [(idx_const t).2.2.2.1.1]; omega
  | ⟨1, _⟩ => show win0_5.index t 1 * 256 + 1 * q.val = q.val; rw [(idx_const t).2.2.2.1.2]; omega

theorem blk_wo (c : Dev nD) (t : Fin cfg0.N) (k : Fin 1024) (q : Fin 1024) :
    (iblk m c 8 t : Vec Ideal S1024x1024 .bf16) (ix2 k q) = (V m c main_v13 : Vec Ideal S1024x1024 .bf16) (ix2 k q) := by
  unfold iblk
  rw [View.read_apply]
  show V m c main_v13 _ = V m c main_v13 _
  refine congrArg (V m c main_v13) (funext fun a => Fin.ext ?_)
  match a with
  | ⟨0, _⟩ => show win0_8.index t 0 * 1024 + 1 * k.val = k.val; rw [(idx_const t).2.2.2.2.2.2.1.1]; omega
  | ⟨1, _⟩ => show win0_8.index t 1 * 1024 + 1 * q.val = q.val; rw [(idx_const t).2.2.2.2.2.2.1.2]; omega

end Cert.MixIdeal.Hand

end
-- ==== Proof.MixValue.lean ====
/-
  The token mixer's run, read as the formula of `MixSpec`: what every grid point leaves (by induction over the points of
  a batch, the carried rows being the pooled columns' last sixteen and the carried state the keys against the values so
  far), the array the run ends with, and that it is the formula.
-/
module

public import proofs.«01_k».proof.Defs
public import proofs.«01_k».proof.Proof.MixWin
public import proofs.«01_k».proof.Proof.MixSpec

@[expose] public section

noncomputable section

open Idealize.ShloMosaic Idealize.ShloMosaic.TcCoe Idealize.SL.Sem
open Idealize.ShloMosaic.Pointwise

namespace Cert.MixIdeal.Hand

open Cert.MixIdeal Cert.MixIdeal.Gen
open Cert.FfnIdeal.Hand (rnorm)

variable (m : (ℓ : Loc nD τ sig) → Buf (Elt Ideal) ℓ) (c : Dev nD)

/-- A padded sum whose padding is zero. -/
theorem sum_pad (f : Fin 128 → EReal) (h : ∀ e, 16 ≤ e.val → f e = 0) : ∑ e, f e = ∑ e : Fin 16, f ⟨e.val, by omega⟩ := by
  have e : ∑ e, f e = (∑ e : Fin 16, f (Fin.castAdd 112 e)) + ∑ e : Fin 112, f (Fin.natAdd 16 e) := Fin.sum_univ_add (a := 16) (b := 112) f
  rw [e, Finset.sum_eq_zero (s := Finset.univ) (f := fun e : Fin 112 => f (Fin.natAdd 16 e)) (fun e _ => h _ (by rw [Fin.val_natAdd]; omega)), add_zero]
  rfl

theorem psum_congr {f g : ℕ → EReal} : ∀ (n : ℕ), (∀ i, i ≤ n → f i = g i) → psum f n = psum g n
  | 0, h => h 0 le_rfl
  | n + 1, h => by
    unfold psum
    rw [psum_congr n fun i hi => h i (by omega), h (n + 1) le_rfl]

theorem poolF_congr {f g : Fin 128 → ℕ → EReal} {n : ℕ} (h : ∀ d i, i ≤ n → f d i = g d i) (lim pos : EReal) (wp : Fin 128 → EReal) (sc : EReal) :
    poolF f n lim pos wp sc = poolF g n lim pos wp sc := by
  unfold poolF
  refine congrArg (· * sc) (Finset.sum_congr rfl fun d _ => ?_)
  rw [psum_congr n (h d), h d 0 (by omega)]

theorem wid_le : ∀ g, wid g ≤ 15 := by decide

theorem state_zero (r : Fin 512) (e : Fin 256) : (k0_pay3 (F := Ideal)) (ix2 r e) = 0 := by
  pointwise [k0_pay3]

theorem stR_zero (a k : ℕ → Fin 256 → ℝ) (v : ℕ → Fin 512 → ℝ) (r : Fin 512) (e : Fin 256) : stR a k v 0 r e = 0 := by
  unfold stR
  rw [Finset.range_zero, Finset.sum_empty, ite_self]

/-- The projected block at point `t`. -/
abbrev pjB (t : Fin cfg0.N) : S256x2176.Idx → EReal := k0_pay5 (iblk m c 0 t) (iblk m c 1 t) (iblk m c 2 t)

theorem pj_sum (t : Fin cfg0.N) (r : Fin 256) (q : Fin 2176) (q' : Fin 2064)
    (h : ∀ k : Fin 1024, (V m c main_v8 : Vec Ideal S1024x2176 .bf16) (ix2 k q) = aW m c (ix2 k q')) :
    pjB m c t (ix2 r q) = pS (aX m c) (aG1 m c) (aW m c) (bat t) (row t r) q' := by
  refine (proj_apply _ _ _ r q).trans ?_
  unfold pS hS
  refine Finset.sum_congr rfl fun j _ => ?_
  rw [blk_w, h]
  simp only [blk_x, blk_g1]

theorem pj_low (t : Fin cfg0.N) (r : Fin 256) (n : ℕ) (h : n < 1536) :
    pjB m c t (ix2 r ⟨n, by omega⟩) = pS (aX m c) (aG1 m c) (aW m c) (bat t) (row t r) ⟨n, by omega⟩ :=
  pj_sum m c t r _ _ fun k => (host_v8 m c k _).trans (dif_pos h)

theorem pj_gate (t : Fin cfg0.N) (r : Fin 256) (n : ℕ) (h : n < 512) :
    pjB m c t (ix2 r ⟨1536 + n, by omega⟩) = pS (aX m c) (aG1 m c) (aW m c) (bat t) (row t r) ⟨1552 + n, by omega⟩ :=
  pj_sum m c t r _ _ fun k => ((host_v8 m c k _).trans ((dif_neg (by dsimp only; omega)).trans (dif_pos (by dsimp only; omega)))).trans
    (congrArg (fun j => aW m c (ix2 k j)) (Fin.ext (show 1536 + n + 16 = 1552 + n by omega)))

theorem pj_dec (t : Fin cfg0.N) (r : Fin 256) (n : ℕ) (h : n < 16) :
    pjB m c t (ix2 r ⟨2048 + n, by omega⟩) = pS (aX m c) (aG1 m c) (aW m c) (bat t) (row t r) ⟨1536 + n, by omega⟩ :=
  pj_sum m c t r _ _ fun k => ((host_v8 m c k _).trans ((dif_neg (by dsimp only; omega)).trans ((dif_neg (by dsimp only; omega)).trans
    (dif_pos (by dsimp only; omega))))).trans (congrArg (fun j => aW m c (ix2 k j)) (Fin.ext (show 2048 + n - 512 = 1536 + n by omega)))

set_option maxRecDepth 16384 in
/-- The decay gate's logit: the padded columns meet zero rows. -/
theorem lg_blk (t : Fin cfg0.N) (r : Fin 256) (q : Fin 256) :
    (∑ e : Fin 128, pjB m c t (ix2 r ⟨2048 + e.val, by omega⟩) * (iblk m c 5 t : Vec Ideal S128x256 .bf16) (ix2 e q)) + (iblk m c 6 t : Vec Ideal S1x256 .f32) (ix2 0 q)
      = lgS (aX m c) (aG1 m c) (aW m c) (aWG m c) (aBG m c) (bat t) (row t r) q := by
  have hs : (∑ e : Fin 128, pjB m c t (ix2 r ⟨2048 + e.val, by omega⟩) * (iblk m c 5 t : Vec Ideal S128x256 .bf16) (ix2 e q))
      = ∑ e : Fin 16, pS (aX m c) (aG1 m c) (aW m c) (bat t) (row t r) ⟨1536 + e.val, by omega⟩ * aWG m c (ix2 e q) := ?_
  · unfold lgS
    rw [hs, blk_bg]
  have hz : ∀ e : Fin 128, 16 ≤ e.val → pjB m c t (ix2 r ⟨2048 + e.val, by omega⟩) * (iblk m c 5 t : Vec Ideal S128x256 .bf16) (ix2 e q) = 0 := fun e he => by
    rw [blk_wg, host_v1, dif_neg (by omega), mul_zero]
  rw [sum_pad (fun e : Fin 128 => pjB m c t (ix2 r ⟨2048 + e.val, by omega⟩) * (iblk m c 5 t : Vec Ideal S128x256 .bf16) (ix2 e q)) hz]
  refine Finset.sum_congr rfl fun e _ => ?_
  rw [blk_wg, host_v1, dif_pos (show ((⟨e.val, by omega⟩ : Fin 128)).val < 16 from e.isLt)]
  exact congrArg (· * _) (pj_dec m c t r e.val e.isLt)

/-- The pooled columns' sequences of the block at point `t`: the batch's from the block's first row on. -/
def uB (t : Fin cfg0.N) (q : Fin 512) (n : ℕ) : EReal :=
  uS (aX m c) (aG1 m c) (aW m c) (bat t) q (256 * (t.val % 16) + n)

section Points

variable {a k q : Fin 4 → ℕ → Fin 256 → ℝ} {v : Fin 4 → ℕ → Fin 512 → ℝ}
  (S : Seqs (aX m c) (aG1 m c) (aW m c) (aWG m c) (aBG m c) a k q v)

include S in
theorem blk_of (t : Fin cfg0.N) : Blk (pjB m c t) (iblk m c 5 t) (iblk m c 6 t) (uB m c t) (a (bat t)) (k (bat t)) (q (bat t)) (v (bat t)) (256 * (t.val % 16)) where
  hu r e := by
    have ht := tlt t
    rw [pj_low m c t r e.val (by omega)]
    unfold uB uS
    rw [dif_pos ⟨by omega, by omega⟩]
    exact congrArg (fun s => pS (aX m c) (aG1 m c) (aW m c) (bat t) s _) (Fin.ext (by show 256 * (t.val % 16) + r.val = 256 * (t.val % 16) + (16 + r.val) - 16; omega))
  hv r e := by rw [pj_low m c t r (1024 + e.val) (by omega)]; exact S.hv (bat t) (row t r) e
  hc e := (S.hc (bat t) e).rows (fun r : Fin 256 => row t r) (fun r => by rw [lg_blk])
    (fun r => by rw [pj_low m c t r (512 + e.val) (by omega)]) (fun r => by rw [pj_low m c t r (768 + e.val) (by omega)])
    (fun r => rfl)

variable (a k q v) in
/-- What the last projection reads at point `t`. -/
def yB (t : Fin cfg0.N) : S256x1024.Idx → EReal :=
  yL (pjB m c t) (iblk m c 3 t) (iblk m c 4 t) (iblk m c 7 t) (uB m c t) (a (bat t)) (k (bat t)) (q (bat t)) (v (bat t)) (256 * (t.val % 16)) (256 * ((grid0.coords t) 1).val)

variable (a k q v) in
/-- What a point leaves. -/
structure Left (t : Fin cfg0.N) (o : Vec Ideal S1x256x1024 .f32 × Vec Ideal S272x512 .f32 × Vec Ideal S512x256 .f32) : Prop where
  out : o.1 = k0_pay1 (k0_pay4 (iblk m c 0 t)) (k0_pay62 (yB m c a k q v t) (iblk m c 8 t)) (k0_pay63 (iblk m c 9 t)) (k0_pay64 (yB m c a k q v t) (iblk m c 8 t)) k0_pay65
  rows : ∀ (r : Fin 272) (e : Fin 512), r.val < 16 → o.2.1 (ix2 r e) = uB m c t e (256 + r.val)
  st : ∀ r e, o.2.2 (ix2 r e) = ((stR (a (bat t)) (k (bat t)) (v (bat t)) (256 * (t.val % 16) + 256) r e : ℝ) : EReal)

include S in
set_option maxRecDepth 16384 in
set_option maxHeartbeats 2000000 in
theorem point_A (t : Fin cfg0.N) (h0 : t.val % 16 = 0) : Left m c a k q v t (outsAt0 m c t.val t.isLt) := by
  have H := blk_of m c S t
  have hz : ∀ e n, n < 16 → uB m c t e n = 0 := fun e n hn => by unfold uB uS; rw [dif_neg (by omega)]
  have hst : ∀ r e, (k0_pay3 (F := Ideal)) (ix2 r e) = ((stR (a (bat t)) (k (bat t)) (v (bat t)) (256 * (t.val % 16)) r e : ℝ) : EReal) := fun r e => by
    rw [h0, state_zero, stR_zero]
    rfl
  rw [outsAt0_A m c t h0]
  refine ⟨?_, fun r e hr => ?_, fun r e => ?_⟩
  · dsimp only
    rw [out_A (H := H) (hz := hz) (hst := hst)]
    rfl
  · dsimp only
    rw [souta_A (H := H) (hr := hr)]
  · dsimp only
    rw [soutb_A (H := H) (hst := hst)]

include S in
set_option maxRecDepth 16384 in
set_option maxHeartbeats 2000000 in
theorem point_B (t : Fin cfg0.N) (h0 : ¬ t.val % 16 = 0) (hl : t.val - 1 < cfg0.N)
    (E : Left m c a k q v ⟨t.val - 1, hl⟩ (outsAt0 m c (t.val - 1) hl)) : Left m c a k q v t (outsAt0 m c t.val t.isLt) := by
  have H := blk_of m c S t
  have hb : bat ⟨t.val - 1, hl⟩ = bat t := Fin.ext (by show (t.val - 1) / 16 = t.val / 16; omega)
  have hx : ∀ (r : Fin 272) (e : Fin 512), r.val < 16 → (outsAt0 m c (t.val - 1) hl).2.1 (ix2 r e) = uB m c t e r.val := fun r e hr => by
    rw [E.rows r e hr]
    unfold uB
    rw [hb]
    exact congrArg _ (show 256 * ((t.val - 1) % 16) + (256 + r.val) = 256 * (t.val % 16) + r.val by omega)
  have hst : ∀ r e, (outsAt0 m c (t.val - 1) hl).2.2 (ix2 r e) = ((stR (a (bat t)) (k (bat t)) (v (bat t)) (256 * (t.val % 16)) r e : ℝ) : EReal) := fun r e => by
    rw [E.st r e, hb, show 256 * ((⟨t.val - 1, hl⟩ : Fin cfg0.N).val % 16) + 256 = 256 * (t.val % 16) by dsimp only; omega]
  rw [outsAt0_B m c t h0]
  refine ⟨?_, fun r e hr => ?_, fun r e => ?_⟩
  · dsimp only
    rw [out_B (H := H) (hx := hx) (hst := hst)]
    rfl
  · dsimp only
    rw [souta_B (H := H) (hr := hr)]
  · dsimp only
    rw [soutb_B (H := H) (hst := hst)]

include S in
theorem point : ∀ (n : ℕ) (t : Fin cfg0.N), t.val = n → Left m c a k q v t (outsAt0 m c t.val t.isLt) := by
  intro n
  induction n using Nat.strong_induction_on with
  | _ n ih =>
    intro t hn
    by_cases h0 : t.val % 16 = 0
    · exact point_A m c S t h0
    · exact point_B m c S t h0 (by have := t.isLt; omega) (ih (t.val - 1) (by omega) ⟨t.val - 1, by have := t.isLt; omega⟩ rfl)

/-- What the last projection reads, at an entry: the formula at the row's place in the array. -/
theorem y_blk (t : Fin cfg0.N) (r : Fin 256) (e : Fin 1024) :
    yB m c a k q v t (ix2 r e) = yS (aX m c) (aG1 m c) (aW m c) (aWP m c) (aPS m c) (aGG m c) a k q v (bat t) (row t r) e := by
  have hr : 256 * ((grid0.coords t) 1).val + r.val = (row t r).val := by rw [coord_one]; rfl
  unfold yB yS
  by_cases h : e.val < 512
  · rw [dif_pos h, yL_pool _ _ _ _ r ⟨e.val / 128, by omega⟩ ⟨e.val % 128, by omega⟩ e (by dsimp only; omega), hr]
    unfold poolS
    simp only [blk_wp, blk_ps]
    refine poolF_congr (fun d i hi => ?_) _ _ _ _
    have := wid_le ⟨e.val / 128, by omega⟩
    unfold uB
    exact congrArg _ (show 256 * (t.val % 16) + (r.val + 16 - i) = 256 * (t.val % 16) + r.val + 16 - i by omega)
  · rw [dif_neg h, yL_head _ _ _ _ r ⟨(e.val - 512) / 128, by omega⟩ ⟨e.val % 128, by omega⟩ e (by dsimp only; omega)]
    unfold headS
    simp only [blk_gg]
    refine congrArg (fun f => headF _ _ f _) (funext fun w => ?_)
    exact pj_gate m c t r _ (colH _ w).isLt

theorem blk_wo' (t : Fin cfg0.N) (e d : Fin 1024) : (iblk m c 8 t : Vec Ideal S1024x1024 .bf16) (ix2 e d) = aWO m c (ix2 e d) :=
  (blk_wo m c t e d).trans (host_v13 m c e d)

include S in
/-- The output block of a point, at an entry: the formula at the row's place in the array. -/
theorem point_out (t : Fin cfg0.N) (r : Fin 256) (d : Fin 1024) :
    (outsAt0 m c t.val t.isLt).1 (ix3 0 r d)
      = outS (aX m c) (aG1 m c) (aW m c) (aWP m c) (aPS m c) (aGG m c) (aWO m c) (aG2 m c) a k q v (bat t) (row t r) d := by
  rw [(point m c S t.val t rfl).out]
  refine (last_apply _ _ _ _ 0 r d).trans ?_
  unfold outS
  simp only [blk_x, blk_g2, blk_wo', y_blk]

include S in
/-- The array the run ends with is the formula of the arguments. -/
theorem G10_eq (b : Fin 4) (s : Fin 4096) (d : Fin 1024) :
    Value.G10 m c (ix3 b s d) = outS (aX m c) (aG1 m c) (aW m c) (aWP m c) (aPS m c) (aGG m c) (aWO m c) (aG2 m c) a k q v b s d := by
  have hb := b.isLt
  have hs := s.isLt
  have hd := d.isLt
  have hp : Value.pt10Of (ix3 b s d) = 16 * b.val + s.val / 256 := by
    show 16 * (b.val / 1 - 0) + 1 * (s.val / 256 - 0) + 1 * (d.val / 1024 - 0) = _
    omega
  have hlt : Value.pt10Of (ix3 b s d) < cfg0.N := by rw [hp, show cfg0.N = 64 from N_0]; omega
  unfold Value.G10
  rw [dif_pos hlt, ← Value.outsAt0_sweep m c _ hlt]
  have hl : Value.loc10Of (ix3 b s d) = ix3 0 ⟨s.val % 256, by omega⟩ d := by
    funext a
    refine Fin.ext ?_
    match a with
    | ⟨0, _⟩ => show b.val % 1 = 0; omega
    | ⟨1, _⟩ => rfl
    | ⟨2, _⟩ => show d.val % 1024 = d.val; omega
  rw [hl]
  refine (point_out m c S ⟨_, hlt⟩ ⟨s.val % 256, by omega⟩ d).trans ?_
  have e1 : bat ⟨Value.pt10Of (ix3 b s d), hlt⟩ = b := Fin.ext (by show Value.pt10Of (ix3 b s d) / 16 = b.val; rw [hp]; omega)
  have e2 : row ⟨Value.pt10Of (ix3 b s d), hlt⟩ ⟨s.val % 256, by omega⟩ = s :=
    Fin.ext (by show 256 * (Value.pt10Of (ix3 b s d) % 16) + s.val % 256 = s.val; rw [hp]; omega)
  rw [e1, e2]

end Points

end Cert.MixIdeal.Hand

end
-- ==== Proof.MixClaim.lean ====
/-
  The token mixer's claims: the frames of the compiled program, of its ideal reading and of the reference, and that the
  ideal kernel and the reference end with the same array when the precondition holds.
-/
module

public import proofs.«01_k».proof.Defs
public import proofs.«01_k».proof.Proof.MixBase
public import proofs.«01_k».proof.Proof.MixRef
public import proofs.«01_k».proof.Proof.MixFinite
public import proofs.«01_k».proof.Proof.MixValue

@[expose] public section

noncomputable section

namespace Cert.Proof

open Idealize.ShloMosaic Idealize.ShloMosaic.TcCoe Idealize.SL.Sem
open Idealize.ShloMosaic.Pointwise

/-- The two programs' kernel bodies are the same. -/
theorem mix_body_same : @Cert.Mix.cc0_token_mixer Bits _ Cert.Mix.Gen.facts = @Cert.MixIdeal.cc0_token_mixer Bits _ Cert.MixIdeal.Gen.facts := rfl

set_option maxHeartbeats 2000000 in
/-- The two programs' body tables are the same. -/
theorem mix_bodies_same : @Cert.Mix.defs₀ Bits _ Cert.Mix.Gen.facts = @Cert.MixIdeal.defs₀ Bits _ Cert.MixIdeal.Gen.facts := by
  unfold Cert.Mix.defs₀ Cert.MixIdeal.defs₀
  refine congrArg Defs.onTc ?_
  funext ℓ
  obtain ⟨k, hk⟩ := ℓ
  obtain rfl : k = 0 := by have : k < 1 := hk; omega
  funext a
  obtain ⟨t, s⟩ := a
  dsimp only
  rw [mix_body_same]
  rfl

/-- The compiled mixer's frame: the run at the bit interpretation. -/
theorem frame_mix : @Cert.quiescent_Mix Cert.Mix.Gen.facts := fun m ρ _ => by
  unfold Cert.Mix.defs
  rw [mix_bodies_same]
  exact Cert.MixIdeal.Gen.frame (F := Bits) m ρ

/-- The ideal mixer's frame: the same run over the extended reals. -/
theorem frame_mixIdeal : @Cert.quiescent_MixIdeal Cert.MixIdeal.Gen.facts := fun m ρ _ =>
  Cert.MixIdeal.Gen.frame (F := Ideal) m ρ

/-- The same frame, under the precondition, which the run does not use. -/
theorem frame_mixIdeal_pre : @Cert.quiescent_MixIdeal_pre_finite_mixing Cert.MixIdeal.Gen.facts Cert.Pre_finite_mixing.Gen.facts := fun m ρ _ =>
  Cert.MixIdeal.Gen.frame (F := Ideal) m ρ

/-- The reference's frame: straight host lines, and no semaphore at all. -/
theorem frame_mixRef : @Cert.quiescent_MixRefIdeal Cert.MixRefIdeal.Gen.facts := fun m ρ _ =>
  (θ_run Cert.MixRefIdeal.defs _ _).mono (fun r h => ⟨fun c => (h c).2,
      Idealize.ShloMosaic.sem_eq_zero_of_no_sems (by decide) r.2⟩)
    (Cert.MixRefIdeal.Value.run (F := Ideal) m ρ)

/-- The same frame, under the precondition. -/
theorem frame_mixRef_pre : @Cert.quiescent_MixRefIdeal_pre_finite_mixing Cert.MixRefIdeal.Gen.facts Cert.Pre_finite_mixing.Gen.facts := fun m ρ _ =>
  (θ_run Cert.MixRefIdeal.defs _ _).mono (fun r h => ⟨fun c => (h c).2,
      Idealize.ShloMosaic.sem_eq_zero_of_no_sems (by decide) r.2⟩)
    (Cert.MixRefIdeal.Value.run (F := Ideal) m ρ)

open Cert.MixIdeal.Hand in
/-- From the same arguments, the scales and weights before the heads real, the ideal mixer's array is the reference's result. -/
theorem mix_same (m : (ℓ : Loc Cert.MixIdeal.nD Cert.MixIdeal.τ Cert.MixIdeal.sig) → Buf (Elt Ideal) ℓ)
    (m' : (ℓ : Loc Cert.MixRefIdeal.nD Cert.MixRefIdeal.τ Cert.MixRefIdeal.sig) → Buf (Elt Ideal) ℓ) (c : Dev Cert.MixIdeal.nD)
    (H : Reals (aG1 m c) (aW m c) (aWG m c))
    (h0 : m' ((c.tc : Thread Cert.MixRefIdeal.nD Cert.MixRefIdeal.τ).loc Cert.MixRefIdeal.main_arg0) = aX m c)
    (h1 : m' ((c.tc : Thread Cert.MixRefIdeal.nD Cert.MixRefIdeal.τ).loc Cert.MixRefIdeal.main_arg1) = aG1 m c)
    (h2 : m' ((c.tc : Thread Cert.MixRefIdeal.nD Cert.MixRefIdeal.τ).loc Cert.MixRefIdeal.main_arg2) = aW m c)
    (h3 : m' ((c.tc : Thread Cert.MixRefIdeal.nD Cert.MixRefIdeal.τ).loc Cert.MixRefIdeal.main_arg3) = aWP m c)
    (h4 : m' ((c.tc : Thread Cert.MixRefIdeal.nD Cert.MixRefIdeal.τ).loc Cert.MixRefIdeal.main_arg4) = aPS m c)
    (h5 : m' ((c.tc : Thread Cert.MixRefIdeal.nD Cert.MixRefIdeal.τ).loc Cert.MixRefIdeal.main_arg5) = aWG m c)
    (h6 : m' ((c.tc : Thread Cert.MixRefIdeal.nD Cert.MixRefIdeal.τ).loc Cert.MixRefIdeal.main_arg6) = aBG m c)
    (h7 : m' ((c.tc : Thread Cert.MixRefIdeal.nD Cert.MixRefIdeal.τ).loc Cert.MixRefIdeal.main_arg7) = aGG m c)
    (h8 : m' ((c.tc : Thread Cert.MixRefIdeal.nD Cert.MixRefIdeal.τ).loc Cert.MixRefIdeal.main_arg8) = aWO m c)
    (h9 : m' ((c.tc : Thread Cert.MixRefIdeal.nD Cert.MixRefIdeal.τ).loc Cert.MixRefIdeal.main_arg9) = aG2 m c) :
    Cert.MixRefIdeal.Read.val_main_v198 (F := Ideal) (m' ((c.tc : Thread Cert.MixRefIdeal.nD Cert.MixRefIdeal.τ).loc Cert.MixRefIdeal.main_arg0))
      (m' ((c.tc : Thread Cert.MixRefIdeal.nD Cert.MixRefIdeal.τ).loc Cert.MixRefIdeal.main_arg1))
      (m' ((c.tc : Thread Cert.MixRefIdeal.nD Cert.MixRefIdeal.τ).loc Cert.MixRefIdeal.main_arg2))
      (m' ((c.tc : Thread Cert.MixRefIdeal.nD Cert.MixRefIdeal.τ).loc Cert.MixRefIdeal.main_arg3))
      (m' ((c.tc : Thread Cert.MixRefIdeal.nD Cert.MixRefIdeal.τ).loc Cert.MixRefIdeal.main_arg4))
      (m' ((c.tc : Thread Cert.MixRefIdeal.nD Cert.MixRefIdeal.τ).loc Cert.MixRefIdeal.main_arg5))
      (m' ((c.tc : Thread Cert.MixRefIdeal.nD Cert.MixRefIdeal.τ).loc Cert.MixRefIdeal.main_arg6))
      (m' ((c.tc : Thread Cert.MixRefIdeal.nD Cert.MixRefIdeal.τ).loc Cert.MixRefIdeal.main_arg7))
      (m' ((c.tc : Thread Cert.MixRefIdeal.nD Cert.MixRefIdeal.τ).loc Cert.MixRefIdeal.main_arg8))
      (m' ((c.tc : Thread Cert.MixRefIdeal.nD Cert.MixRefIdeal.τ).loc Cert.MixRefIdeal.main_arg9))
      = Cert.MixIdeal.Value.G10 m c := by
  funext i
  obtain ⟨b, s, d, rfl⟩ : ∃ (b : Fin 4) (s : Fin 4096) (d : Fin 1024), i = ix3 b s d := ⟨i 0, i 1, i 2, (ix3_eta i).symm⟩
  rw [G10_eq m c (seqs H), h0, h1, h2, h3, h4, h5, h6, h7, h8, h9]
  exact ref_out _ _ _ _ _ _ _ _ _ _ (seqs H) b s d

/-- The ideal mixer computes the reference's result. -/
theorem algebraic_mix : @Cert.algebraic_MixIdeal_MixRefIdeal_pre_finite_mixing Cert.MixIdeal.Gen.facts Cert.MixRefIdeal.Gen.facts Cert.Pre_finite_mixing.Gen.facts := by
  intro m g m' g' hp hag
  refine ⟨fun c => Cert.MixIdeal.Value.G10 m c, Cert.MixIdeal.Value.run (F := Ideal) m g, ?_⟩
  refine (θ_run Cert.MixRefIdeal.defs _ _).mono (fun r h c => ⟨(h c).1.trans ((Cert.MixRefIdeal.Read.val_main_v198_eq _).trans ?_), (h c).2⟩)
    (Cert.MixRefIdeal.Value.run (F := Ideal) m' g')
  obtain ⟨h0, h1, h2, h3, h4, h5, h6, h7, h8, h9⟩ := hag c
  exact mix_same m m' c (Cert.MixIdeal.Hand.reals_of_pre _ _ _ _ _ _ _ _ _ _ (hp c)) h0 h1 h2 h3 h4 h5 h6 h7 h8 h9

end Cert.Proof

end
-- ==== Proof.Ffn0Chunk.lean ====
/-
  v00's feed-forward kernel, chunk by chunk. It differs from v01's in two things: each chunk's activation is multiplied
  with its 256 rows of the down-projection at once and added to an accumulator, and the convolution's two carried rows
  are selected in the whole block. Every chunk is brought back to `actC`, `mulC`, `addC` and `tailC`.
-/
module

public import proofs.«01_k».proof.Defs
public import proofs.«01_k».proof.Proof.Gen.Ffn0Ideal.Skeleton
public import Idealize.ShloMosaic.Lib.Pointwise

@[expose] public section

noncomputable section

open Idealize.ShloMosaic Idealize.ShloMosaic.TcCoe

namespace Cert.Ffn0Ideal.Hand

open Cert.Ffn0Ideal Cert.Ffn0Ideal.Gen

variable {F : FTy → Type} [FloatOps F]

/-- The row numbers of a block. -/
abbrev rowI : IVec S512x256 32 := iota .tc S512x256 32 [0] iota_S512x256_d0_w32

/-- The last eight rows of a gate chunk: what the kernel carries to the next block of rows. -/
def tailC (h : FVec F S512x1024 .bf16) (w : Vec F S1024x256 .bf16) : FVec F S8x256 .f32 := k0_pay23 (k0_pay22 h w)

/-- One chunk of the activation: gate, value, convolution with the carried rows `prev`, gated product. -/
def actC (h : FVec F S512x1024 .bf16) (wg wv : Vec F S1024x256 .bf16) (prev : Vec F S8x256 .f32)
    (cw : Vec F S3x256 .f32) (cb : Vec F S1x256 .f32) : FVec F S512x256 .bf16 :=
  k0_pay24 rowI (k0_pay20 h wg) (k0_pay21 h wv) prev cw cb

/-- The product of an activation chunk with its rows of the down-projection. -/
def mulC (a : FVec F S512x256 .bf16) (wo : Vec F S256x1024 .bf16) : FVec F S512x1024 .f32 :=
  k0_pay12 (matmul dot_S512x256_S256x1024_S512x1024_1_0_0_1_n_n none a (shapeCast S256x1024 wo shapeCasts_S256x1024_S256x1024)
    (constant S512x1024 .f32 0x00000000#32))

/-- The accumulator after a chunk. -/
def addC (a : FVec F S512x256 .bf16) (wo : Vec F S256x1024 .bf16) (acc : Vec F S512x1024 .f32) : FVec F S512x1024 .f32 :=
  k0_pay25 a wo acc

section Chunks

variable (x0 : Vec F S1x512x1024 .f32) (x1 : Vec F S1x1024 .f32) (h : FVec F S512x1024 .bf16)
  (wg wv : Vec F S1024x256 .bf16) (prev : Vec F S8x256 .f32) (cw : Vec F S3x256 .f32) (cb : Vec F S1x256 .f32)
  (wo : Vec F S256x1024 .bf16) (acc : Vec F S512x1024 .f32)

/-- Chunk 0: the accumulator starts as the product. -/
theorem chunk0 : k0_pay12 (k0_pay11 rowI (k0_pay5 x0 x1 wg) (k0_pay6 x0 x1 wv) (k0_pay8 prev) (k0_pay9 prev) k0_pay10 cw cb wo) = mulC (actC (k0_pay4 x0 x1) wg wv prev cw cb) wo := rfl

/-- Chunk 1: its product is added to the accumulator. -/
theorem chunk1 : k0_pay19 (k0_pay13 h wg) (k0_pay14 h wv) cw (k0_pay17 h rowI wg prev cw) (k0_pay18 h rowI wg prev cw) cb wo acc = addC (actC h wg wv prev cw cb) wo acc := rfl

/-- Chunk 2: its product is added to the accumulator. -/
theorem chunk2 : k0_pay25 (k0_pay24 rowI (k0_pay20 h wg) (k0_pay21 h wv) prev cw cb) wo acc = addC (actC h wg wv prev cw cb) wo acc := rfl

/-- Chunk 3: its product is added to the accumulator. -/
theorem chunk3 : k0_pay34 (k0_pay26 h wg) (k0_pay27 h wv) (k0_pay30 h rowI wg prev) (k0_pay31 rowI) (k0_pay32 h rowI wg prev) (k0_pay33 prev) cw cb wo acc = addC (actC h wg wv prev cw cb) wo acc := rfl

/-- Chunk 4: its product is added to the accumulator. -/
theorem chunk4 : k0_pay41 (k0_pay37 h (k0_pay36 wv)) (k0_pay39 rowI (k0_pay35 h wg) prev cw cb) (k0_pay40 rowI (k0_pay35 h wg) prev cw cb) (FloatOps.ofBits FTy.f32 0x3F3504F3#32) wo acc = addC (actC h wg wv prev cw cb) wo acc := rfl

/-- Chunk 5: its product is added to the accumulator. -/
theorem chunk5 : k0_pay49 rowI (k0_pay42 h wg) (k0_pay43 h wv) (k0_pay45 prev) (k0_pay46 prev) (k0_pay47 h rowI wg prev) (k0_pay48 rowI) cw cb wo acc = addC (actC h wg wv prev cw cb) wo acc := rfl

/-- Chunk 6: its product is added to the accumulator. -/
theorem chunk6 : k0_pay54 (k0_pay51 h wv) (k0_pay53 h rowI wg prev cw) cb wo acc = addC (actC h wg wv prev cw cb) wo acc := rfl

/-- Chunk 7: its product is added to the accumulator. -/
theorem chunk7 : k0_pay61 (k0_pay60 rowI (k0_pay55 h wg) (k0_pay56 h wv) (k0_pay58 prev) (k0_pay59 prev) 0#32 cw cb wo) acc = addC (actC h wg wv prev cw cb) wo acc := rfl

/-- Chunk 8: its product is added to the accumulator. -/
theorem chunk8 : k0_pay69 (k0_pay62 h wg) (k0_pay63 h wv) (k0_pay66 h rowI wg prev) (k0_pay67 h rowI wg prev) cw (k0_pay68 cw) cb wo acc = addC (actC h wg wv prev cw cb) wo acc := rfl

/-- Chunk 9: its product is added to the accumulator. -/
theorem chunk9 : k0_pay77 (k0_pay71 h wv) (k0_pay74 rowI (k0_pay70 h wg) prev cw cb) (k0_pay75 rowI (k0_pay70 h wg) prev cw cb) (k0_pay76 (F := F)) wo acc = addC (actC h wg wv prev cw cb) wo acc := rfl

/-- Chunk 10: its product is added to the accumulator. -/
theorem chunk10 : k0_pay87 (k0_pay78 h wg) (k0_pay79 h wv) (k0_pay81 prev) (k0_pay82 prev) (k0_pay83 h rowI wg prev) (k0_pay84 rowI) (k0_pay85 rowI) (k0_pay86 h wg) cw cb wo acc = addC (actC h wg wv prev cw cb) wo acc := rfl

/-- The rows chunk 0 carries on. -/
theorem tail0 : k0_pay7 x0 x1 wg = tailC (k0_pay4 x0 x1) wg := rfl

/-- The rows chunk 1 carries on. -/
theorem tail1 : k0_pay15 h wg = tailC h wg := rfl

/-- The rows chunk 2 carries on. -/
theorem tail2 : k0_pay23 (k0_pay22 h wg) = tailC h wg := rfl

/-- The rows chunk 3 carries on. -/
theorem tail3 : k0_pay28 h wg = tailC h wg := rfl

/-- The rows chunk 4 carries on. -/
theorem tail4 : k0_pay38 (k0_pay35 h wg) = tailC h wg := rfl

/-- The rows chunk 5 carries on. -/
theorem tail5 : k0_pay44 h wg = tailC h wg := rfl

/-- The rows chunk 6 carries on. -/
theorem tail6 : k0_pay52 h wg = tailC h wg := rfl

/-- The rows chunk 7 carries on. -/
theorem tail7 : k0_pay57 h wg = tailC h wg := rfl

/-- The rows chunk 8 carries on. -/
theorem tail8 : k0_pay64 h wg = tailC h wg := rfl

/-- The rows chunk 9 carries on. -/
theorem tail9 : k0_pay72 (k0_pay70 h wg) = tailC h wg := rfl

/-- The rows chunk 10 carries on. -/
theorem tail10 : k0_pay80 h wg = tailC h wg := rfl

end Chunks

end Cert.Ffn0Ideal.Hand

end
-- ==== Proof.Ffn0Math.lean ====
/-
  v00's feed-forward chunk over the extended reals, element by element: the same formulas as v01's, with the accumulator's
  chunks as partial sums of the down-projection.
-/
module

public import proofs.«01_k».proof.Proof.Ffn0Chunk
public import proofs.«01_k».proof.Proof.FfnMath
public import Idealize.ShloMosaic.Lib.Pointwise

@[expose] public section

noncomputable section

open Idealize.ShloMosaic Idealize.ShloMosaic.TcCoe
open Idealize.ShloMosaic.Pointwise

namespace Cert.Ffn0Ideal.Hand

open Cert.Ffn0Ideal Cert.Ffn0Ideal.Gen
open Cert.FfnIdeal.Hand (rnorm glu conv3)

/-- The kernel's normalised block, at an entry. -/
theorem h_apply (x0 : Vec Ideal S1x512x1024 .f32) (x1 : Vec Ideal S1x1024 .f32) (r : Fin 512) (k : Fin 1024) :
    k0_pay4 x0 x1 (ix2 r k) = rnorm (fun k => x0 (ix3 0 r k)) (fun k => x1 (ix2 0 k)) k := by
  pointwise [k0_pay4, k0_pay3]
  rfl

/-- A gate chunk, at an entry. -/
theorem gate_apply (h : FVec Ideal S512x1024 .bf16) (w : Vec Ideal S1024x256 .bf16) (r : Fin 512) (q : Fin 256) :
    k0_pay20 h w (ix2 r q) = ∑ k : Fin 1024, h (ix2 r k) * w (ix2 k q) := by
  pointwise [k0_pay20]

/-- A value chunk, at an entry. -/
theorem val_apply (h : FVec Ideal S512x1024 .bf16) (w : Vec Ideal S1024x256 .bf16) (r : Fin 512) (q : Fin 256) :
    k0_pay21 h w (ix2 r q) = ∑ k : Fin 1024, h (ix2 r k) * w (ix2 k q) := by
  pointwise [k0_pay21]

/-- The carried rows of a chunk, at an entry. -/
theorem tailC_apply (h : FVec Ideal S512x1024 .bf16) (w : Vec Ideal S1024x256 .bf16) (r : Fin 8) (q : Fin 256) :
    tailC h w (ix2 r q) = ∑ k : Fin 1024, h (ix2 ⟨504 + r.val, by omega⟩ k) * w (ix2 k q) := by
  pointwise [tailC, k0_pay23, k0_pay22, k0_pay20]

/-- A select on a row number of the block. -/
theorem select_row {α : Type} (r c : ℕ) (hr : r < 512) (hc : c < 512) (a b : α) :
    Scalar.select (IntOp.cmpi CmpIPredicate.eq (BitVec.ofNat 32 r) (BitVec.ofNat 32 c)) a b = if r = c then a else b := by
  have e : BitVec.ofNat 32 r = BitVec.ofNat 32 c ↔ r = c := by
    rw [← BitVec.toNat_inj, BitVec.toNat_ofNat, BitVec.toNat_ofNat, Nat.mod_eq_of_lt (by omega), Nat.mod_eq_of_lt (by omega)]
  by_cases h : r = c
  · subst h
    simp [Scalar.select, IntOp.cmpi]
  · have h' : (BitVec.ofNat 32 r == BitVec.ofNat 32 c) = false := beq_eq_false_iff_ne.mpr (mt e.mp h)
    simp only [Scalar.select, IntOp.cmpi, h', if_neg h]
    rfl

set_option maxRecDepth 4000 in
/-- The activation chunk, at an entry: where `p` runs through the gate column's sequence, first the last two carried rows
    and then the block's own rows, row `r` takes the taps at `r`, `r + 1`, `r + 2`. -/
theorem actC_apply (h : FVec Ideal S512x1024 .bf16) (wg wv : Vec Ideal S1024x256 .bf16) (prev : Vec Ideal S8x256 .f32)
    (cw : Vec Ideal S3x256 .f32) (cb : Vec Ideal S1x256 .f32) (q : Fin 256) (p : ℕ → EReal)
    (h6 : prev (ix2 6 q) = p 0) (h7 : prev (ix2 7 q) = p 1)
    (hg : ∀ r : Fin 512, ∑ k : Fin 1024, h (ix2 r k) * wg (ix2 k q) = p (r.val + 2)) (r : Fin 512) :
    actC h wg wv prev cw cb (ix2 r q)
      = glu (conv3 p r.val (cw (ix2 0 q)) (cw (ix2 1 q)) (cw (ix2 2 q)) (cb (ix2 0 q)))
          (∑ k : Fin 1024, h (ix2 r k) * wv (ix2 k q)) := by
  have hg' : ∀ r : Fin 512, k0_pay20 h wg (ix2 r q) = p (r.val + 2) := fun r => (gate_apply h wg r q).trans (hg r)
  have hv' := val_apply h wv r q
  unfold actC
  revert hg' hv'
  generalize k0_pay20 h wg = g
  generalize k0_pay21 h wv = v
  intro hg' hv'
  rw [← hv']
  have hr := r.isLt
  have e2 : Scalar.select (IntOp.cmpi CmpIPredicate.eq (BitVec.ofNat 32 r.val) 0#32) (prev (ix2 6 q))
          (Scalar.select (IntOp.cmpi CmpIPredicate.eq (BitVec.ofNat 32 r.val) 1#32) (prev (ix2 7 q))
            (g (ix2 ⟨(r.val + 512 - 2) % 512, by omega⟩ q))) = p r.val := by
    rw [show (0#32) = BitVec.ofNat 32 0 from rfl, show (1#32) = BitVec.ofNat 32 1 from rfl, select_row _ _ hr (by omega),
      select_row _ _ hr (by omega), h6, h7, hg']
    split
    · rename_i e; rw [e]
    · split
      · rename_i e; rw [e]
      · congr 1; dsimp only; omega
  have e1 : Scalar.select (IntOp.cmpi CmpIPredicate.eq (BitVec.ofNat 32 r.val) 0#32) (prev (ix2 7 q))
            (g (ix2 ⟨(r.val + 512 - 1) % 512, by omega⟩ q)) = p (r.val + 1) := by
    rw [show (0#32) = BitVec.ofNat 32 0 from rfl, select_row _ _ hr (by omega), h7, hg']
    split
    · rename_i e; rw [e]
    · congr 1; dsimp only; omega
  pointwise [k0_pay24, rowI]
  rw [e2, e1, hg' r]
  rfl

/-- The first chunk's product, at an entry. -/
theorem mulC_apply (a : FVec Ideal S512x256 .bf16) (wo : Vec Ideal S256x1024 .bf16) (r : Fin 512) (d : Fin 1024) :
    mulC a wo (ix2 r d) = ∑ q : Fin 256, a (ix2 r q) * wo (ix2 q d) := by
  pointwise [mulC, k0_pay12]

/-- A later chunk's accumulator, at an entry. -/
theorem addC_apply (a : FVec Ideal S512x256 .bf16) (wo : Vec Ideal S256x1024 .bf16) (acc : Vec Ideal S512x1024 .f32)
    (r : Fin 512) (d : Fin 1024) :
    addC a wo acc (ix2 r d) = acc (ix2 r d) + ∑ q : Fin 256, a (ix2 r q) * wo (ix2 q d) := by
  pointwise [addC, k0_pay25]

/-- The output block, at an entry: the input row plus the normalised accumulator. -/
theorem out_apply (x0 : Vec Ideal S1x512x1024 .f32) (acc : Vec Ideal S512x1024 .f32) (x6 : Vec Ideal S1x1024 .f32)
    (r : Fin 512) (d : Fin 1024) :
    k0_pay1 (k0_pay3 x0) acc x6 (ix3 0 r d)
      = x0 (ix3 0 r d) + rnorm (fun d => acc (ix2 r d)) (fun d => x6 (ix2 0 d)) d := by
  pointwise [k0_pay1, k0_pay3]
  rfl

/-- The zero rows a batch starts from. -/
theorem zero_apply (i : Fin 8) (c : Fin 2816) : k0_pay2 (F := Ideal) (ix2 i c) = 0 := by
  pointwise [k0_pay2]

/-- A sum over the first `n` chunks of 256 columns and the next chunk's. -/
theorem sum_chunk (f : ℕ → EReal) (n m : ℕ) (hm : m = n + 256) :
    ∑ c ∈ Finset.range m, f c = ∑ c ∈ Finset.range n, f c + ∑ q : Fin 256, f (n + q.val) := by
  rw [hm, Finset.sum_range_add, Fin.sum_univ_eq_sum_range (fun q => f (n + q)) 256]

end Cert.Ffn0Ideal.Hand

end
-- ==== Proof.Ffn0Block.lean ====
/-
  One grid point of v00's feed-forward call: what its body leaves in the output block and in the eight carried rows. The
  accumulator is stored whole eleven times and read back whole each time, so after chunk `c` it is the sum over the first
  `256 (c + 1)` columns of the activation times the down-projection.
-/
module

public import proofs.«01_k».proof.Proof.Ffn0Math
public import proofs.«01_k».proof.Proof.FfnBlock
public import proofs.«01_k».proof.Proof.Gen.Ffn0Ideal.Frame
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

noncomputable section

open Idealize.ShloMosaic Idealize.ShloMosaic.TcCoe
open Idealize.ShloMosaic.Pointwise

namespace Cert.Ffn0Ideal.Hand

open Cert.Ffn0Ideal Cert.Ffn0Ideal.Gen
open Cert.FfnIdeal.Hand (glu conv3 hz2 hz3 canon_pieces canon_take)

section Values

variable (x0 : Vec Ideal S1x512x1024 .f32) (x1 : Vec Ideal S1x1024 .f32) (x2 : Vec Ideal S1024x5632 .bf16)
  (x3 : Vec Ideal S3x2816 .f32) (x4 : Vec Ideal S1x2816 .f32)

/-- The block's projection onto weight column `c`, at row `r`. -/
def upL (r : Fin 512) (c : Fin 5632) : EReal := ∑ k : Fin 1024, k0_pay4 x0 x1 (ix2 r k) * x2 (ix2 k c)

/-- The block's activation at row `r`, column `c`, for the gate sequence `p` of each column. -/
def actL (p : Fin 2816 → ℕ → EReal) (i : (⟨2, ![512, 2816]⟩ : Shape).Idx) : EReal :=
  glu (conv3 (p (i 1)) (i 0).val (x3 (ix2 0 (i 1))) (x3 (ix2 1 (i 1))) (x3 (ix2 2 (i 1))) (x4 (ix2 0 (i 1))))
    (upL x0 x1 x2 (i 0) ⟨2816 + (i 1).val, by have := (i 1).isLt; dsimp at this; omega⟩)

/-- The gate sequence of a block that starts with carried rows `xs`: the last two carried rows, then the block's. -/
structure Seq (xs : Vec Ideal S8x2816 .f32) (p : Fin 2816 → ℕ → EReal) : Prop where
  six : ∀ c, xs (ix2 6 c) = p c 0
  seven : ∀ c, xs (ix2 7 c) = p c 1
  rows : ∀ (c : Fin 2816) (r : Fin 512), upL x0 x1 x2 r ⟨c.val, by omega⟩ = p c (r.val + 2)

variable {x0 x1 x2}

/-- A read of 256 columns from column `off` on. -/
theorem ld_cols (M : ℕ) (k : Fin M) (q : Fin 256) (off N : ℕ) (hN : off + 256 ≤ N) (X : (⟨2, ![M, N]⟩ : Shape).Idx → EReal)
    (inb : ∀ a, (![0, off] : Fin 2 → ℕ) a + (![M, 256] : Fin 2 → ℕ) a ≤ (⟨2, ![M, N]⟩ : Shape).size a) :
    X ((Rect.unit (s := ⟨2, ![M, N]⟩) ![0, off] ![M, 256] inb).idx (ix2 k q)) = X (ix2 k ⟨off + q.val, by omega⟩) := by
  refine congrArg X (funext fun a => Fin.ext ?_)
  rw [Rect.idx_unit_val]
  match a with
  | ⟨0, _⟩ => show 0 + k.val = k.val; omega
  | ⟨1, _⟩ => rfl

/-- A read of 256 rows from row `off` on. -/
theorem ld_rows (q : Fin 256) (d : Fin 1024) (off : ℕ) (hN : off + 256 ≤ 2816) (X : (⟨2, ![2816, 1024]⟩ : Shape).Idx → EReal)
    (inb : ∀ a, (![off, 0] : Fin 2 → ℕ) a + (![256, 1024] : Fin 2 → ℕ) a ≤ (⟨2, ![2816, 1024]⟩ : Shape).size a) :
    X ((Rect.unit (s := ⟨2, ![2816, 1024]⟩) ![off, 0] ![256, 1024] inb).idx (ix2 q d)) = X (ix2 ⟨off + q.val, by omega⟩ d) := by
  refine congrArg X (funext fun a => Fin.ext ?_)
  rw [Rect.idx_unit_val]
  match a with
  | ⟨0, _⟩ => rfl
  | ⟨1, _⟩ => show 0 + d.val = d.val; omega

/-- Each chunk's activation, at an entry, is `actL` at its column. -/
theorem act_piece {xs : Vec Ideal S8x2816 .f32} {p : Fin 2816 → ℕ → EReal} (hp : Seq x0 x1 x2 xs p) (o o' : ℕ)
    (ho : o + 256 ≤ 2816) (ho' : o' = 2816 + o)
    (i1 : ∀ a, (![0, o] : Fin 2 → ℕ) a + S1024x256.size a ≤ S1024x5632.size a)
    (i2 : ∀ a, (![0, o'] : Fin 2 → ℕ) a + S1024x256.size a ≤ S1024x5632.size a)
    (i3 : ∀ a, (![0, o] : Fin 2 → ℕ) a + S8x256.size a ≤ S8x2816.size a)
    (i4 : ∀ a, (![0, o] : Fin 2 → ℕ) a + S3x256.size a ≤ S3x2816.size a)
    (i5 : ∀ a, (![0, o] : Fin 2 → ℕ) a + S1x256.size a ≤ S1x2816.size a) (r : Fin 512) (q : Fin 256) :
    actC (k0_pay4 x0 x1) (View.ld x2 (Rect.unit ![0, o] S1024x256.size i1)) (View.ld x2 (Rect.unit ![0, o'] S1024x256.size i2))
      (View.ld xs (Rect.unit ![0, o] S8x256.size i3)) (View.ld x3 (Rect.unit ![0, o] S3x256.size i4))
      (View.ld x4 (Rect.unit ![0, o] S1x256.size i5)) (ix2 r q)
      = actL x0 x1 x2 x3 x4 p (ix2 r (⟨o + q.val, by omega⟩ : Fin 2816)) := by
  subst ho'
  rw [actC_apply _ _ _ _ _ _ q (p ⟨o + q.val, by omega⟩)
    ((ld_cols 8 6 q o 2816 (by omega) xs i3).trans (hp.six _)) ((ld_cols 8 7 q o 2816 (by omega) xs i3).trans (hp.seven _))
    (fun r => (Finset.sum_congr rfl fun k _ => congrArg (k0_pay4 x0 x1 (ix2 r k) * ·) (ld_cols 1024 k q o 5632 (by omega) x2 i1)).trans
      (hp.rows ⟨o + q.val, by omega⟩ r)) r]
  unfold actL upL
  refine congr (congrArg glu ?_) (Finset.sum_congr rfl fun k _ => congrArg (k0_pay4 x0 x1 (ix2 r k) * ·)
    ((ld_cols 1024 k q (2816 + o) 5632 (by omega) x2 i2).trans (congrArg x2 ?_)))
  · exact congr (congr (congr (congrArg (conv3 _ _) (ld_cols 3 0 q o 2816 ho x3 i4)) (ld_cols 3 1 q o 2816 ho x3 i4)) (ld_cols 3 2 q o 2816 ho x3 i4))
      (ld_cols 1 0 q o 2816 ho x4 i5)
  · exact congrArg (ix2 k) (Fin.ext (Nat.add_assoc _ _ _))

/-- Column `c`'s term of the down-projection's sum. -/
def termL (x0 : Vec Ideal S1x512x1024 .f32) (x1 : Vec Ideal S1x1024 .f32) (x2 : Vec Ideal S1024x5632 .bf16)
    (x3 : Vec Ideal S3x2816 .f32) (x4 : Vec Ideal S1x2816 .f32) (x5 : Vec Ideal S2816x1024 .bf16)
    (p : Fin 2816 → ℕ → EReal) (r : Fin 512) (d : Fin 1024) (c : ℕ) : EReal :=
  if h : c < 2816 then actL x0 x1 x2 x3 x4 p (ix2 r ⟨c, h⟩) * x5 (ix2 ⟨c, h⟩ d) else 0

/-- The accumulator once the first `n` columns are in it. -/
def accL (x0 : Vec Ideal S1x512x1024 .f32) (x1 : Vec Ideal S1x1024 .f32) (x2 : Vec Ideal S1024x5632 .bf16)
    (x3 : Vec Ideal S3x2816 .f32) (x4 : Vec Ideal S1x2816 .f32) (x5 : Vec Ideal S2816x1024 .bf16)
    (p : Fin 2816 → ℕ → EReal) (n : ℕ) (i : S512x1024.Idx) : EReal :=
  ∑ c ∈ Finset.range n, termL x0 x1 x2 x3 x4 x5 p (i 0) (i 1) c

/-- With all the columns in it the accumulator is the whole sum. -/
theorem accL_all (x5 : Vec Ideal S2816x1024 .bf16) (p : Fin 2816 → ℕ → EReal) (r : Fin 512) (d : Fin 1024) :
    accL x0 x1 x2 x3 x4 x5 p 2816 (ix2 r d) = ∑ q : Fin 2816, actL x0 x1 x2 x3 x4 p (ix2 r q) * x5 (ix2 q d) :=
  (Fin.sum_univ_eq_sum_range (termL x0 x1 x2 x3 x4 x5 p r d) 2816).symm.trans
    (Finset.sum_congr rfl fun q _ => dif_pos q.isLt)

/-- One chunk's product, at an entry. -/
theorem chunk_sum {xs : Vec Ideal S8x2816 .f32} {p : Fin 2816 → ℕ → EReal} (x5 : Vec Ideal S2816x1024 .bf16)
    (hp : Seq x0 x1 x2 xs p) (o o' : ℕ) (ho : o + 256 ≤ 2816) (ho' : o' = 2816 + o)
    (i1 : ∀ a, (![0, o] : Fin 2 → ℕ) a + S1024x256.size a ≤ S1024x5632.size a)
    (i2 : ∀ a, (![0, o'] : Fin 2 → ℕ) a + S1024x256.size a ≤ S1024x5632.size a)
    (i3 : ∀ a, (![0, o] : Fin 2 → ℕ) a + S8x256.size a ≤ S8x2816.size a)
    (i4 : ∀ a, (![0, o] : Fin 2 → ℕ) a + S3x256.size a ≤ S3x2816.size a)
    (i5 : ∀ a, (![0, o] : Fin 2 → ℕ) a + S1x256.size a ≤ S1x2816.size a)
    (i6 : ∀ a, (![o, 0] : Fin 2 → ℕ) a + S256x1024.size a ≤ S2816x1024.size a) (r : Fin 512) (d : Fin 1024) :
    ∑ q : Fin 256, actC (k0_pay4 x0 x1) (View.ld x2 (Rect.unit ![0, o] S1024x256.size i1)) (View.ld x2 (Rect.unit ![0, o'] S1024x256.size i2))
      (View.ld xs (Rect.unit ![0, o] S8x256.size i3)) (View.ld x3 (Rect.unit ![0, o] S3x256.size i4))
      (View.ld x4 (Rect.unit ![0, o] S1x256.size i5)) (ix2 r q) * View.ld x5 (Rect.unit ![o, 0] S256x1024.size i6) (ix2 q d)
      = ∑ q : Fin 256, termL x0 x1 x2 x3 x4 x5 p r d (o + q.val) := by
  refine Finset.sum_congr rfl fun q _ => ?_
  rw [act_piece x3 x4 hp o o' ho ho' i1 i2 i3 i4 i5 r q]
  unfold termL
  have hq := q.isLt
  rw [dif_pos (by omega)]
  exact congrArg (actL x0 x1 x2 x3 x4 p (ix2 r (⟨o + q.val, by omega⟩ : Fin 2816)) * ·) (ld_rows q d o ho x5 i6)

/-- The first chunk's product is the accumulator of 256 columns. -/
theorem mul_step {xs : Vec Ideal S8x2816 .f32} {p : Fin 2816 → ℕ → EReal} (x5 : Vec Ideal S2816x1024 .bf16)
    (hp : Seq x0 x1 x2 xs p)
    (i1 : ∀ a, (![0, 0] : Fin 2 → ℕ) a + S1024x256.size a ≤ S1024x5632.size a)
    (i2 : ∀ a, (![0, 2816] : Fin 2 → ℕ) a + S1024x256.size a ≤ S1024x5632.size a)
    (i3 : ∀ a, (![0, 0] : Fin 2 → ℕ) a + S8x256.size a ≤ S8x2816.size a)
    (i4 : ∀ a, (![0, 0] : Fin 2 → ℕ) a + S3x256.size a ≤ S3x2816.size a)
    (i5 : ∀ a, (![0, 0] : Fin 2 → ℕ) a + S1x256.size a ≤ S1x2816.size a)
    (i6 : ∀ a, (![0, 0] : Fin 2 → ℕ) a + S256x1024.size a ≤ S2816x1024.size a) :
    mulC (actC (k0_pay4 x0 x1) (View.ld x2 (Rect.unit ![0, 0] S1024x256.size i1)) (View.ld x2 (Rect.unit ![0, 2816] S1024x256.size i2))
      (View.ld xs (Rect.unit ![0, 0] S8x256.size i3)) (View.ld x3 (Rect.unit ![0, 0] S3x256.size i4))
      (View.ld x4 (Rect.unit ![0, 0] S1x256.size i5))) (View.ld x5 (Rect.unit ![0, 0] S256x1024.size i6))
      = accL x0 x1 x2 x3 x4 x5 p 256 := by
  funext i
  obtain ⟨r, d, rfl⟩ : ∃ (r : Fin 512) (d : Fin 1024), i = ix2 r d := ⟨i 0, i 1, (ix2_eta i).symm⟩
  rw [mulC_apply, chunk_sum x3 x4 x5 hp 0 2816 (by norm_num) rfl]
  have e := sum_chunk (termL x0 x1 x2 x3 x4 x5 p r d) 0 256 (Nat.zero_add 256).symm
  rw [Finset.sum_range_zero, zero_add (∑ q : Fin 256, _)] at e
  unfold accL
  exact e.symm

/-- A later chunk takes the accumulator of `o` columns to that of `o + 256`. -/
theorem add_step {xs : Vec Ideal S8x2816 .f32} {p : Fin 2816 → ℕ → EReal} (x5 : Vec Ideal S2816x1024 .bf16)
    (hp : Seq x0 x1 x2 xs p) (o o' n : ℕ) (ho : o + 256 ≤ 2816) (ho' : o' = 2816 + o) (hn : n = o + 256)
    (i1 : ∀ a, (![0, o] : Fin 2 → ℕ) a + S1024x256.size a ≤ S1024x5632.size a)
    (i2 : ∀ a, (![0, o'] : Fin 2 → ℕ) a + S1024x256.size a ≤ S1024x5632.size a)
    (i3 : ∀ a, (![0, o] : Fin 2 → ℕ) a + S8x256.size a ≤ S8x2816.size a)
    (i4 : ∀ a, (![0, o] : Fin 2 → ℕ) a + S3x256.size a ≤ S3x2816.size a)
    (i5 : ∀ a, (![0, o] : Fin 2 → ℕ) a + S1x256.size a ≤ S1x2816.size a)
    (i6 : ∀ a, (![o, 0] : Fin 2 → ℕ) a + S256x1024.size a ≤ S2816x1024.size a) {acc : Vec Ideal S512x1024 .f32}
    (ha : acc = accL x0 x1 x2 x3 x4 x5 p o) :
    addC (actC (k0_pay4 x0 x1) (View.ld x2 (Rect.unit ![0, o] S1024x256.size i1)) (View.ld x2 (Rect.unit ![0, o'] S1024x256.size i2))
      (View.ld xs (Rect.unit ![0, o] S8x256.size i3)) (View.ld x3 (Rect.unit ![0, o] S3x256.size i4))
      (View.ld x4 (Rect.unit ![0, o] S1x256.size i5))) (View.ld x5 (Rect.unit ![o, 0] S256x1024.size i6)) acc
      = accL x0 x1 x2 x3 x4 x5 p n := by
  subst hn ha
  funext i
  obtain ⟨r, d, rfl⟩ : ∃ (r : Fin 512) (d : Fin 1024), i = ix2 r d := ⟨i 0, i 1, (ix2_eta i).symm⟩
  rw [addC_apply, chunk_sum x3 x4 x5 hp o o' ho ho']
  exact (sum_chunk (termL x0 x1 x2 x3 x4 x5 p r d) o _ rfl).symm

/-- The carried rows a block leaves: the last eight of its gate, so places 506 to 513 of the sequence. -/
def tailL (p : Fin 2816 → ℕ → EReal) (i : S8x2816.Idx) : EReal := p (i 1) (506 + (i 0).val)

/-- Each chunk's carried rows are a block of `tailL`. -/
theorem tail_piece {xs : Vec Ideal S8x2816 .f32} {p : Fin 2816 → ℕ → EReal} (hp : Seq x0 x1 x2 xs p) (o : ℕ)
    (ho : o + 256 ≤ 2816) (i1 : ∀ a, (![0, o] : Fin 2 → ℕ) a + S1024x256.size a ≤ S1024x5632.size a)
    (i3 : ∀ a, (![0, o] : Fin 2 → ℕ) a + S8x256.size a ≤ S8x2816.size a) (x : S8x256.Idx) :
    tailC (k0_pay4 x0 x1) (View.ld x2 (Rect.unit ![0, o] S1024x256.size i1)) x
      = tailL p ((Rect.unit (s := S8x2816) ![0, o] S8x256.size i3).emb x) := by
  obtain ⟨r, q, rfl⟩ : ∃ (r : Fin 8) (q : Fin 256), x = ix2 r q := ⟨x 0, x 1, (ix2_eta x).symm⟩
  have hq := q.isLt
  have hr := r.isLt
  have hemb : (Rect.unit (s := S8x2816) ![0, o] S8x256.size i3).emb (ix2 r q) = ix2 r ⟨o + q.val, by omega⟩ := by
    funext a
    refine Fin.ext ((Rect.idx_unit_val _ _ _ _ a).trans ?_)
    match a with
    | ⟨0, _⟩ => show 0 + r.val = r.val; omega
    | ⟨1, _⟩ => rfl
  rw [hemb, tailC_apply]
  have e := hp.rows ⟨o + q.val, by omega⟩ ⟨504 + r.val, by omega⟩
  show _ = p ⟨o + q.val, by omega⟩ (506 + r.val)
  rw [show 506 + r.val = 504 + r.val + 2 by omega]
  refine Eq.trans (Finset.sum_congr rfl fun k _ => congrArg (k0_pay4 x0 x1 (ix2 _ k) * ·) (congrArg x2 (funext fun a => Fin.ext ?_))) e
  rw [Rect.idx_unit_val]
  match a with
  | ⟨0, _⟩ => show 0 + k.val = k.val; omega
  | ⟨1, _⟩ => rfl

end Values

/-- Case B: the output block is the input block plus the normalised accumulator of all 2816 columns. -/
theorem out_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x2816 .f32) (harg10 : arg10.IsWhole) (arg11 : Memref sig .tc .vmem S512x1024 .f32) (harg11 : arg11.IsWhole) (hc0 : ¬cond0_0 i)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (x6 : Vec Ideal S1x1024 .f32) (xs0 : Vec Ideal S8x2816 .f32) (p : Fin 2816 → ℕ → EReal) (hp : Seq x0 x1 x2 xs0 p) :
    out0_B_7 c i arg2 harg2 arg3 harg3 arg4 harg4 arg5 harg5 arg6 harg6 arg7 harg7 arg8 harg8 arg9 harg9 arg10 harg10 arg11 harg11 hc0 x0 x1 x2 x3 x4 x5 x6 xs0 = k0_pay1 (k0_pay3 x0) (accL x0 x1 x2 x3 x4 x5 p 2816) x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0)]
  unfold kernelRun0_B
  dsimp only
  sl_unfold_words
  rw [View.canon_unit_zero (S := S1x512x1024) hz3]
  simp (disch := decide) only [↓ View.readCov_fill]
  simp only [View.readAt_eq_ld, View.ld_unit_zero (S := S512x1024) hz2, harg2.read_unread, harg3.read_unread, harg4.read_unread, harg5.read_unread, harg6.read_unread, harg7.read_unread, harg8.read_unread, harg10.read_unread, View.ld_unit_zero (S := S1x512x1024) hz3, View.ld_unit_zero (S := S1x1024) hz2]
  exact congrArg (fun a => k0_pay1 (k0_pay3 x0) a x6) ((chunk10 _ _ _ _ _ _ _ _).trans (add_step x3 x4 x5 hp 2560 5376 2816 (by norm_num) rfl rfl _ _ _ _ _ _ ((chunk9 _ _ _ _ _ _ _ _).trans (add_step x3 x4 x5 hp 2304 5120 2560 (by norm_num) rfl rfl _ _ _ _ _ _ ((chunk8 _ _ _ _ _ _ _ _).trans (add_step x3 x4 x5 hp 2048 4864 2304 (by norm_num) rfl rfl _ _ _ _ _ _ ((chunk7 _ _ _ _ _ _ _ _).trans (add_step x3 x4 x5 hp 1792 4608 2048 (by norm_num) rfl rfl _ _ _ _ _ _ ((chunk6 _ _ _ _ _ _ _ _).trans (add_step x3 x4 x5 hp 1536 4352 1792 (by norm_num) rfl rfl _ _ _ _ _ _ ((chunk5 _ _ _ _ _ _ _ _).trans (add_step x3 x4 x5 hp 1280 4096 1536 (by norm_num) rfl rfl _ _ _ _ _ _ ((chunk4 _ _ _ _ _ _ _ _).trans (add_step x3 x4 x5 hp 1024 3840 1280 (by norm_num) rfl rfl _ _ _ _ _ _ ((chunk3 _ _ _ _ _ _ _ _).trans (add_step x3 x4 x5 hp 768 3584 1024 (by norm_num) rfl rfl _ _ _ _ _ _ ((chunk2 _ _ _ _ _ _ _ _).trans (add_step x3 x4 x5 hp 512 3328 768 (by norm_num) rfl rfl _ _ _ _ _ _ ((chunk1 _ _ _ _ _ _ _ _).trans (add_step x3 x4 x5 hp 256 3072 512 (by norm_num) rfl rfl _ _ _ _ _ _ ((chunk0 _ _ _ _ _ _ _ _).trans (mul_step x3 x4 x5 hp _ _ _ _ _ _))))))))))))))))))))))

/-- Case B: the carried rows it leaves. -/
theorem sout_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x2816 .f32) (harg10 : arg10.IsWhole) (arg11 : Memref sig .tc .vmem S512x1024 .f32) (harg11 : arg11.IsWhole) (hc0 : ¬cond0_0 i)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (x6 : Vec Ideal S1x1024 .f32) (xs0 : Vec Ideal S8x2816 .f32) (p : Fin 2816 → ℕ → EReal) (hp : Seq x0 x1 x2 xs0 p) :
    sout0_B_0 c i arg2 harg2 arg3 harg3 arg4 harg4 arg5 harg5 arg6 harg6 arg7 harg7 arg8 harg8 arg9 harg9 arg10 harg10 arg11 harg11 hc0 x0 x1 x2 x3 x4 x5 x6 xs0 = tailL p := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 x0 x1 x2 x3 x4 x5 x6 xs0)]
  have hcov := scover0_B_0 c i arg2 harg2 arg3 harg3 arg4 harg4 arg5 harg5 arg6 harg6 arg7 harg7 arg8 harg8 arg9 harg9 arg10 harg10 arg11 harg11 hc0 x0 x1 x2 x3 x4 x5 x6 xs0
  revert hcov
  unfold kernelRun0_B
  dsimp only
  sl_unfold_words
  simp only [View.readAt_eq_ld, harg2.read_unread, harg3.read_unread, harg4.read_unread, View.ld_unit_zero (S := S1x512x1024) hz3, View.ld_unit_zero (S := S1x1024) hz2]
  intro hcov
  funext j
  refine canon_pieces (tailL p) _ ?_ _ (hcov j)
  simp only [View.PiecesOf, and_true]
  exact ⟨fun x => (congrFun (tail10 _ _) x).trans (tail_piece hp 2560 (by norm_num) _ _ x), fun x => (congrFun (tail9 _ _) x).trans (tail_piece hp 2304 (by norm_num) _ _ x), fun x => (congrFun (tail8 _ _) x).trans (tail_piece hp 2048 (by norm_num) _ _ x), fun x => (congrFun (tail7 _ _) x).trans (tail_piece hp 1792 (by norm_num) _ _ x), fun x => (congrFun (tail6 _ _) x).trans (tail_piece hp 1536 (by norm_num) _ _ x), fun x => (congrFun (tail5 _ _) x).trans (tail_piece hp 1280 (by norm_num) _ _ x), fun x => (congrFun (tail4 _ _) x).trans (tail_piece hp 1024 (by norm_num) _ _ x), fun x => (congrFun (tail3 _ _) x).trans (tail_piece hp 768 (by norm_num) _ _ x), fun x => (congrFun (tail2 _ _) x).trans (tail_piece hp 512 (by norm_num) _ _ x), fun x => (congrFun (tail1 _ _) x).trans (tail_piece hp 256 (by norm_num) _ _ x), fun x => (congrFun (tail0 _ _ _) x).trans (tail_piece hp 0 (by norm_num) _ _ x)⟩

/-- Case A: the output block is the input block plus the normalised accumulator of all 2816 columns. -/
theorem out_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x2816 .f32) (harg10 : arg10.IsWhole) (arg11 : Memref sig .tc .vmem S512x1024 .f32) (harg11 : arg11.IsWhole) (hc0 : cond0_0 i)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (x6 : Vec Ideal S1x1024 .f32) (p : Fin 2816 → ℕ → EReal) (hp : Seq x0 x1 x2 (k0_pay2 (F := Ideal)) p) :
    out0_A_7 c i arg2 harg2 arg3 harg3 arg4 harg4 arg5 harg5 arg6 harg6 arg7 harg7 arg8 harg8 arg9 harg9 arg10 harg10 arg11 harg11 hc0 x0 x1 x2 x3 x4 x5 x6 = k0_pay1 (k0_pay3 x0) (accL x0 x1 x2 x3 x4 x5 p 2816) x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero (S := S1x512x1024) hz3]
  simp (disch := decide) only [↓ View.readCov_skip, ↓ View.readCov_fill]
  simp only [View.readAt_eq_ld, View.ld_unit_zero (S := S512x1024) hz2, harg2.read_unread, harg3.read_unread, harg4.read_unread, harg5.read_unread, harg6.read_unread, harg7.read_unread, harg8.read_unread, View.ld_unit_zero (S := S1x512x1024) hz3, View.ld_unit_zero (S := S1x1024) hz2]
  exact congrArg (fun a => k0_pay1 (k0_pay3 x0) a x6) ((chunk10 _ _ _ _ _ _ _ _).trans (add_step x3 x4 x5 hp 2560 5376 2816 (by norm_num) rfl rfl _ _ _ _ _ _ ((chunk9 _ _ _ _ _ _ _ _).trans (add_step x3 x4 x5 hp 2304 5120 2560 (by norm_num) rfl rfl _ _ _ _ _ _ ((chunk8 _ _ _ _ _ _ _ _).trans (add_step x3 x4 x5 hp 2048 4864 2304 (by norm_num) rfl rfl _ _ _ _ _ _ ((chunk7 _ _ _ _ _ _ _ _).trans (add_step x3 x4 x5 hp 1792 4608 2048 (by norm_num) rfl rfl _ _ _ _ _ _ ((chunk6 _ _ _ _ _ _ _ _).trans (add_step x3 x4 x5 hp 1536 4352 1792 (by norm_num) rfl rfl _ _ _ _ _ _ ((chunk5 _ _ _ _ _ _ _ _).trans (add_step x3 x4 x5 hp 1280 4096 1536 (by norm_num) rfl rfl _ _ _ _ _ _ ((chunk4 _ _ _ _ _ _ _ _).trans (add_step x3 x4 x5 hp 1024 3840 1280 (by norm_num) rfl rfl _ _ _ _ _ _ ((chunk3 _ _ _ _ _ _ _ _).trans (add_step x3 x4 x5 hp 768 3584 1024 (by norm_num) rfl rfl _ _ _ _ _ _ ((chunk2 _ _ _ _ _ _ _ _).trans (add_step x3 x4 x5 hp 512 3328 768 (by norm_num) rfl rfl _ _ _ _ _ _ ((chunk1 _ _ _ _ _ _ _ _).trans (add_step x3 x4 x5 hp 256 3072 512 (by norm_num) rfl rfl _ _ _ _ _ _ ((chunk0 _ _ _ _ _ _ _ _).trans (mul_step x3 x4 x5 hp _ _ _ _ _ _))))))))))))))))))))))

/-- Case A: the carried rows it leaves. -/
theorem sout_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S8x2816 .f32) (harg10 : arg10.IsWhole) (arg11 : Memref sig .tc .vmem S512x1024 .f32) (harg11 : arg11.IsWhole) (hc0 : cond0_0 i)
    (x0 : Vec Ideal S1x512x1024 .f32) (x1 : Vec Ideal S1x1024 .f32) (x2 : Vec Ideal S1024x5632 .bf16) (x3 : Vec Ideal S3x2816 .f32) (x4 : Vec Ideal S1x2816 .f32) (x5 : Vec Ideal S2816x1024 .bf16) (x6 : Vec Ideal S1x1024 .f32) (p : Fin 2816 → ℕ → EReal) (hp : Seq x0 x1 x2 (k0_pay2 (F := Ideal)) p) :
    sout0_A_0 c i arg2 harg2 arg3 harg3 arg4 harg4 arg5 harg5 arg6 harg6 arg7 harg7 arg8 harg8 arg9 harg9 arg10 harg10 arg11 harg11 hc0 x0 x1 x2 x3 x4 x5 x6 = tailL p := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  have hcov := scover0_A_0 c i arg2 harg2 arg3 harg3 arg4 harg4 arg5 harg5 arg6 harg6 arg7 harg7 arg8 harg8 arg9 harg9 arg10 harg10 arg11 harg11 hc0 x0 x1 x2 x3 x4 x5 x6
  revert hcov
  unfold kernelRun0_A
  dsimp only
  sl_unfold_words
  simp only [View.readAt_eq_ld, harg2.read_unread, harg3.read_unread, harg4.read_unread, View.ld_unit_zero (S := S1x512x1024) hz3, View.ld_unit_zero (S := S1x1024) hz2]
  intro hcov
  funext j
  refine canon_take (s := S8x2816) (e := .f32) (tailL p) 11 _ ?_ _ ?_
  · simp only [List.take_succ_cons, List.take_zero, View.PiecesOf, and_true]
    exact ⟨fun x => (congrFun (tail10 _ _) x).trans (tail_piece hp 2560 (by norm_num) _ _ x), fun x => (congrFun (tail9 _ _) x).trans (tail_piece hp 2304 (by norm_num) _ _ x), fun x => (congrFun (tail8 _ _) x).trans (tail_piece hp 2048 (by norm_num) _ _ x), fun x => (congrFun (tail7 _ _) x).trans (tail_piece hp 1792 (by norm_num) _ _ x), fun x => (congrFun (tail6 _ _) x).trans (tail_piece hp 1536 (by norm_num) _ _ x), fun x => (congrFun (tail5 _ _) x).trans (tail_piece hp 1280 (by norm_num) _ _ x), fun x => (congrFun (tail4 _ _) x).trans (tail_piece hp 1024 (by norm_num) _ _ x), fun x => (congrFun (tail3 _ _) x).trans (tail_piece hp 768 (by norm_num) _ _ x), fun x => (congrFun (tail2 _ _) x).trans (tail_piece hp 512 (by norm_num) _ _ x), fun x => (congrFun (tail1 _ _) x).trans (tail_piece hp 256 (by norm_num) _ _ x), fun x => (congrFun (tail0 _ _ _) x).trans (tail_piece hp 0 (by norm_num) _ _ x)⟩
  · simp only [List.take_succ_cons, List.take_zero]
    exact View.cover_of_tiledL _ ![8, 256] (by sl_kernel_rfl) _

end Cert.Ffn0Ideal.Hand

end
-- ==== Proof.Ffn0Value.lean ====
/-
  v00's feed-forward call's run, read as the same formula of `FfnSpec`: what each window stages, what every grid point
  leaves by induction over the points of a batch, and the array the run ends with.
-/
module

public import proofs.«01_k».proof.Defs
public import proofs.«01_k».proof.Proof.Ffn0Block
public import proofs.«01_k».proof.Proof.FfnSpec
public import proofs.«01_k».proof.Proof.Gen.Ffn0Ideal.Frame
public import proofs.«01_k».proof.Proof.Gen.Ffn0Ideal.Value
public import Idealize.ShloMosaic.Lib.StableHlo.Run
public import Idealize.ShloMosaic.Lib.Tactic

@[expose] public section

noncomputable section

open Idealize.ShloMosaic Idealize.ShloMosaic.TcCoe Idealize.SL.Sem
open Idealize.ShloMosaic.Pointwise

namespace Cert.Ffn0Ideal.Hand

open Cert.Ffn0Ideal Cert.Ffn0Ideal.Gen
open Cert.FfnIdeal.Hand (rnorm glu conv3 hS upS seqS actS outS)

variable (m : (ℓ : Loc nD τ sig) → Buf (Elt Ideal) ℓ)

/-- The arguments a core is launched with. -/
abbrev aX (c : Dev nD) : (⟨3, ![4, 4096, 1024]⟩ : Shape).Idx → EReal := m ((c : Thread nD τ).loc main_arg0)
abbrev aG1 (c : Dev nD) : (⟨1, ![1024]⟩ : Shape).Idx → EReal := m ((c : Thread nD τ).loc main_arg1)
abbrev aW (c : Dev nD) : (⟨2, ![1024, 5632]⟩ : Shape).Idx → EReal := m ((c : Thread nD τ).loc main_arg2)
abbrev aCW (c : Dev nD) : (⟨2, ![3, 2816]⟩ : Shape).Idx → EReal := m ((c : Thread nD τ).loc main_arg3)
abbrev aCB (c : Dev nD) : (⟨1, ![2816]⟩ : Shape).Idx → EReal := m ((c : Thread nD τ).loc main_arg4)
abbrev aWO (c : Dev nD) : (⟨2, ![2816, 1024]⟩ : Shape).Idx → EReal := m ((c : Thread nD τ).loc main_arg5)
abbrev aG2 (c : Dev nD) : (⟨1, ![1024]⟩ : Shape).Idx → EReal := m ((c : Thread nD τ).loc main_arg6)

/-! ## What the host lines before the call leave -/

set_option maxRecDepth 16384 in
theorem host_v0 (c : Dev nD) (k : Fin 1024) : (V m c main_v0 : Vec Ideal S1x1024 .f32) (ix2 0 k) = aG1 m c (ix1 k) := by
  have e : V m c main_v0 = shapeCast S1x1024 (m ((c : Thread nD τ).loc main_arg1)) shapeCasts_S1024_S1x1024 := by
    show StableHlo.after hostOps0 _ (Proc.devRef .tc main_v0) = _
    after_results
    rfl
  rw [e]
  pointwise []

set_option maxRecDepth 16384 in
theorem host_v1 (c : Dev nD) (k : Fin 1024) (q : Fin 5632) :
    (V m c main_v1 : Vec Ideal S1024x5632 .bf16) (ix2 k q) = aW m c (ix2 k q) := by
  have e : (V m c main_v1 : Vec Ideal S1024x5632 .bf16) = (truncf .bf16 (m ((c : Thread nD τ).loc main_arg2) : FVec Ideal S1024x5632 .f32) bitsLt_bf16_f32 : FVec Ideal S1024x5632 .bf16) := by
    show StableHlo.after hostOps0 _ (Proc.devRef .tc main_v1) = _
    after_results
  rw [e]
  pointwise []

set_option maxRecDepth 16384 in
theorem host_v2 (c : Dev nD) (k : Fin 2816) : (V m c main_v2 : Vec Ideal S1x2816 .f32) (ix2 0 k) = aCB m c (ix1 k) := by
  have e : V m c main_v2 = shapeCast S1x2816 (m ((c : Thread nD τ).loc main_arg4)) shapeCasts_S2816_S1x2816 := by
    show StableHlo.after hostOps0 _ (Proc.devRef .tc main_v2) = _
    after_results
    rfl
  rw [e]
  pointwise []

set_option maxRecDepth 16384 in
theorem host_v3 (c : Dev nD) (k : Fin 2816) (q : Fin 1024) :
    (V m c main_v3 : Vec Ideal S2816x1024 .bf16) (ix2 k q) = aWO m c (ix2 k q) := by
  have e : (V m c main_v3 : Vec Ideal S2816x1024 .bf16) = (truncf .bf16 (m ((c : Thread nD τ).loc main_arg5) : FVec Ideal S2816x1024 .f32) bitsLt_bf16_f32 : FVec Ideal S2816x1024 .bf16) := by
    show StableHlo.after hostOps0 _ (Proc.devRef .tc main_v3) = _
    after_results
  rw [e]
  pointwise []

set_option maxRecDepth 16384 in
theorem host_v4 (c : Dev nD) (k : Fin 1024) : (V m c main_v4 : Vec Ideal S1x1024 .f32) (ix2 0 k) = aG2 m c (ix1 k) := by
  have e : V m c main_v4 = shapeCast S1x1024 (m ((c : Thread nD τ).loc main_arg6)) shapeCasts_S1024_S1x1024 := by
    show StableHlo.after hostOps0 _ (Proc.devRef .tc main_v4) = _
    after_results
    rfl
  rw [e]
  pointwise []

/-! ## What the windows stage -/

theorem idx_x : ∀ t : Fin cfg0.N, win0_0.index t 0 = t.val / 8 ∧ win0_0.index t 1 = t.val % 8 ∧ win0_0.index t 2 = 0 :=
  (by decide +kernel : ∀ t : Fin grid0.N, _)

theorem idx_const : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) :=
  (by decide +kernel : ∀ t : Fin grid0.N, _)

theorem tlt (t : Fin cfg0.N) : t.val < 32 := lt_of_lt_of_eq t.isLt N_0

/-- The batch and the place of a block's row in its sequence. -/
def bat (t : Fin cfg0.N) : Fin 4 := ⟨t.val / 8, by have := tlt t; omega⟩
def row (t : Fin cfg0.N) (r : Fin 512) : Fin 4096 := ⟨512 * (t.val % 8) + r.val, by omega⟩

theorem blk_x (c : Dev nD) (t : Fin cfg0.N) (r : Fin 512) (k : Fin 1024) :
    (iblk m c 0 t : Vec Ideal S1x512x1024 .f32) (ix3 0 r k) = aX m c (ix3 (bat t) (row t r) k) := by
  unfold iblk
  rw [View.read_apply]
  show V m c main_arg0 _ = _
  rw [V_main_arg0]
  refine congrArg (aX m c) (funext fun a => Fin.ext ?_)
  match a with
  | ⟨0, _⟩ => show win0_0.index t 0 * 1 + 1 * 0 = t.val / 8; rw [(idx_x t).1]; omega
  | ⟨1, _⟩ => show win0_0.index t 1 * 512 + 1 * r.val = 512 * (t.val % 8) + r.val; rw [(idx_x t).2.1]; omega
  | ⟨2, _⟩ => show win0_0.index t 2 * 1024 + 1 * k.val = k.val; rw [(idx_x t).2.2]; omega

theorem blk_g1 (c : Dev nD) (t : Fin cfg0.N) (k : Fin 1024) :
    (iblk m c 1 t : Vec Ideal S1x1024 .f32) (ix2 0 k) = aG1 m c (ix1 k) := by
  rw [← host_v0]
  unfold iblk
  rw [View.read_apply]
  show V m c main_v0 _ = V m c main_v0 _
  refine congrArg (V m c main_v0) (funext fun a => Fin.ext ?_)
  match a with
  | ⟨0, _⟩ => show win0_1.index t 0 * 1 + 1 * 0 = 0; rw [(idx_const t).1.1]
  | ⟨1, _⟩ => show win0_1.index t 1 * 1024 + 1 * k.val = k.val; rw [(idx_const t).1.2]; omega

theorem blk_w (c : Dev nD) (t : Fin cfg0.N) (k : Fin 1024) (q : Fin 5632) :
    (iblk m c 2 t : Vec Ideal S1024x5632 .bf16) (ix2 k q) = aW m c (ix2 k q) := by
  rw [← host_v1]
  unfold iblk
  rw [View.read_apply]
  show V m c main_v1 _ = V m c main_v1 _
  refine congrArg (V m c main_v1) (funext fun a => Fin.ext ?_)
  match a with
  | ⟨0, _⟩ => show win0_2.index t 0 * 1024 + 1 * k.val = k.val; rw [(idx_const t).2.1.1]; omega
  | ⟨1, _⟩ => show win0_2.index t 1 * 5632 + 1 * q.val = q.val; rw [(idx_const t).2.1.2]; omega

theorem blk_cw (c : Dev nD) (t : Fin cfg0.N) (k : Fin 3) (q : Fin 2816) :
    (iblk m c 3 t : Vec Ideal S3x2816 .f32) (ix2 k q) = aCW m c (ix2 k q) := by
  unfold iblk
  rw [View.read_apply]
  show V m c main_arg3 _ = _
  rw [V_main_arg3]
  refine congrArg (aCW m c) (funext fun a => Fin.ext ?_)
  match a with
  | ⟨0, _⟩ => show win0_3.index t 0 * 3 + 1 * k.val = k.val; rw [(idx_const t).2.2.1.1]; omega
  | ⟨1, _⟩ => show win0_3.index t 1 * 2816 + 1 * q.val = q.val; rw [(idx_const t).2.2.1.2]; omega

theorem blk_cb (c : Dev nD) (t : Fin cfg0.N) (k : Fin 2816) :
    (iblk m c 4 t : Vec Ideal S1x2816 .f32) (ix2 0 k) = aCB m c (ix1 k) := by
  rw [← host_v2]
  unfold iblk
  rw [View.read_apply]
  show V m c main_v2 _ = V m c main_v2 _
  refine congrArg (V m c main_v2) (funext fun a => Fin.ext ?_)
  match a with
  | ⟨0, _⟩ => show win0_4.index t 0 * 1 + 1 * 0 = 0; rw [(idx_const t).2.2.2.1.1]
  | ⟨1, _⟩ => show win0_4.index t 1 * 2816 + 1 * k.val = k.val; rw [(idx_const t).2.2.2.1.2]; omega

theorem blk_wo (c : Dev nD) (t : Fin cfg0.N) (k : Fin 2816) (q : Fin 1024) :
    (iblk m c 5 t : Vec Ideal S2816x1024 .bf16) (ix2 k q) = aWO m c (ix2 k q) := by
  rw [← host_v3]
  unfold iblk
  rw [View.read_apply]
  show V m c main_v3 _ = V m c main_v3 _
  refine congrArg (V m c main_v3) (funext fun a => Fin.ext ?_)
  match a with
  | ⟨0, _⟩ => show win0_5.index t 0 * 2816 + 1 * k.val = k.val; rw [(idx_const t).2.2.2.2.1.1]; omega
  | ⟨1, _⟩ => show win0_5.index t 1 * 1024 + 1 * q.val = q.val; rw [(idx_const t).2.2.2.2.1.2]; omega

theorem blk_g2 (c : Dev nD) (t : Fin cfg0.N) (k : Fin 1024) :
    (iblk m c 6 t : Vec Ideal S1x1024 .f32) (ix2 0 k) = aG2 m c (ix1 k) := by
  rw [← host_v4]
  unfold iblk
  rw [View.read_apply]
  show V m c main_v4 _ = V m c main_v4 _
  refine congrArg (V m c main_v4) (funext fun a => Fin.ext ?_)
  match a with
  | ⟨0, _⟩ => show win0_6.index t 0 * 1 + 1 * 0 = 0; rw [(idx_const t).2.2.2.2.2.1]
  | ⟨1, _⟩ => show win0_6.index t 1 * 1024 + 1 * k.val = k.val; rw [(idx_const t).2.2.2.2.2.2]; omega

/-! ## The points -/

/-- The gate sequence of the block at point `t`: its batch's sequence from the block's first place on. -/
def seqB (c : Dev nD) (t : Fin cfg0.N) (q : Fin 2816) (n : ℕ) : EReal :=
  seqS (aX m c) (aG1 m c) (aW m c) (bat t) q (512 * (t.val % 8) + n)

theorem up_blk (c : Dev nD) (t : Fin cfg0.N) (r : Fin 512) (q : Fin 5632) :
    upL (iblk m c 0 t) (iblk m c 1 t) (iblk m c 2 t) r q = upS (aX m c) (aG1 m c) (aW m c) (bat t) (row t r) q := by
  unfold upL upS hS
  refine Finset.sum_congr rfl fun k _ => ?_
  rw [h_apply, blk_w]
  simp only [blk_x, blk_g1]

theorem rows_blk (c : Dev nD) (t : Fin cfg0.N) (q : Fin 2816) (r : Fin 512) :
    upL (iblk m c 0 t) (iblk m c 1 t) (iblk m c 2 t) r ⟨q.val, by omega⟩ = seqB m c t q (r.val + 2) := by
  have ht := tlt t
  rw [up_blk]
  unfold seqB seqS
  rw [dif_pos ⟨by omega, by omega⟩]
  exact congrArg (fun s => upS (aX m c) (aG1 m c) (aW m c) (bat t) s _) (Fin.ext (by show _ = 512 * (t.val % 8) + (r.val + 2) - 2; unfold row; dsimp only; omega))

/-- The first block of a batch: nothing before it. -/
theorem seq_first (c : Dev nD) (t : Fin cfg0.N) (h0 : t.val % 8 = 0) :
    Seq (iblk m c 0 t) (iblk m c 1 t) (iblk m c 2 t) (k0_pay2 (F := Ideal)) (seqB m c t) where
  six q := by rw [zero_apply]; unfold seqB seqS; rw [dif_neg (by omega)]
  seven q := by rw [zero_apply]; unfold seqB seqS; rw [dif_neg (by omega)]
  rows q r := rows_blk m c t q r

theorem tailL_apply (p : Fin 2816 → ℕ → EReal) (r : Fin 8) (q : Fin 2816) : tailL p (ix2 r q) = p q (506 + r.val) := rfl

/-- A later block: the carried rows are the last rows of the block before. -/
theorem seq_next (c : Dev nD) (t t' : Fin cfg0.N) (h0 : ¬ t.val % 8 = 0) (ht : t'.val = t.val - 1) :
    Seq (iblk m c 0 t) (iblk m c 1 t) (iblk m c 2 t) (tailL (seqB m c t')) (seqB m c t) where
  six q := by
    have hb : bat t' = bat t := Fin.ext (by show t'.val / 8 = t.val / 8; omega)
    have hn : 512 * (t'.val % 8) + (506 + (6 : Fin 8).val) = 512 * (t.val % 8) + 0 := by
      have : (6 : Fin 8).val = 6 := rfl
      omega
    rw [tailL_apply]
    unfold seqB
    rw [hb, hn]
  seven q := by
    have hb : bat t' = bat t := Fin.ext (by show t'.val / 8 = t.val / 8; omega)
    have hn : 512 * (t'.val % 8) + (506 + (7 : Fin 8).val) = 512 * (t.val % 8) + 1 := by
      have : (7 : Fin 8).val = 7 := rfl
      omega
    rw [tailL_apply]
    unfold seqB
    rw [hb, hn]
  rows q r := rows_blk m c t q r

/-- What a point's body leaves, as a function of the staged blocks and the block's gate sequence. -/
def ptOf (x0 : Vec Ideal S1x512x1024 .f32) (x1 : Vec Ideal S1x1024 .f32) (x2 : Vec Ideal S1024x5632 .bf16) (x3 : Vec Ideal S3x2816 .f32)
    (x4 : Vec Ideal S1x2816 .f32) (x5 : Vec Ideal S2816x1024 .bf16) (x6 : Vec Ideal S1x1024 .f32) (p : Fin 2816 → ℕ → EReal) :
    Vec Ideal S1x512x1024 .f32 × Vec Ideal S8x2816 .f32 :=
  (k0_pay1 (k0_pay3 x0) (accL x0 x1 x2 x3 x4 x5 p 2816) x6, tailL p)

set_option maxRecDepth 16384 in
set_option maxHeartbeats 2000000 in
theorem point_A (c : Dev nD) (t : Fin cfg0.N) (h0 : t.val % 8 = 0) :
    outsAt0 m c t.val t.isLt = ptOf (iblk m c 0 t) (iblk m c 1 t) (iblk m c 2 t) (iblk m c 3 t) (iblk m c 4 t) (iblk m c 5 t) (iblk m c 6 t) (seqB m c t) := by
  have hs := seq_first m c t h0
  rw [outsAt0_A m c t h0, out_A (p := seqB m c t) (hp := hs), sout_A (p := seqB m c t) (hp := hs)]
  rfl

set_option maxRecDepth 16384 in
set_option maxHeartbeats 2000000 in
theorem point_B (c : Dev nD) (t : Fin cfg0.N) (h0 : ¬ t.val % 8 = 0) (hl : t.val - 1 < cfg0.N)
    (e : (outsAt0 m c (t.val - 1) hl).2 = tailL (seqB m c ⟨t.val - 1, hl⟩)) :
    outsAt0 m c t.val t.isLt = ptOf (iblk m c 0 t) (iblk m c 1 t) (iblk m c 2 t) (iblk m c 3 t) (iblk m c 4 t) (iblk m c 5 t) (iblk m c 6 t) (seqB m c t) := by
  have hs := seq_next m c t ⟨t.val - 1, hl⟩ h0 rfl
  rw [← e] at hs
  rw [outsAt0_B m c t h0, out_B (p := seqB m c t) (hp := hs), sout_B (p := seqB m c t) (hp := hs)]
  rfl

/-- What a point leaves: its output block and the carried rows. -/
theorem point (c : Dev nD) : ∀ (n : ℕ) (t : Fin cfg0.N), t.val = n →
    outsAt0 m c t.val t.isLt = ptOf (iblk m c 0 t) (iblk m c 1 t) (iblk m c 2 t) (iblk m c 3 t) (iblk m c 4 t) (iblk m c 5 t) (iblk m c 6 t) (seqB m c t) := by
  intro n
  induction n using Nat.strong_induction_on with
  | _ n ih =>
    intro t hn
    by_cases h0 : t.val % 8 = 0
    · exact point_A m c t h0
    · exact point_B m c t h0 (by have := t.isLt; omega)
        (congrArg Prod.snd (ih (t.val - 1) (by omega) ⟨t.val - 1, by have := t.isLt; omega⟩ rfl))

/-- The output block of a point, at an entry: the formula at the row's place in the array. -/
theorem point_out (c : Dev nD) (t : Fin cfg0.N) (r : Fin 512) (d : Fin 1024) :
    (outsAt0 m c t.val t.isLt).1 (ix3 0 r d)
      = outS (aX m c) (aG1 m c) (aW m c) (aCW m c) (aCB m c) (aWO m c) (aG2 m c) (bat t) (row t r) d := by
  rw [point m c t.val t rfl]
  unfold ptOf
  dsimp only
  rw [out_apply, blk_x]
  unfold outS
  simp only [accL_all]
  simp only [blk_g2, blk_wo]
  refine congrArg (fun f => _ + rnorm f _ d) (funext fun d => Finset.sum_congr rfl fun q _ => congrArg (· * _) ?_)
  unfold actL actS
  show glu (conv3 (seqB m c t q) r.val ((iblk m c 3 t : Vec Ideal S3x2816 .f32) (ix2 0 q)) ((iblk m c 3 t : Vec Ideal S3x2816 .f32) (ix2 1 q))
    ((iblk m c 3 t : Vec Ideal S3x2816 .f32) (ix2 2 q)) ((iblk m c 4 t : Vec Ideal S1x2816 .f32) (ix2 0 q)))
    (upL (iblk m c 0 t) (iblk m c 1 t) (iblk m c 2 t) r ⟨2816 + q.val, _⟩) = _
  rw [up_blk, blk_cw, blk_cw, blk_cw, blk_cb]
  rfl

/-- The array the run ends with is the formula of the arguments. -/
theorem G7_eq (c : Dev nD) (b : Fin 4) (s : Fin 4096) (d : Fin 1024) :
    Value.G7 m c (ix3 b s d) = outS (aX m c) (aG1 m c) (aW m c) (aCW m c) (aCB m c) (aWO m c) (aG2 m c) b s d := by
  have hb := b.isLt
  have hs := s.isLt
  have hd := d.isLt
  have hp : Value.pt7Of (ix3 b s d) = 8 * b.val + s.val / 512 := by
    show 8 * (b.val / 1 - 0) + 1 * (s.val / 512 - 0) + 1 * (d.val / 1024 - 0) = _
    omega
  have hlt : Value.pt7Of (ix3 b s d) < cfg0.N := by rw [hp, show cfg0.N = 32 from N_0]; omega
  unfold Value.G7
  rw [dif_pos hlt, ← Value.outsAt0_sweep m c _ hlt]
  have hl : Value.loc7Of (ix3 b s d) = ix3 0 ⟨s.val % 512, by omega⟩ d := by
    funext a
    refine Fin.ext ?_
    match a with
    | ⟨0, _⟩ => show b.val % 1 = 0; omega
    | ⟨1, _⟩ => rfl
    | ⟨2, _⟩ => show d.val % 1024 = d.val; omega
  rw [hl]
  refine (point_out m c ⟨_, hlt⟩ ⟨s.val % 512, by omega⟩ d).trans ?_
  have e1 : bat ⟨Value.pt7Of (ix3 b s d), hlt⟩ = b := Fin.ext (by show Value.pt7Of (ix3 b s d) / 8 = b.val; rw [hp]; omega)
  have e2 : row ⟨Value.pt7Of (ix3 b s d), hlt⟩ ⟨s.val % 512, by omega⟩ = s :=
    Fin.ext (by show 512 * (Value.pt7Of (ix3 b s d) % 8) + s.val % 512 = s.val; rw [hp]; omega)
  rw [e1, e2]

end Cert.Ffn0Ideal.Hand

end
-- ==== Proof.Ffn0Claim.lean ====
/-
  The claims of v00's v00 feed-forward call: the frames of the compiled program and of its ideal reading, and that the ideal
  kernel and the reference end with the same array.
-/
module

public import proofs.«01_k».proof.Defs
public import proofs.«01_k».proof.Proof.Gen.Ffn0
public import proofs.«01_k».proof.Proof.Gen.FfnRefIdeal
public import proofs.«01_k».proof.Proof.Ffn0Value

@[expose] public section

noncomputable section

namespace Cert.Proof

open Idealize.ShloMosaic Idealize.ShloMosaic.TcCoe Idealize.SL.Sem
open Idealize.ShloMosaic.Pointwise

/-- The two programs' kernel bodies are the same. -/
theorem ffn0_body_same : @Cert.Ffn0.cc0_conv_glu_ffn Bits _ Cert.Ffn0.Gen.facts = @Cert.Ffn0Ideal.cc0_conv_glu_ffn Bits _ Cert.Ffn0Ideal.Gen.facts := rfl

set_option maxHeartbeats 2000000 in
/-- The two programs' body tables are the same. -/
theorem ffn0_bodies_same : @Cert.Ffn0.defs₀ Bits _ Cert.Ffn0.Gen.facts = @Cert.Ffn0Ideal.defs₀ Bits _ Cert.Ffn0Ideal.Gen.facts := by
  unfold Cert.Ffn0.defs₀ Cert.Ffn0Ideal.defs₀
  refine congrArg Defs.onTc ?_
  funext ℓ
  obtain ⟨k, hk⟩ := ℓ
  obtain rfl : k = 0 := by have : k < 1 := hk; omega
  funext a
  obtain ⟨t, s⟩ := a
  dsimp only
  rw [ffn0_body_same]
  rfl

/-- The compiled v00 feed-forward call's frame: the run at the bit interpretation. -/
theorem frame_ffn0 : @Cert.quiescent_Ffn0 Cert.Ffn0.Gen.facts := fun m ρ _ => by
  unfold Cert.Ffn0.defs
  rw [ffn0_bodies_same]
  exact Cert.Ffn0Ideal.Gen.frame (F := Bits) m ρ

/-- The ideal v00 feed-forward call's frame: the same run over the extended reals. -/
theorem frame_ffn0Ideal : @Cert.quiescent_Ffn0Ideal Cert.Ffn0Ideal.Gen.facts := fun m ρ _ =>
  Cert.Ffn0Ideal.Gen.frame (F := Ideal) m ρ

open Cert.Ffn0Ideal.Hand in
/-- From the same arguments the ideal kernel's array is the reference's result. -/
theorem ffn0_same (m : (ℓ : Loc Cert.Ffn0Ideal.nD Cert.Ffn0Ideal.τ Cert.Ffn0Ideal.sig) → Buf (Elt Ideal) ℓ)
    (m' : (ℓ : Loc Cert.FfnRefIdeal.nD Cert.FfnRefIdeal.τ Cert.FfnRefIdeal.sig) → Buf (Elt Ideal) ℓ) (c : Dev Cert.Ffn0Ideal.nD)
    (h0 : m' ((c.tc : Thread Cert.FfnRefIdeal.nD Cert.FfnRefIdeal.τ).loc Cert.FfnRefIdeal.main_arg0) = aX m c)
    (h1 : m' ((c.tc : Thread Cert.FfnRefIdeal.nD Cert.FfnRefIdeal.τ).loc Cert.FfnRefIdeal.main_arg1) = aG1 m c)
    (h2 : m' ((c.tc : Thread Cert.FfnRefIdeal.nD Cert.FfnRefIdeal.τ).loc Cert.FfnRefIdeal.main_arg2) = aW m c)
    (h3 : m' ((c.tc : Thread Cert.FfnRefIdeal.nD Cert.FfnRefIdeal.τ).loc Cert.FfnRefIdeal.main_arg3) = aCW m c)
    (h4 : m' ((c.tc : Thread Cert.FfnRefIdeal.nD Cert.FfnRefIdeal.τ).loc Cert.FfnRefIdeal.main_arg4) = aCB m c)
    (h5 : m' ((c.tc : Thread Cert.FfnRefIdeal.nD Cert.FfnRefIdeal.τ).loc Cert.FfnRefIdeal.main_arg5) = aWO m c)
    (h6 : m' ((c.tc : Thread Cert.FfnRefIdeal.nD Cert.FfnRefIdeal.τ).loc Cert.FfnRefIdeal.main_arg6) = aG2 m c) :
    Cert.FfnRefIdeal.Value.res_main_v63 m' c = Cert.Ffn0Ideal.Value.G7 m c := by
  rw [Cert.FfnRefIdeal.Read.val_main_v63_eq]
  funext i
  obtain ⟨b, s, d, rfl⟩ : ∃ (b : Fin 4) (s : Fin 4096) (d : Fin 1024), i = ix3 b s d := ⟨i 0, i 1, i 2, (ix3_eta i).symm⟩
  rw [G7_eq]
  refine (Cert.FfnIdeal.Hand.ref_out _ _ _ _ _ _ _ b s d).trans ?_
  rw [h0, h1, h2, h3, h4, h5, h6]

/-- The ideal v00 feed-forward call computes the reference's result. -/
theorem algebraic_ffn0 : @Cert.algebraic_Ffn0Ideal_FfnRefIdeal Cert.Ffn0Ideal.Gen.facts Cert.FfnRefIdeal.Gen.facts := by
  intro m g m' g' _ hag
  refine ⟨fun c => Cert.Ffn0Ideal.Value.G7 m c, Cert.Ffn0Ideal.Value.run (F := Ideal) m g, ?_⟩
  refine (θ_run Cert.FfnRefIdeal.defs _ _).mono (fun r h c => ⟨(h c).1.trans ?_, (h c).2⟩)
    (Cert.FfnRefIdeal.Value.run (F := Ideal) m' g')
  obtain ⟨h0, h1, h2, h3, h4, h5, h6⟩ := hag c
  exact ffn0_same m m' c h0 h1 h2 h3 h4 h5 h6

end Cert.Proof

end
-- ==== Proof.lean ====
module

public import proofs.«01_k».proof.Defs
public import proofs.«01_k».proof.Proof.Gen.Kernel
public import proofs.«01_k».proof.Proof.Gen.KernelIdeal
public import proofs.«01_k».proof.Proof.KFrame
public import proofs.«01_k».proof.Proof.FfnClaim
public import proofs.«01_k».proof.Proof.MixClaim
public import proofs.«01_k».proof.Proof.Ffn0Claim

@[expose] public section

noncomputable section

namespace Cert.Proof

open Idealize.ShloMosaic Idealize.SL.Sem

/-- The two programs' kernel bodies are the same. -/
theorem body_same : @Cert.Kernel.cc0_decoder_layer Bits _ Cert.Kernel.Gen.facts = @Cert.KernelIdeal.cc0_decoder_layer Bits _ Cert.KernelIdeal.Gen.facts := rfl

set_option maxHeartbeats 2000000 in
/-- The two programs' body tables are the same. -/
theorem bodies_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext ℓ
  obtain ⟨k, hk⟩ := ℓ
  obtain rfl : k = 0 := by have : k < 1 := hk; omega
  funext a
  obtain ⟨t, s⟩ := a
  dsimp only
  rw [body_same]
  rfl

/-- The compiled program's frame: the run at the bit interpretation. -/
theorem frame_kernel : @Cert.quiescent_Kernel Cert.Kernel.Gen.facts := fun m ρ _ => by
  unfold Cert.Kernel.defs
  rw [bodies_same]
  exact Cert.KernelIdeal.Hand.frame_any (F := Bits) m ρ

/-- The idealized program's frame: the same run over the extended reals. -/
theorem frame_kernelIdeal : @Cert.quiescent_KernelIdeal Cert.KernelIdeal.Gen.facts := fun m ρ _ =>
  Cert.KernelIdeal.Hand.frame_any (F := Ideal) m ρ

theorem claim : Cert.Claim := ⟨Cert.Kernel.Gen.facts, Cert.KernelIdeal.Gen.facts, Cert.Ffn.Gen.facts, Cert.FfnIdeal.Gen.facts, Cert.FfnRefIdeal.Gen.facts,
  Cert.Mix.Gen.facts, Cert.MixIdeal.Gen.facts, Cert.MixRefIdeal.Gen.facts, Cert.Ffn0.Gen.facts, Cert.Ffn0Ideal.Gen.facts, Cert.Pre_finite_mixing.Gen.facts,
  frame_kernel, frame_kernelIdeal, frame_ffn, frame_ffnIdeal, frame_ffnRef, frame_mix, frame_mixIdeal, frame_mixIdeal_pre, frame_mixRef, frame_mixRef_pre, frame_ffn0, frame_ffn0Ideal,
  trivial, trivial, algebraic_ffn, trivial, algebraic_mix, trivial, algebraic_ffn0⟩

end Cert.Proof
